-- ==== Defs.lean ====
def Pre_Kernel [hPre_pools_and_segments_fit : Cert.Pre_pools_and_segments_fit.Facts] (m : (ℓ : Loc Cert.Kernel.nD Cert.Kernel.τ Cert.Kernel.sig) → Buf (Elt Bits) ℓ) : Prop :=
  ∀ c : Dev Cert.Kernel.nD,
    (Cert.Pre_pools_and_segments_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_pools_and_segments_fit : Cert.Pre_pools_and_segments_fit.Facts] (m : (ℓ : Loc Cert.KernelIdeal.nD Cert.KernelIdeal.τ Cert.KernelIdeal.sig) → Buf (Elt Ideal) ℓ) : Prop :=
  ∀ c : Dev Cert.KernelIdeal.nD,
    (Cert.Pre_pools_and_segments_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pools_and_segments_fit [hPre_pools_and_segments_fit : Cert.Pre_pools_and_segments_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pools_and_segments_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_pools_and_segments_fit : Cert.Pre_pools_and_segments_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_pools_and_segments_fit : Cert.Pre_pools_and_segments_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pools_and_segments_fit [hReferenceIdeal : Cert.ReferenceIdeal.Facts] [hPre_pools_and_segments_fit : Cert.Pre_pools_and_segments_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pools_and_segments_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pools_and_segments_fit : Cert.Pre_pools_and_segments_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pools_and_segments_fit : Cert.Pre_pools_and_segments_fit.Facts),
    quiescent_Kernel (hKernel := hKernel) (hPre_pools_and_segments_fit := hPre_pools_and_segments_fit)
    ∧ quiescent_KernelIdeal (hKernelIdeal := hKernelIdeal) (hPre_pools_and_segments_fit := hPre_pools_and_segments_fit)
    ∧ quiescent_ReferenceIdeal (hReferenceIdeal := hReferenceIdeal)
    ∧ quiescent_ReferenceIdeal_pre_pools_and_segments_fit (hReferenceIdeal := hReferenceIdeal) (hPre_pools_and_segments_fit := hPre_pools_and_segments_fit)
    ∧ preserves_Kernel_KernelIdeal
    ∧ algebraic_KernelIdeal_ReferenceIdeal (hKernelIdeal := hKernelIdeal) (hReferenceIdeal := hReferenceIdeal) (hPre_pools_and_segments_fit := hPre_pools_and_segments_fit)
-- ==== Pre_pools_and_segments_fit.lean ====
abbrev S2x128x2560 : Shape := ⟨3, ![2, 128, 2560]⟩
abbrev S320x10240 : Shape := ⟨2, ![320, 10240]⟩
abbrev S20x10240 : Shape := ⟨2, ![20, 10240]⟩
abbrev S400x2560 : Shape := ⟨2, ![400, 2560]⟩
abbrev S400x10240 : Shape := ⟨2, ![400, 10240]⟩
abbrev S9 : Shape := ⟨1, ![9]⟩
abbrev S6 : Shape := ⟨1, ![6]⟩
abbrev S5 : Shape := ⟨1, ![5]⟩
abbrev S_ : Shape := ⟨0, ![]⟩
abbrev S9x1 : Shape := ⟨2, ![9, 1]⟩
abbrev S1x5 : Shape := ⟨2, ![1, 5]⟩
abbrev S9x5 : Shape := ⟨2, ![9, 5]⟩

class Facts : Prop where
  bcast_S_S9 : S_.BroadcastsInDim S9 (![] : Fin 0 → Fin S9.rank)
  bcast_S_S5 : S_.BroadcastsInDim S5 (![] : Fin 0 → Fin S5.rank)
  slices_S6_S5_0 : S6.Slices ![0] S5
  slices_S6_S5_1 : S6.Slices ![1] S5
  bcast_S9_S9x1_0 : S9.BroadcastsInDim S9x1 (![0] : Fin 1 → Fin S9x1.rank)
  bcast_S5_S1x5_1 : S5.BroadcastsInDim S1x5 (![1] : Fin 1 → Fin S1x5.rank)
  bcast_S9x1_S9x5_0_1 : S9x1.BroadcastsInDim S9x5 (![0, 1] : Fin 2 → Fin S9x5.rank)
  bcast_S1x5_S9x5_0_1 : S1x5.BroadcastsInDim S9x5 (![0, 1] : Fin 2 → Fin S9x5.rank)

variable [Facts]

def fn_part1 {F : FTy → Type} [FloatOps F] (main_v17 : IVec S9x1 1) (main_v18 : IVec S1x5 1) : IVec S9x5 1 :=
  let main_v19 : IVec S9x5 1 := broadcastInDim S9x5 ![0, 1] bcast_S9x1_S9x5_0_1 main_v17
  let main_v20 : IVec S9x5 1 := broadcastInDim S9x5 ![0, 1] bcast_S1x5_S9x5_0_1 main_v18
  let main_v21 : IVec S9x5 1 := andi main_v19 main_v20
  main_v21

def fn {F : FTy → Type} [FloatOps F] (main_arg0 : FVec F S2x128x2560 .bf16) (main_arg1 : IVec S320x10240 32) (main_arg2 : FVec F S20x10240 .bf16) (main_arg3 : FVec F S400x2560 .bf16) (main_arg4 : FVec F S400x10240 .bf16) (main_arg5 : IVec S9 32) (main_arg6 : IVec S9 32) (main_arg7 : FVec F S9 .f32) (main_arg8 : IVec S6 32) (main_arg9 : IVec S5 32) : IVec S9x5 1 :=
  let main_c : IVec S_ 32 := constantI S_ 32 0#32
  let main_v0 : IVec S9 32 := broadcastInDim S9 ![] bcast_S_S9 main_c
  let main_v1 : IVec S9 1 := cmpi .sge main_arg5 main_v0
  let main_c_0 : IVec S_ 32 := constantI S_ 32 368#32
  let main_v2 : IVec S9 32 := broadcastInDim S9 ![] bcast_S_S9 main_c_0
  let main_v3 : IVec S9 1 := cmpi .sle main_arg5 main_v2
  let main_v4 : IVec S9 1 := andi main_v1 main_v3
  let main_c_1 : IVec S_ 32 := constantI S_ 32 32#32
  let main_v5 : IVec S9 32 := broadcastInDim S9 ![] bcast_S_S9 main_c_1
  let main_v6 : IVec S9 1 := cmpi .sle main_arg6 main_v5
  let main_v7 : IVec S9 1 := andi main_v4 main_v6
  let main_c_2 : IVec S_ 32 := constantI S_ 32 0#32
  let main_v8 : IVec S5 32 := broadcastInDim S5 ![] bcast_S_S5 main_c_2
  let main_v9 : IVec S5 1 := cmpi .sge main_arg9 main_v8
  let main_c_3 : IVec S_ 32 := constantI S_ 32 9#32
  let main_v10 : IVec S5 32 := broadcastInDim S5 ![] bcast_S_S5 main_c_3
  let main_v11 : IVec S5 1 := cmpi .slt main_arg9 main_v10
  let main_v12 : IVec S5 1 := andi main_v9 main_v11
  let main_v13 : IVec S5 32 := (extractStridedSlice S5 ![0] · slices_S6_S5_0) main_arg8
  let main_v14 : IVec S5 32 := (extractStridedSlice S5 ![1] · slices_S6_S5_1) main_arg8
  let main_v15 : IVec S5 1 := cmpi .sle main_v13 main_v14
  let main_v16 : IVec S5 1 := andi main_v12 main_v15
  let main_v17 : IVec S9x1 1 := broadcastInDim S9x1 ![0] bcast_S9_S9x1_0 main_v7
  let main_v18 : IVec S1x5 1 := broadcastInDim S1x5 ![1] bcast_S5_S1x5_1 main_v16
  fn_part1 (F := F) main_v17 main_v18
-- ==== Kernel.lean ====
abbrev S2x128x2560 : Shape := ⟨3, ![2, 128, 2560]⟩
abbrev S320x10240 : Shape := ⟨2, ![320, 10240]⟩
abbrev S20x10240 : Shape := ⟨2, ![20, 10240]⟩
abbrev S400x2560 : Shape := ⟨2, ![400, 2560]⟩
abbrev S400x10240 : Shape := ⟨2, ![400, 10240]⟩
abbrev S9 : Shape := ⟨1, ![9]⟩
abbrev S6 : Shape := ⟨1, ![6]⟩
abbrev S5 : Shape := ⟨1, ![5]⟩
abbrev S256x2560 : Shape := ⟨2, ![256, 2560]⟩
abbrev S256x10240 : Shape := ⟨2, ![256, 10240]⟩
abbrev S256x32 : Shape := ⟨2, ![256, 32]⟩
abbrev S256x80 : Shape := ⟨2, ![256, 80]⟩
abbrev S320x1024 : Shape := ⟨2, ![320, 1024]⟩
abbrev S20x1024 : Shape := ⟨2, ![20, 1024]⟩
abbrev S256x1024 : Shape := ⟨2, ![256, 1024]⟩
abbrev S256x2816 : Shape := ⟨2, ![256, 2816]⟩
abbrev S2816x1024 : Shape := ⟨2, ![2816, 1024]⟩
abbrev S1 : Shape := ⟨1, ![1]⟩
abbrev S_ : Shape := ⟨0, ![]⟩
abbrev S48x1024 : Shape := ⟨2, ![48, 1024]⟩
abbrev S48x2560 : Shape := ⟨2, ![48, 2560]⟩
abbrev S16x2560 : Shape := ⟨2, ![16, 2560]⟩
abbrev S16x1024 : Shape := ⟨2, ![16, 1024]⟩
abbrev S256x256 : Shape := ⟨2, ![256, 256]⟩
abbrev S256x128 : Shape := ⟨2, ![256, 128]⟩
abbrev S320x1x1024 : Shape := ⟨3, ![320, 1, 1024]⟩
abbrev S320x8x1024 : Shape := ⟨3, ![320, 8, 1024]⟩
abbrev S2560x1024 : Shape := ⟨2, ![2560, 1024]⟩
abbrev S128x1024 : Shape := ⟨2, ![128, 1024]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩

abbrev nBuf : Space → Nat
  | .hbm => 15
  | .vmem => 14
  | .smem => 5
  | _ => 0

abbrev bufTy : (tb : Table) → Fin (tcTables nBuf tb) → BufTy
  | .hbm, ⟨0, _⟩ => ⟨S2x128x2560, .bf16⟩
  | .hbm, ⟨1, _⟩ => ⟨S320x10240, .i32⟩
  | .hbm, ⟨2, _⟩ => ⟨S20x10240, .bf16⟩
  | .hbm, ⟨3, _⟩ => ⟨S400x2560, .bf16⟩
  | .hbm, ⟨4, _⟩ => ⟨S400x10240, .bf16⟩
  | .hbm, ⟨5, _⟩ => ⟨S9, .i32⟩
  | .hbm, ⟨6, _⟩ => ⟨S9, .i32⟩
  | .hbm, ⟨7, _⟩ => ⟨S9, .f32⟩
  | .hbm, ⟨8, _⟩ => ⟨S6, .i32⟩
  | .hbm, ⟨9, _⟩ => ⟨S5, .i32⟩
  | .hbm, ⟨10, _⟩ => ⟨S256x2560, .bf16⟩
  | .hbm, ⟨11, _⟩ => ⟨S256x10240, .bf16⟩
  | .hbm, ⟨12, _⟩ => ⟨S256x32, .bf16⟩
  | .hbm, ⟨13, _⟩ => ⟨S256x10240, .fp8e4m3⟩
  | .hbm, ⟨14, _⟩ => ⟨S256x80, .f32⟩
  | .local _ .vmem, ⟨0, _⟩ => ⟨S256x2560, .bf16⟩
  | .local _ .vmem, ⟨1, _⟩ => ⟨S320x1024, .i32⟩
  | .local _ .vmem, ⟨2, _⟩ => ⟨S320x1024, .i32⟩
  | .local _ .vmem, ⟨3, _⟩ => ⟨S20x1024, .bf16⟩
  | .local _ .vmem, ⟨4, _⟩ => ⟨S20x1024, .bf16⟩
  | .local _ .vmem, ⟨5, _⟩ => ⟨S256x1024, .bf16⟩
  | .local _ .vmem, ⟨6, _⟩ => ⟨S256x1024, .bf16⟩
  | .local _ .vmem, ⟨7, _⟩ => ⟨S256x32, .bf16⟩
  | .local _ .vmem, ⟨8, _⟩ => ⟨S256x1024, .fp8e4m3⟩
  | .local _ .vmem, ⟨9, _⟩ => ⟨S256x1024, .fp8e4m3⟩
  | .local _ .vmem, ⟨10, _⟩ => ⟨S256x80, .f32⟩
  | .local _ .vmem, ⟨11, _⟩ => ⟨S256x2816, .bf16⟩
  | .local _ .vmem, ⟨12, _⟩ => ⟨S2816x1024, .bf16⟩
  | .local _ .vmem, ⟨13, _⟩ => ⟨S256x2560, .bf16⟩
  | .local _ .smem, ⟨0, _⟩ => ⟨S9, .i32⟩
  | .local _ .smem, ⟨1, _⟩ => ⟨S9, .i32⟩
  | .local _ .smem, ⟨2, _⟩ => ⟨S9, .f32⟩
  | .local _ .smem, ⟨3, _⟩ => ⟨S6, .i32⟩
  | .local _ .smem, ⟨4, _⟩ => ⟨S5, .i32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg5_0 : Ref sig .tc := ⟨.vmem, 0, rfl⟩
abbrev cc0_stg6_0 : Ref sig .tc := ⟨.vmem, 1, rfl⟩
abbrev cc0_stg6_1 : Ref sig .tc := ⟨.vmem, 2, rfl⟩
abbrev cc0_stg7_0 : Ref sig .tc := ⟨.vmem, 3, rfl⟩
abbrev cc0_stg7_1 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![10], ![false]⟩

def k0_off1 (v0 : BitVec 32) : Fin 1 → Nat :=
  let v1 : Index := Scalar.indexCast v0
  ![v1.toNat]

def k0_chk1 (v0 : BitVec 32) : Prop :=
  (∀ a, (k0_off1 v0) a + S1.size a ≤ S9.size a)
theorem k0_off1_inb : ∀ (v0 : BitVec 32) (k0_hw1 : k0_chk1 v0), ∀ a, (k0_off1 v0) a + S1.size a ≤ S9.size a := fun v0 k0_hw1 => k0_hw1

def k0_mult1 (v2 : BitVec 32) : BitVec 32 :=
  let c_m16_i32 : BitVec 32 := 4294967280#32
  let v3 : BitVec 32 := Scalar.andi v2 c_m16_i32
  let c352_i32 : BitVec 32 := 352#32
  let v4 : BitVec 32 := Scalar.minsi v3 c352_i32
  v4

def k0_mult2 (i : grid0.Coords) : BitVec 32 :=
  let arg0 : BitVec 32 := BitVec.ofNat 32 (i 0).val
  let c1024_i32 : BitVec 32 := 1024#32
  let v6 : BitVec 32 := Scalar.muli arg0 c1024_i32
  v6
def k0_off2 (i : grid0.Coords) (v2 : BitVec 32) : Fin 2 → Nat :=
  let c_m16_i32 : BitVec 32 := 4294967280#32
  let v3 : BitVec 32 := Scalar.andi v2 c_m16_i32
  let c352_i32 : BitVec 32 := 352#32
  let v4 : BitVec 32 := Scalar.minsi v3 c352_i32
  let v5 : BitVec 32 := v4
  let arg0 : BitVec 32 := BitVec.ofNat 32 (i 0).val
  let c1024_i32 : BitVec 32 := 1024#32
  let v6 : BitVec 32 := Scalar.muli arg0 c1024_i32
  let v7 : BitVec 32 := v6
  ![v5.toNat, v7.toNat]

def k0_chk2 (i : grid0.Coords) (v2 : BitVec 32) : Prop :=
  (16 ∣ (k0_mult1 v2).toNat) ∧
  (∀ a, (k0_off2 i v2) a + S48x1024.size a ≤ S400x10240.size a) ∧
  (∀ (hinb : ∀ a, (k0_off2 i v2) a + S48x1024.size a ≤ S400x10240.size a), (Rect.unit (s := S400x10240) (k0_off2 i v2) S48x1024.size hinb).WholeWords (EltTy.packing .bf16))
theorem k0_mult1_dvd : ∀ (i : grid0.Coords) (v2 : BitVec 32) (k0_hw2 : k0_chk2 i v2), 16 ∣ (k0_mult1 v2).toNat := fun i v2 k0_hw2 => k0_hw2.1
theorem k0_off2_inb : ∀ (i : grid0.Coords) (v2 : BitVec 32) (k0_hw2 : k0_chk2 i v2), ∀ a, (k0_off2 i v2) a + S48x1024.size a ≤ S400x10240.size a := fun i v2 k0_hw2 => k0_hw2.2.1
theorem k0_off2_wordsbf16 : ∀ (i : grid0.Coords) (v2 : BitVec 32) (k0_hw2 : k0_chk2 i v2), (Rect.unit (s := S400x10240) (k0_off2 i v2) S48x1024.size (k0_off2_inb i v2 k0_hw2)).WholeWords (EltTy.packing .bf16) := fun i v2 k0_hw2 => k0_hw2.2.2 (k0_off2_inb i v2 k0_hw2)

def k0_off3 (v12 : BitVec 32) : Fin 1 → Nat :=
  let v13 : Index := Scalar.indexCast v12
  ![v13.toNat]

def k0_chk3 (v12 : BitVec 32) : Prop :=
  (∀ a, (k0_off3 v12) a + S1.size a ≤ S9.size a)
theorem k0_off3_inb : ∀ (v12 : BitVec 32) (k0_hw3 : k0_chk3 v12), ∀ a, (k0_off3 v12) a + S1.size a ≤ S9.size a := fun v12 k0_hw3 => k0_hw3

def k0_mult3 (v14 : BitVec 32) : BitVec 32 :=
  let c_m16_i32_1 : BitVec 32 := 4294967280#32
  let v15 : BitVec 32 := Scalar.andi v14 c_m16_i32_1
  let c352_i32_2 : BitVec 32 := 352#32
  let v16 : BitVec 32 := Scalar.minsi v15 c352_i32_2
  v16

def k0_mult4 (i : grid0.Coords) : BitVec 32 :=
  let arg0 : BitVec 32 := BitVec.ofNat 32 (i 0).val
  let c1024_i32_3 : BitVec 32 := 1024#32
  let v18 : BitVec 32 := Scalar.muli arg0 c1024_i32_3
  v18
def k0_off4 (i : grid0.Coords) (v14 : BitVec 32) : Fin 2 → Nat :=
  let c_m16_i32_1 : BitVec 32 := 4294967280#32
  let v15 : BitVec 32 := Scalar.andi v14 c_m16_i32_1
  let c352_i32_2 : BitVec 32 := 352#32
  let v16 : BitVec 32 := Scalar.minsi v15 c352_i32_2
  let v17 : BitVec 32 := v16
  let arg0 : BitVec 32 := BitVec.ofNat 32 (i 0).val
  let c1024_i32_3 : BitVec 32 := 1024#32
  let v18 : BitVec 32 := Scalar.muli arg0 c1024_i32_3
  let v19 : BitVec 32 := v18
  ![v17.toNat, v19.toNat]

def k0_chk4 (i : grid0.Coords) (v14 : BitVec 32) : Prop :=
  (16 ∣ (k0_mult3 v14).toNat) ∧
  (∀ a, (k0_off4 i v14) a + S48x1024.size a ≤ S400x10240.size a) ∧
  (∀ (hinb : ∀ a, (k0_off4 i v14) a + S48x1024.size a ≤ S400x10240.size a), (Rect.unit (s := S400x10240) (k0_off4 i v14) S48x1024.size hinb).WholeWords (EltTy.packing .bf16))
theorem k0_mult3_dvd : ∀ (i : grid0.Coords) (v14 : BitVec 32) (k0_hw4 : k0_chk4 i v14), 16 ∣ (k0_mult3 v14).toNat := fun i v14 k0_hw4 => k0_hw4.1
theorem k0_off4_inb : ∀ (i : grid0.Coords) (v14 : BitVec 32) (k0_hw4 : k0_chk4 i v14), ∀ a, (k0_off4 i v14) a + S48x1024.size a ≤ S400x10240.size a := fun i v14 k0_hw4 => k0_hw4.2.1
theorem k0_off4_wordsbf16 : ∀ (i : grid0.Coords) (v14 : BitVec 32) (k0_hw4 : k0_chk4 i v14), (Rect.unit (s := S400x10240) (k0_off4 i v14) S48x1024.size (k0_off4_inb i v14 k0_hw4)).WholeWords (EltTy.packing .bf16) := fun i v14 k0_hw4 => k0_hw4.2.2 (k0_off4_inb i v14 k0_hw4)

def k0_off5 (v24 : BitVec 32) : Fin 1 → Nat :=
  let v25 : Index := Scalar.indexCast v24
  ![v25.toNat]

def k0_chk5 (v24 : BitVec 32) : Prop :=
  (∀ a, (k0_off5 v24) a + S1.size a ≤ S9.size a)
theorem k0_off5_inb : ∀ (v24 : BitVec 32) (k0_hw5 : k0_chk5 v24), ∀ a, (k0_off5 v24) a + S1.size a ≤ S9.size a := fun v24 k0_hw5 => k0_hw5

def k0_mult5 (v26 : BitVec 32) : BitVec 32 :=
  let c_m16_i32_5 : BitVec 32 := 4294967280#32
  let v27 : BitVec 32 := Scalar.andi v26 c_m16_i32_5
  let c352_i32_6 : BitVec 32 := 352#32
  let v28 : BitVec 32 := Scalar.minsi v27 c352_i32_6
  v28

def k0_mult6 (i : grid0.Coords) : BitVec 32 :=
  let arg0 : BitVec 32 := BitVec.ofNat 32 (i 0).val
  let c1024_i32_7 : BitVec 32 := 1024#32
  let v30 : BitVec 32 := Scalar.muli arg0 c1024_i32_7
  v30
def k0_off6 (i : grid0.Coords) (v26 : BitVec 32) : Fin 2 → Nat :=
  let c_m16_i32_5 : BitVec 32 := 4294967280#32
  let v27 : BitVec 32 := Scalar.andi v26 c_m16_i32_5
  let c352_i32_6 : BitVec 32 := 352#32
  let v28 : BitVec 32 := Scalar.minsi v27 c352_i32_6
  let v29 : BitVec 32 := v28
  let arg0 : BitVec 32 := BitVec.ofNat 32 (i 0).val
  let c1024_i32_7 : BitVec 32 := 1024#32
  let v30 : BitVec 32 := Scalar.muli arg0 c1024_i32_7
  let v31 : BitVec 32 := v30
  ![v29.toNat, v31.toNat]

def k0_chk6 (i : grid0.Coords) (v26 : BitVec 32) : Prop :=
  (16 ∣ (k0_mult5 v26).toNat) ∧
  (∀ a, (k0_off6 i v26) a + S48x1024.size a ≤ S400x10240.size a) ∧
  (∀ (hinb : ∀ a, (k0_off6 i v26) a + S48x1024.size a ≤ S400x10240.size a), (Rect.unit (s := S400x10240) (k0_off6 i v26) S48x1024.size hinb).WholeWords (EltTy.packing .bf16))
theorem k0_mult5_dvd : ∀ (i : grid0.Coords) (v26 : BitVec 32) (k0_hw6 : k0_chk6 i v26), 16 ∣ (k0_mult5 v26).toNat := fun i v26 k0_hw6 => k0_hw6.1
theorem k0_off6_inb : ∀ (i : grid0.Coords) (v26 : BitVec 32) (k0_hw6 : k0_chk6 i v26), ∀ a, (k0_off6 i v26) a + S48x1024.size a ≤ S400x10240.size a := fun i v26 k0_hw6 => k0_hw6.2.1
theorem k0_off6_wordsbf16 : ∀ (i : grid0.Coords) (v26 : BitVec 32) (k0_hw6 : k0_chk6 i v26), (Rect.unit (s := S400x10240) (k0_off6 i v26) S48x1024.size (k0_off6_inb i v26 k0_hw6)).WholeWords (EltTy.packing .bf16) := fun i v26 k0_hw6 => k0_hw6.2.2 (k0_off6_inb i v26 k0_hw6)

def k0_off7 (v36 : BitVec 32) : Fin 1 → Nat :=
  let v37 : Index := Scalar.indexCast v36
  ![v37.toNat]

def k0_chk7 (v36 : BitVec 32) : Prop :=
  (∀ a, (k0_off7 v36) a + S1.size a ≤ S9.size a)
theorem k0_off7_inb : ∀ (v36 : BitVec 32) (k0_hw7 : k0_chk7 v36), ∀ a, (k0_off7 v36) a + S1.size a ≤ S9.size a := fun v36 k0_hw7 => k0_hw7

def k0_mult7 (v38 : BitVec 32) : BitVec 32 :=
  let c_m16_i32_9 : BitVec 32 := 4294967280#32
  let v39 : BitVec 32 := Scalar.andi v38 c_m16_i32_9
  let c352_i32_10 : BitVec 32 := 352#32
  let v40 : BitVec 32 := Scalar.minsi v39 c352_i32_10
  v40

def k0_mult8 (i : grid0.Coords) : BitVec 32 :=
  let arg0 : BitVec 32 := BitVec.ofNat 32 (i 0).val
  let c1024_i32_11 : BitVec 32 := 1024#32
  let v42 : BitVec 32 := Scalar.muli arg0 c1024_i32_11
  v42
def k0_off8 (i : grid0.Coords) (v38 : BitVec 32) : Fin 2 → Nat :=
  let c_m16_i32_9 : BitVec 32 := 4294967280#32
  let v39 : BitVec 32 := Scalar.andi v38 c_m16_i32_9
  let c352_i32_10 : BitVec 32 := 352#32
  let v40 : BitVec 32 := Scalar.minsi v39 c352_i32_10
  let v41 : BitVec 32 := v40
  let arg0 : BitVec 32 := BitVec.ofNat 32 (i 0).val
  let c1024_i32_11 : BitVec 32 := 1024#32
  let v42 : BitVec 32 := Scalar.muli arg0 c1024_i32_11
  let v43 : BitVec 32 := v42
  ![v41.toNat, v43.toNat]

def k0_chk8 (i : grid0.Coords) (v38 : BitVec 32) : Prop :=
  (16 ∣ (k0_mult7 v38).toNat) ∧
  (∀ a, (k0_off8 i v38) a + S48x1024.size a ≤ S400x10240.size a) ∧
  (∀ (hinb : ∀ a, (k0_off8 i v38) a + S48x1024.size a ≤ S400x10240.size a), (Rect.unit (s := S400x10240) (k0_off8 i v38) S48x1024.size hinb).WholeWords (EltTy.packing .bf16))
theorem k0_mult7_dvd : ∀ (i : grid0.Coords) (v38 : BitVec 32) (k0_hw8 : k0_chk8 i v38), 16 ∣ (k0_mult7 v38).toNat := fun i v38 k0_hw8 => k0_hw8.1
theorem k0_off8_inb : ∀ (i : grid0.Coords) (v38 : BitVec 32) (k0_hw8 : k0_chk8 i v38), ∀ a, (k0_off8 i v38) a + S48x1024.size a ≤ S400x10240.size a := fun i v38 k0_hw8 => k0_hw8.2.1
theorem k0_off8_wordsbf16 : ∀ (i : grid0.Coords) (v38 : BitVec 32) (k0_hw8 : k0_chk8 i v38), (Rect.unit (s := S400x10240) (k0_off8 i v38) S48x1024.size (k0_off8_inb i v38 k0_hw8)).WholeWords (EltTy.packing .bf16) := fun i v38 k0_hw8 => k0_hw8.2.2 (k0_off8_inb i v38 k0_hw8)

def k0_off9 (v48 : BitVec 32) : Fin 1 → Nat :=
  let v49 : Index := Scalar.indexCast v48
  ![v49.toNat]

def k0_chk9 (v48 : BitVec 32) : Prop :=
  (∀ a, (k0_off9 v48) a + S1.size a ≤ S9.size a)
theorem k0_off9_inb : ∀ (v48 : BitVec 32) (k0_hw9 : k0_chk9 v48), ∀ a, (k0_off9 v48) a + S1.size a ≤ S9.size a := fun v48 k0_hw9 => k0_hw9

def k0_mult9 (v50 : BitVec 32) : BitVec 32 :=
  let c_m16_i32_13 : BitVec 32 := 4294967280#32
  let v51 : BitVec 32 := Scalar.andi v50 c_m16_i32_13
  let c352_i32_14 : BitVec 32 := 352#32
  let v52 : BitVec 32 := Scalar.minsi v51 c352_i32_14
  v52

def k0_mult10 (i : grid0.Coords) : BitVec 32 :=
  let arg0 : BitVec 32 := BitVec.ofNat 32 (i 0).val
  let c1024_i32_15 : BitVec 32 := 1024#32
  let v54 : BitVec 32 := Scalar.muli arg0 c1024_i32_15
  v54
def k0_off10 (i : grid0.Coords) (v50 : BitVec 32) : Fin 2 → Nat :=
  let c_m16_i32_13 : BitVec 32 := 4294967280#32
  let v51 : BitVec 32 := Scalar.andi v50 c_m16_i32_13
  let c352_i32_14 : BitVec 32 := 352#32
  let v52 : BitVec 32 := Scalar.minsi v51 c352_i32_14
  let v53 : BitVec 32 := v52
  let arg0 : BitVec 32 := BitVec.ofNat 32 (i 0).val
  let c1024_i32_15 : BitVec 32 := 1024#32
  let v54 : BitVec 32 := Scalar.muli arg0 c1024_i32_15
  let v55 : BitVec 32 := v54
  ![v53.toNat, v55.toNat]

def k0_chk10 (i : grid0.Coords) (v50 : BitVec 32) : Prop :=
  (16 ∣ (k0_mult9 v50).toNat) ∧
  (∀ a, (k0_off10 i v50) a + S48x1024.size a ≤ S400x10240.size a) ∧
  (∀ (hinb : ∀ a, (k0_off10 i v50) a + S48x1024.size a ≤ S400x10240.size a), (Rect.unit (s := S400x10240) (k0_off10 i v50) S48x1024.size hinb).WholeWords (EltTy.packing .bf16))
theorem k0_mult9_dvd : ∀ (i : grid0.Coords) (v50 : BitVec 32) (k0_hw10 : k0_chk10 i v50), 16 ∣ (k0_mult9 v50).toNat := fun i v50 k0_hw10 => k0_hw10.1
theorem k0_off10_inb : ∀ (i : grid0.Coords) (v50 : BitVec 32) (k0_hw10 : k0_chk10 i v50), ∀ a, (k0_off10 i v50) a + S48x1024.size a ≤ S400x10240.size a := fun i v50 k0_hw10 => k0_hw10.2.1
theorem k0_off10_wordsbf16 : ∀ (i : grid0.Coords) (v50 : BitVec 32) (k0_hw10 : k0_chk10 i v50), (Rect.unit (s := S400x10240) (k0_off10 i v50) S48x1024.size (k0_off10_inb i v50 k0_hw10)).WholeWords (EltTy.packing .bf16) := fun i v50 k0_hw10 => k0_hw10.2.2 (k0_off10_inb i v50 k0_hw10)

def k0_cond1 (i : grid0.Coords) : BitVec 1 :=
  let arg0 : BitVec 32 := BitVec.ofNat 32 (i 0).val
  let c0_i32_17 : BitVec 32 := 0#32
  let v60 : BitVec 1 := Scalar.cmpi .eq arg0 c0_i32_17
  let v61 : BitVec 32 := Scalar.extui v60
  let c0_i32_18 : BitVec 32 := 0#32
  let v62 : BitVec 1 := Scalar.cmpi .ne v61 c0_i32_18
  v62

def k0_off11 (v706 : BitVec 32) : Fin 1 → Nat :=
  let v707 : Index := Scalar.indexCast v706
  ![v707.toNat]

def k0_chk11 (i : grid0.Coords) (v706 : BitVec 32) : Prop :=
  (∀ (k0_h1 : k0_cond1 i = 1#1), ∀ a, (k0_off11 v706) a + S1.size a ≤ S9.size a)
theorem k0_off11_inb : ∀ (i : grid0.Coords) (v706 : BitVec 32) (k0_hw11 : k0_chk11 i v706), ∀ (k0_h1 : k0_cond1 i = 1#1), ∀ a, (k0_off11 v706) a + S1.size a ≤ S9.size a := fun i v706 k0_hw11 k0_h1 => k0_hw11 k0_h1

def k0_mult11 (v708 : BitVec 32) : BitVec 32 :=
  let c_m16_i32_243 : BitVec 32 := 4294967280#32
  let v709 : BitVec 32 := Scalar.andi v708 c_m16_i32_243
  let c352_i32_244 : BitVec 32 := 352#32
  let v710 : BitVec 32 := Scalar.minsi v709 c352_i32_244
  v710

def k0_off12 (v708 : BitVec 32) : Fin 2 → Nat :=
  let c_m16_i32_243 : BitVec 32 := 4294967280#32
  let v709 : BitVec 32 := Scalar.andi v708 c_m16_i32_243
  let c352_i32_244 : BitVec 32 := 352#32
  let v710 : BitVec 32 := Scalar.minsi v709 c352_i32_244
  let v711 : BitVec 32 := v710
  let c0_i32_248 : BitVec 32 := 0#32
  ![v711.toNat, 0]

def k0_chk12 (i : grid0.Coords) (v708 : BitVec 32) : Prop :=
  (∀ (k0_h1 : k0_cond1 i = 1#1), 16 ∣ (k0_mult11 v708).toNat) ∧
  (∀ (k0_h1 : k0_cond1 i = 1#1), ∀ a, (k0_off12 v708) a + S48x2560.size a ≤ S400x2560.size a) ∧
  (∀ (k0_h1 : k0_cond1 i = 1#1), ∀ (hinb : ∀ a, (k0_off12 v708) a + S48x2560.size a ≤ S400x2560.size a), (Rect.unit (s := S400x2560) (k0_off12 v708) S48x2560.size hinb).WholeWords (EltTy.packing .bf16))
theorem k0_mult11_dvd : ∀ (i : grid0.Coords) (v708 : BitVec 32) (k0_hw12 : k0_chk12 i v708), ∀ (k0_h1 : k0_cond1 i = 1#1), 16 ∣ (k0_mult11 v708).toNat := fun i v708 k0_hw12 k0_h1 => k0_hw12.1 k0_h1
theorem k0_off12_inb : ∀ (i : grid0.Coords) (v708 : BitVec 32) (k0_hw12 : k0_chk12 i v708), ∀ (k0_h1 : k0_cond1 i = 1#1), ∀ a, (k0_off12 v708) a + S48x2560.size a ≤ S400x2560.size a := fun i v708 k0_hw12 k0_h1 => k0_hw12.2.1 k0_h1
theorem k0_off12_wordsbf16 : ∀ (i : grid0.Coords) (v708 : BitVec 32) (k0_hw12 : k0_chk12 i v708), ∀ (k0_h1 : k0_cond1 i = 1#1), (Rect.unit (s := S400x2560) (k0_off12 v708) S48x2560.size (k0_off12_inb i v708 k0_hw12 k0_h1)).WholeWords (EltTy.packing .bf16) := fun i v708 k0_hw12 k0_h1 => k0_hw12.2.2 k0_h1 (k0_off12_inb i v708 k0_hw12 k0_h1)

def k0_off13 (v716 : BitVec 32) : Fin 1 → Nat :=
  let v717 : Index := Scalar.indexCast v716
  ![v717.toNat]

def k0_chk13 (i : grid0.Coords) (v716 : BitVec 32) : Prop :=
  (∀ (k0_h1 : k0_cond1 i = 1#1), ∀ a, (k0_off13 v716) a + S1.size a ≤ S9.size a)
theorem k0_off13_inb : ∀ (i : grid0.Coords) (v716 : BitVec 32) (k0_hw13 : k0_chk13 i v716), ∀ (k0_h1 : k0_cond1 i = 1#1), ∀ a, (k0_off13 v716) a + S1.size a ≤ S9.size a := fun i v716 k0_hw13 k0_h1 => k0_hw13 k0_h1

def k0_mult12 (v718 : BitVec 32) : BitVec 32 :=
  let c_m16_i32_250 : BitVec 32 := 4294967280#32
  let v719 : BitVec 32 := Scalar.andi v718 c_m16_i32_250
  let c352_i32_251 : BitVec 32 := 352#32
  let v720 : BitVec 32 := Scalar.minsi v719 c352_i32_251
  v720

def k0_off14 (v718 : BitVec 32) : Fin 2 → Nat :=
  let c_m16_i32_250 : BitVec 32 := 4294967280#32
  let v719 : BitVec 32 := Scalar.andi v718 c_m16_i32_250
  let c352_i32_251 : BitVec 32 := 352#32
  let v720 : BitVec 32 := Scalar.minsi v719 c352_i32_251
  let v721 : BitVec 32 := v720
  let c0_i32_254 : BitVec 32 := 0#32
  ![v721.toNat, 0]

def k0_chk14 (i : grid0.Coords) (v718 : BitVec 32) : Prop :=
  (∀ (k0_h1 : k0_cond1 i = 1#1), 16 ∣ (k0_mult12 v718).toNat) ∧
  (∀ (k0_h1 : k0_cond1 i = 1#1), ∀ a, (k0_off14 v718) a + S48x2560.size a ≤ S400x2560.size a) ∧
  (∀ (k0_h1 : k0_cond1 i = 1#1), ∀ (hinb : ∀ a, (k0_off14 v718) a + S48x2560.size a ≤ S400x2560.size a), (Rect.unit (s := S400x2560) (k0_off14 v718) S48x2560.size hinb).WholeWords (EltTy.packing .bf16))
theorem k0_mult12_dvd : ∀ (i : grid0.Coords) (v718 : BitVec 32) (k0_hw14 : k0_chk14 i v718), ∀ (k0_h1 : k0_cond1 i = 1#1), 16 ∣ (k0_mult12 v718).toNat := fun i v718 k0_hw14 k0_h1 => k0_hw14.1 k0_h1
theorem k0_off14_inb : ∀ (i : grid0.Coords) (v718 : BitVec 32) (k0_hw14 : k0_chk14 i v718), ∀ (k0_h1 : k0_cond1 i = 1#1), ∀ a, (k0_off14 v718) a + S48x2560.size a ≤ S400x2560.size a := fun i v718 k0_hw14 k0_h1 => k0_hw14.2.1 k0_h1
theorem k0_off14_wordsbf16 : ∀ (i : grid0.Coords) (v718 : BitVec 32) (k0_hw14 : k0_chk14 i v718), ∀ (k0_h1 : k0_cond1 i = 1#1), (Rect.unit (s := S400x2560) (k0_off14 v718) S48x2560.size (k0_off14_inb i v718 k0_hw14 k0_h1)).WholeWords (EltTy.packing .bf16) := fun i v718 k0_hw14 k0_h1 => k0_hw14.2.2 k0_h1 (k0_off14_inb i v718 k0_hw14 k0_h1)

def k0_off15 (v726 : BitVec 32) : Fin 1 → Nat :=
  let v727 : Index := Scalar.indexCast v726
  ![v727.toNat]

def k0_chk15 (i : grid0.Coords) (v726 : BitVec 32) : Prop :=
  (∀ (k0_h1 : k0_cond1 i = 1#1), ∀ a, (k0_off15 v726) a + S1.size a ≤ S9.size a)
theorem k0_off15_inb : ∀ (i : grid0.Coords) (v726 : BitVec 32) (k0_hw15 : k0_chk15 i v726), ∀ (k0_h1 : k0_cond1 i = 1#1), ∀ a, (k0_off15 v726) a + S1.size a ≤ S9.size a := fun i v726 k0_hw15 k0_h1 => k0_hw15 k0_h1

def k0_mult13 (v728 : BitVec 32) : BitVec 32 :=
  let c_m16_i32_256 : BitVec 32 := 4294967280#32
  let v729 : BitVec 32 := Scalar.andi v728 c_m16_i32_256
  let c352_i32_257 : BitVec 32 := 352#32
  let v730 : BitVec 32 := Scalar.minsi v729 c352_i32_257
  v730

def k0_off16 (v728 : BitVec 32) : Fin 2 → Nat :=
  let c_m16_i32_256 : BitVec 32 := 4294967280#32
  let v729 : BitVec 32 := Scalar.andi v728 c_m16_i32_256
  let c352_i32_257 : BitVec 32 := 352#32
  let v730 : BitVec 32 := Scalar.minsi v729 c352_i32_257
  let v731 : BitVec 32 := v730
  let c0_i32_260 : BitVec 32 := 0#32
  ![v731.toNat, 0]

def k0_chk16 (i : grid0.Coords) (v728 : BitVec 32) : Prop :=
  (∀ (k0_h1 : k0_cond1 i = 1#1), 16 ∣ (k0_mult13 v728).toNat) ∧
  (∀ (k0_h1 : k0_cond1 i = 1#1), ∀ a, (k0_off16 v728) a + S48x2560.size a ≤ S400x2560.size a) ∧
  (∀ (k0_h1 : k0_cond1 i = 1#1), ∀ (hinb : ∀ a, (k0_off16 v728) a + S48x2560.size a ≤ S400x2560.size a), (Rect.unit (s := S400x2560) (k0_off16 v728) S48x2560.size hinb).WholeWords (EltTy.packing .bf16))
theorem k0_mult13_dvd : ∀ (i : grid0.Coords) (v728 : BitVec 32) (k0_hw16 : k0_chk16 i v728), ∀ (k0_h1 : k0_cond1 i = 1#1), 16 ∣ (k0_mult13 v728).toNat := fun i v728 k0_hw16 k0_h1 => k0_hw16.1 k0_h1
theorem k0_off16_inb : ∀ (i : grid0.Coords) (v728 : BitVec 32) (k0_hw16 : k0_chk16 i v728), ∀ (k0_h1 : k0_cond1 i = 1#1), ∀ a, (k0_off16 v728) a + S48x2560.size a ≤ S400x2560.size a := fun i v728 k0_hw16 k0_h1 => k0_hw16.2.1 k0_h1
theorem k0_off16_wordsbf16 : ∀ (i : grid0.Coords) (v728 : BitVec 32) (k0_hw16 : k0_chk16 i v728), ∀ (k0_h1 : k0_cond1 i = 1#1), (Rect.unit (s := S400x2560) (k0_off16 v728) S48x2560.size (k0_off16_inb i v728 k0_hw16 k0_h1)).WholeWords (EltTy.packing .bf16) := fun i v728 k0_hw16 k0_h1 => k0_hw16.2.2 k0_h1 (k0_off16_inb i v728 k0_hw16 k0_h1)

def k0_off17 (v736 : BitVec 32) : Fin 1 → Nat :=
  let v737 : Index := Scalar.indexCast v736
  ![v737.toNat]

def k0_chk17 (i : grid0.Coords) (v736 : BitVec 32) : Prop :=
  (∀ (k0_h1 : k0_cond1 i = 1#1), ∀ a, (k0_off17 v736) a + S1.size a ≤ S9.size a)
theorem k0_off17_inb : ∀ (i : grid0.Coords) (v736 : BitVec 32) (k0_hw17 : k0_chk17 i v736), ∀ (k0_h1 : k0_cond1 i = 1#1), ∀ a, (k0_off17 v736) a + S1.size a ≤ S9.size a := fun i v736 k0_hw17 k0_h1 => k0_hw17 k0_h1

def k0_mult14 (v738 : BitVec 32) : BitVec 32 :=
  let c_m16_i32_262 : BitVec 32 := 4294967280#32
  let v739 : BitVec 32 := Scalar.andi v738 c_m16_i32_262
  let c352_i32_263 : BitVec 32 := 352#32
  let v740 : BitVec 32 := Scalar.minsi v739 c352_i32_263
  v740

def k0_off18 (v738 : BitVec 32) : Fin 2 → Nat :=
  let c_m16_i32_262 : BitVec 32 := 4294967280#32
  let v739 : BitVec 32 := Scalar.andi v738 c_m16_i32_262
  let c352_i32_263 : BitVec 32 := 352#32
  let v740 : BitVec 32 := Scalar.minsi v739 c352_i32_263
  let v741 : BitVec 32 := v740
  let c0_i32_266 : BitVec 32 := 0#32
  ![v741.toNat, 0]

def k0_chk18 (i : grid0.Coords) (v738 : BitVec 32) : Prop :=
  (∀ (k0_h1 : k0_cond1 i = 1#1), 16 ∣ (k0_mult14 v738).toNat) ∧
  (∀ (k0_h1 : k0_cond1 i = 1#1), ∀ a, (k0_off18 v738) a + S48x2560.size a ≤ S400x2560.size a) ∧
  (∀ (k0_h1 : k0_cond1 i = 1#1), ∀ (hinb : ∀ a, (k0_off18 v738) a + S48x2560.size a ≤ S400x2560.size a), (Rect.unit (s := S400x2560) (k0_off18 v738) S48x2560.size hinb).WholeWords (EltTy.packing .bf16))
theorem k0_mult14_dvd : ∀ (i : grid0.Coords) (v738 : BitVec 32) (k0_hw18 : k0_chk18 i v738), ∀ (k0_h1 : k0_cond1 i = 1#1), 16 ∣ (k0_mult14 v738).toNat := fun i v738 k0_hw18 k0_h1 => k0_hw18.1 k0_h1
theorem k0_off18_inb : ∀ (i : grid0.Coords) (v738 : BitVec 32) (k0_hw18 : k0_chk18 i v738), ∀ (k0_h1 : k0_cond1 i = 1#1), ∀ a, (k0_off18 v738) a + S48x2560.size a ≤ S400x2560.size a := fun i v738 k0_hw18 k0_h1 => k0_hw18.2.1 k0_h1
theorem k0_off18_wordsbf16 : ∀ (i : grid0.Coords) (v738 : BitVec 32) (k0_hw18 : k0_chk18 i v738), ∀ (k0_h1 : k0_cond1 i = 1#1), (Rect.unit (s := S400x2560) (k0_off18 v738) S48x2560.size (k0_off18_inb i v738 k0_hw18 k0_h1)).WholeWords (EltTy.packing .bf16) := fun i v738 k0_hw18 k0_h1 => k0_hw18.2.2 k0_h1 (k0_off18_inb i v738 k0_hw18 k0_h1)

def k0_off19 (v746 : BitVec 32) : Fin 1 → Nat :=
  let v747 : Index := Scalar.indexCast v746
  ![v747.toNat]

def k0_chk19 (i : grid0.Coords) (v746 : BitVec 32) : Prop :=
  (∀ (k0_h1 : k0_cond1 i = 1#1), ∀ a, (k0_off19 v746) a + S1.size a ≤ S9.size a)
theorem k0_off19_inb : ∀ (i : grid0.Coords) (v746 : BitVec 32) (k0_hw19 : k0_chk19 i v746), ∀ (k0_h1 : k0_cond1 i = 1#1), ∀ a, (k0_off19 v746) a + S1.size a ≤ S9.size a := fun i v746 k0_hw19 k0_h1 => k0_hw19 k0_h1

def k0_mult15 (v748 : BitVec 32) : BitVec 32 :=
  let c_m16_i32_268 : BitVec 32 := 4294967280#32
  let v749 : BitVec 32 := Scalar.andi v748 c_m16_i32_268
  let c352_i32_269 : BitVec 32 := 352#32
  let v750 : BitVec 32 := Scalar.minsi v749 c352_i32_269
  v750

def k0_off20 (v748 : BitVec 32) : Fin 2 → Nat :=
  let c_m16_i32_268 : BitVec 32 := 4294967280#32
  let v749 : BitVec 32 := Scalar.andi v748 c_m16_i32_268
  let c352_i32_269 : BitVec 32 := 352#32
  let v750 : BitVec 32 := Scalar.minsi v749 c352_i32_269
  let v751 : BitVec 32 := v750
  let c0_i32_272 : BitVec 32 := 0#32
  ![v751.toNat, 0]

def k0_chk20 (i : grid0.Coords) (v748 : BitVec 32) : Prop :=
  (∀ (k0_h1 : k0_cond1 i = 1#1), 16 ∣ (k0_mult15 v748).toNat) ∧
  (∀ (k0_h1 : k0_cond1 i = 1#1), ∀ a, (k0_off20 v748) a + S48x2560.size a ≤ S400x2560.size a) ∧
  (∀ (k0_h1 : k0_cond1 i = 1#1), ∀ (hinb : ∀ a, (k0_off20 v748) a + S48x2560.size a ≤ S400x2560.size a), (Rect.unit (s := S400x2560) (k0_off20 v748) S48x2560.size hinb).WholeWords (EltTy.packing .bf16))
theorem k0_mult15_dvd : ∀ (i : grid0.Coords) (v748 : BitVec 32) (k0_hw20 : k0_chk20 i v748), ∀ (k0_h1 : k0_cond1 i = 1#1), 16 ∣ (k0_mult15 v748).toNat := fun i v748 k0_hw20 k0_h1 => k0_hw20.1 k0_h1
theorem k0_off20_inb : ∀ (i : grid0.Coords) (v748 : BitVec 32) (k0_hw20 : k0_chk20 i v748), ∀ (k0_h1 : k0_cond1 i = 1#1), ∀ a, (k0_off20 v748) a + S48x2560.size a ≤ S400x2560.size a := fun i v748 k0_hw20 k0_h1 => k0_hw20.2.1 k0_h1
theorem k0_off20_wordsbf16 : ∀ (i : grid0.Coords) (v748 : BitVec 32) (k0_hw20 : k0_chk20 i v748), ∀ (k0_h1 : k0_cond1 i = 1#1), (Rect.unit (s := S400x2560) (k0_off20 v748) S48x2560.size (k0_off20_inb i v748 k0_hw20 k0_h1)).WholeWords (EltTy.packing .bf16) := fun i v748 k0_hw20 k0_h1 => k0_hw20.2.2 k0_h1 (k0_off20_inb i v748 k0_hw20 k0_h1)

def k0_off21 (v776 : BitVec 32) : Fin 1 → Nat :=
  let v777 : Index := Scalar.indexCast v776
  ![v777.toNat]

def k0_chk21 (i : grid0.Coords) (v776 : BitVec 32) : Prop :=
  (∀ (k0_h1 : k0_cond1 i = 1#1), ∀ a, (k0_off21 v776) a + S1.size a ≤ S9.size a)
theorem k0_off21_inb : ∀ (i : grid0.Coords) (v776 : BitVec 32) (k0_hw21 : k0_chk21 i v776), ∀ (k0_h1 : k0_cond1 i = 1#1), ∀ a, (k0_off21 v776) a + S1.size a ≤ S9.size a := fun i v776 k0_hw21 k0_h1 => k0_hw21 k0_h1

def k0_off22 (v820 : BitVec 32) : Fin 1 → Nat :=
  let v821 : Index := Scalar.indexCast v820
  ![v821.toNat]

def k0_chk22 (i : grid0.Coords) (v820 : BitVec 32) : Prop :=
  (∀ (k0_h1 : k0_cond1 i = 1#1), ∀ a, (k0_off22 v820) a + S1.size a ≤ S9.size a)
theorem k0_off22_inb : ∀ (i : grid0.Coords) (v820 : BitVec 32) (k0_hw22 : k0_chk22 i v820), ∀ (k0_h1 : k0_cond1 i = 1#1), ∀ a, (k0_off22 v820) a + S1.size a ≤ S9.size a := fun i v820 k0_hw22 k0_h1 => k0_hw22 k0_h1

def k0_off23 (v864 : BitVec 32) : Fin 1 → Nat :=
  let v865 : Index := Scalar.indexCast v864
  ![v865.toNat]

def k0_chk23 (i : grid0.Coords) (v864 : BitVec 32) : Prop :=
  (∀ (k0_h1 : k0_cond1 i = 1#1), ∀ a, (k0_off23 v864) a + S1.size a ≤ S9.size a)
theorem k0_off23_inb : ∀ (i : grid0.Coords) (v864 : BitVec 32) (k0_hw23 : k0_chk23 i v864), ∀ (k0_h1 : k0_cond1 i = 1#1), ∀ a, (k0_off23 v864) a + S1.size a ≤ S9.size a := fun i v864 k0_hw23 k0_h1 => k0_hw23 k0_h1

def k0_off24 (v908 : BitVec 32) : Fin 1 → Nat :=
  let v909 : Index := Scalar.indexCast v908
  ![v909.toNat]

def k0_chk24 (i : grid0.Coords) (v908 : BitVec 32) : Prop :=
  (∀ (k0_h1 : k0_cond1 i = 1#1), ∀ a, (k0_off24 v908) a + S1.size a ≤ S9.size a)
theorem k0_off24_inb : ∀ (i : grid0.Coords) (v908 : BitVec 32) (k0_hw24 : k0_chk24 i v908), ∀ (k0_h1 : k0_cond1 i = 1#1), ∀ a, (k0_off24 v908) a + S1.size a ≤ S9.size a := fun i v908 k0_hw24 k0_h1 => k0_hw24 k0_h1

def k0_off25 (v952 : BitVec 32) : Fin 1 → Nat :=
  let v953 : Index := Scalar.indexCast v952
  ![v953.toNat]

def k0_chk25 (i : grid0.Coords) (v952 : BitVec 32) : Prop :=
  (∀ (k0_h1 : k0_cond1 i = 1#1), ∀ a, (k0_off25 v952) a + S1.size a ≤ S9.size a)
theorem k0_off25_inb : ∀ (i : grid0.Coords) (v952 : BitVec 32) (k0_hw25 : k0_chk25 i v952), ∀ (k0_h1 : k0_cond1 i = 1#1), ∀ a, (k0_off25 v952) a + S1.size a ≤ S9.size a := fun i v952 k0_hw25 k0_h1 => k0_hw25 k0_h1

def k0_off26 (v996 : BitVec 32) : Fin 1 → Nat :=
  let v997 : Index := Scalar.indexCast v996
  ![v997.toNat]

def k0_chk26 (i : grid0.Coords) (v996 : BitVec 32) : Prop :=
  (∀ (k0_h1 : k0_cond1 i = 1#1), ∀ a, (k0_off26 v996) a + S1.size a ≤ S9.size a)
theorem k0_off26_inb : ∀ (i : grid0.Coords) (v996 : BitVec 32) (k0_hw26 : k0_chk26 i v996), ∀ (k0_h1 : k0_cond1 i = 1#1), ∀ a, (k0_off26 v996) a + S1.size a ≤ S9.size a := fun i v996 k0_hw26 k0_h1 => k0_hw26 k0_h1

def k0_mult16 (v998 : BitVec 32) : BitVec 32 :=
  let c_m16_i32_328 : BitVec 32 := 4294967280#32
  let v999 : BitVec 32 := Scalar.andi v998 c_m16_i32_328
  let c352_i32_329 : BitVec 32 := 352#32
  let v1000 : BitVec 32 := Scalar.minsi v999 c352_i32_329
  v1000

def k0_off27 (v998 : BitVec 32) : Fin 2 → Nat :=
  let c_m16_i32_328 : BitVec 32 := 4294967280#32
  let v999 : BitVec 32 := Scalar.andi v998 c_m16_i32_328
  let c352_i32_329 : BitVec 32 := 352#32
  let v1000 : BitVec 32 := Scalar.minsi v999 c352_i32_329
  let v1001 : BitVec 32 := v1000
  let c0_i32_333 : BitVec 32 := 0#32
  ![v1001.toNat, 0]

def k0_chk27 (i : grid0.Coords) (v998 : BitVec 32) : Prop :=
  (∀ (k0_h1 : k0_cond1 i = 1#1), 16 ∣ (k0_mult16 v998).toNat) ∧
  (∀ (k0_h1 : k0_cond1 i = 1#1), ∀ a, (k0_off27 v998) a + S48x2560.size a ≤ S400x2560.size a) ∧
  (∀ (k0_h1 : k0_cond1 i = 1#1), ∀ (hinb : ∀ a, (k0_off27 v998) a + S48x2560.size a ≤ S400x2560.size a), (Rect.unit (s := S400x2560) (k0_off27 v998) S48x2560.size hinb).WholeWords (EltTy.packing .bf16))
theorem k0_mult16_dvd : ∀ (i : grid0.Coords) (v998 : BitVec 32) (k0_hw27 : k0_chk27 i v998), ∀ (k0_h1 : k0_cond1 i = 1#1), 16 ∣ (k0_mult16 v998).toNat := fun i v998 k0_hw27 k0_h1 => k0_hw27.1 k0_h1
theorem k0_off27_inb : ∀ (i : grid0.Coords) (v998 : BitVec 32) (k0_hw27 : k0_chk27 i v998), ∀ (k0_h1 : k0_cond1 i = 1#1), ∀ a, (k0_off27 v998) a + S48x2560.size a ≤ S400x2560.size a := fun i v998 k0_hw27 k0_h1 => k0_hw27.2.1 k0_h1
theorem k0_off27_wordsbf16 : ∀ (i : grid0.Coords) (v998 : BitVec 32) (k0_hw27 : k0_chk27 i v998), ∀ (k0_h1 : k0_cond1 i = 1#1), (Rect.unit (s := S400x2560) (k0_off27 v998) S48x2560.size (k0_off27_inb i v998 k0_hw27 k0_h1)).WholeWords (EltTy.packing .bf16) := fun i v998 k0_hw27 k0_h1 => k0_hw27.2.2 k0_h1 (k0_off27_inb i v998 k0_hw27 k0_h1)

def k0_off28 (v1006 : BitVec 32) : Fin 1 → Nat :=
  let v1007 : Index := Scalar.indexCast v1006
  ![v1007.toNat]

def k0_chk28 (i : grid0.Coords) (v1006 : BitVec 32) : Prop :=
  (∀ (k0_h1 : k0_cond1 i = 1#1), ∀ a, (k0_off28 v1006) a + S1.size a ≤ S9.size a)
theorem k0_off28_inb : ∀ (i : grid0.Coords) (v1006 : BitVec 32) (k0_hw28 : k0_chk28 i v1006), ∀ (k0_h1 : k0_cond1 i = 1#1), ∀ a, (k0_off28 v1006) a + S1.size a ≤ S9.size a := fun i v1006 k0_hw28 k0_h1 => k0_hw28 k0_h1

def k0_mult17 (v1008 : BitVec 32) : BitVec 32 :=
  let c_m16_i32_335 : BitVec 32 := 4294967280#32
  let v1009 : BitVec 32 := Scalar.andi v1008 c_m16_i32_335
  let c352_i32_336 : BitVec 32 := 352#32
  let v1010 : BitVec 32 := Scalar.minsi v1009 c352_i32_336
  v1010

def k0_off29 (v1008 : BitVec 32) : Fin 2 → Nat :=
  let c_m16_i32_335 : BitVec 32 := 4294967280#32
  let v1009 : BitVec 32 := Scalar.andi v1008 c_m16_i32_335
  let c352_i32_336 : BitVec 32 := 352#32
  let v1010 : BitVec 32 := Scalar.minsi v1009 c352_i32_336
  let v1011 : BitVec 32 := v1010
  let c0_i32_340 : BitVec 32 := 0#32
  ![v1011.toNat, 0]

def k0_chk29 (i : grid0.Coords) (v1008 : BitVec 32) : Prop :=
  (∀ (k0_h1 : k0_cond1 i = 1#1), 16 ∣ (k0_mult17 v1008).toNat) ∧
  (∀ (k0_h1 : k0_cond1 i = 1#1), ∀ a, (k0_off29 v1008) a + S48x2560.size a ≤ S400x2560.size a) ∧
  (∀ (k0_h1 : k0_cond1 i = 1#1), ∀ (hinb : ∀ a, (k0_off29 v1008) a + S48x2560.size a ≤ S400x2560.size a), (Rect.unit (s := S400x2560) (k0_off29 v1008) S48x2560.size hinb).WholeWords (EltTy.packing .bf16))
theorem k0_mult17_dvd : ∀ (i : grid0.Coords) (v1008 : BitVec 32) (k0_hw29 : k0_chk29 i v1008), ∀ (k0_h1 : k0_cond1 i = 1#1), 16 ∣ (k0_mult17 v1008).toNat := fun i v1008 k0_hw29 k0_h1 => k0_hw29.1 k0_h1
theorem k0_off29_inb : ∀ (i : grid0.Coords) (v1008 : BitVec 32) (k0_hw29 : k0_chk29 i v1008), ∀ (k0_h1 : k0_cond1 i = 1#1), ∀ a, (k0_off29 v1008) a + S48x2560.size a ≤ S400x2560.size a := fun i v1008 k0_hw29 k0_h1 => k0_hw29.2.1 k0_h1
theorem k0_off29_wordsbf16 : ∀ (i : grid0.Coords) (v1008 : BitVec 32) (k0_hw29 : k0_chk29 i v1008), ∀ (k0_h1 : k0_cond1 i = 1#1), (Rect.unit (s := S400x2560) (k0_off29 v1008) S48x2560.size (k0_off29_inb i v1008 k0_hw29 k0_h1)).WholeWords (EltTy.packing .bf16) := fun i v1008 k0_hw29 k0_h1 => k0_hw29.2.2 k0_h1 (k0_off29_inb i v1008 k0_hw29 k0_h1)

def k0_off30 (v1016 : BitVec 32) : Fin 1 → Nat :=
  let v1017 : Index := Scalar.indexCast v1016
  ![v1017.toNat]

def k0_chk30 (i : grid0.Coords) (v1016 : BitVec 32) : Prop :=
  (∀ (k0_h1 : k0_cond1 i = 1#1), ∀ a, (k0_off30 v1016) a + S1.size a ≤ S9.size a)
theorem k0_off30_inb : ∀ (i : grid0.Coords) (v1016 : BitVec 32) (k0_hw30 : k0_chk30 i v1016), ∀ (k0_h1 : k0_cond1 i = 1#1), ∀ a, (k0_off30 v1016) a + S1.size a ≤ S9.size a := fun i v1016 k0_hw30 k0_h1 => k0_hw30 k0_h1

def k0_mult18 (v1018 : BitVec 32) : BitVec 32 :=
  let c_m16_i32_342 : BitVec 32 := 4294967280#32
  let v1019 : BitVec 32 := Scalar.andi v1018 c_m16_i32_342
  let c352_i32_343 : BitVec 32 := 352#32
  let v1020 : BitVec 32 := Scalar.minsi v1019 c352_i32_343
  v1020

def k0_off31 (v1018 : BitVec 32) : Fin 2 → Nat :=
  let c_m16_i32_342 : BitVec 32 := 4294967280#32
  let v1019 : BitVec 32 := Scalar.andi v1018 c_m16_i32_342
  let c352_i32_343 : BitVec 32 := 352#32
  let v1020 : BitVec 32 := Scalar.minsi v1019 c352_i32_343
  let v1021 : BitVec 32 := v1020
  let c0_i32_347 : BitVec 32 := 0#32
  ![v1021.toNat, 0]

def k0_chk31 (i : grid0.Coords) (v1018 : BitVec 32) : Prop :=
  (∀ (k0_h1 : k0_cond1 i = 1#1), 16 ∣ (k0_mult18 v1018).toNat) ∧
  (∀ (k0_h1 : k0_cond1 i = 1#1), ∀ a, (k0_off31 v1018) a + S48x2560.size a ≤ S400x2560.size a) ∧
  (∀ (k0_h1 : k0_cond1 i = 1#1), ∀ (hinb : ∀ a, (k0_off31 v1018) a + S48x2560.size a ≤ S400x2560.size a), (Rect.unit (s := S400x2560) (k0_off31 v1018) S48x2560.size hinb).WholeWords (EltTy.packing .bf16))
theorem k0_mult18_dvd : ∀ (i : grid0.Coords) (v1018 : BitVec 32) (k0_hw31 : k0_chk31 i v1018), ∀ (k0_h1 : k0_cond1 i = 1#1), 16 ∣ (k0_mult18 v1018).toNat := fun i v1018 k0_hw31 k0_h1 => k0_hw31.1 k0_h1
theorem k0_off31_inb : ∀ (i : grid0.Coords) (v1018 : BitVec 32) (k0_hw31 : k0_chk31 i v1018), ∀ (k0_h1 : k0_cond1 i = 1#1), ∀ a, (k0_off31 v1018) a + S48x2560.size a ≤ S400x2560.size a := fun i v1018 k0_hw31 k0_h1 => k0_hw31.2.1 k0_h1
theorem k0_off31_wordsbf16 : ∀ (i : grid0.Coords) (v1018 : BitVec 32) (k0_hw31 : k0_chk31 i v1018), ∀ (k0_h1 : k0_cond1 i = 1#1), (Rect.unit (s := S400x2560) (k0_off31 v1018) S48x2560.size (k0_off31_inb i v1018 k0_hw31 k0_h1)).WholeWords (EltTy.packing .bf16) := fun i v1018 k0_hw31 k0_h1 => k0_hw31.2.2 k0_h1 (k0_off31_inb i v1018 k0_hw31 k0_h1)

def k0_off32 (v1026 : BitVec 32) : Fin 1 → Nat :=
  let v1027 : Index := Scalar.indexCast v1026
  ![v1027.toNat]

def k0_chk32 (i : grid0.Coords) (v1026 : BitVec 32) : Prop :=
  (∀ (k0_h1 : k0_cond1 i = 1#1), ∀ a, (k0_off32 v1026) a + S1.size a ≤ S9.size a)
theorem k0_off32_inb : ∀ (i : grid0.Coords) (v1026 : BitVec 32) (k0_hw32 : k0_chk32 i v1026), ∀ (k0_h1 : k0_cond1 i = 1#1), ∀ a, (k0_off32 v1026) a + S1.size a ≤ S9.size a := fun i v1026 k0_hw32 k0_h1 => k0_hw32 k0_h1

def k0_mult19 (v1028 : BitVec 32) : BitVec 32 :=
  let c_m16_i32_349 : BitVec 32 := 4294967280#32
  let v1029 : BitVec 32 := Scalar.andi v1028 c_m16_i32_349
  let c352_i32_350 : BitVec 32 := 352#32
  let v1030 : BitVec 32 := Scalar.minsi v1029 c352_i32_350
  v1030

def k0_off33 (v1028 : BitVec 32) : Fin 2 → Nat :=
  let c_m16_i32_349 : BitVec 32 := 4294967280#32
  let v1029 : BitVec 32 := Scalar.andi v1028 c_m16_i32_349
  let c352_i32_350 : BitVec 32 := 352#32
  let v1030 : BitVec 32 := Scalar.minsi v1029 c352_i32_350
  let v1031 : BitVec 32 := v1030
  let c0_i32_354 : BitVec 32 := 0#32
  ![v1031.toNat, 0]

def k0_chk33 (i : grid0.Coords) (v1028 : BitVec 32) : Prop :=
  (∀ (k0_h1 : k0_cond1 i = 1#1), 16 ∣ (k0_mult19 v1028).toNat) ∧
  (∀ (k0_h1 : k0_cond1 i = 1#1), ∀ a, (k0_off33 v1028) a + S48x2560.size a ≤ S400x2560.size a) ∧
  (∀ (k0_h1 : k0_cond1 i = 1#1), ∀ (hinb : ∀ a, (k0_off33 v1028) a + S48x2560.size a ≤ S400x2560.size a), (Rect.unit (s := S400x2560) (k0_off33 v1028) S48x2560.size hinb).WholeWords (EltTy.packing .bf16))
theorem k0_mult19_dvd : ∀ (i : grid0.Coords) (v1028 : BitVec 32) (k0_hw33 : k0_chk33 i v1028), ∀ (k0_h1 : k0_cond1 i = 1#1), 16 ∣ (k0_mult19 v1028).toNat := fun i v1028 k0_hw33 k0_h1 => k0_hw33.1 k0_h1
theorem k0_off33_inb : ∀ (i : grid0.Coords) (v1028 : BitVec 32) (k0_hw33 : k0_chk33 i v1028), ∀ (k0_h1 : k0_cond1 i = 1#1), ∀ a, (k0_off33 v1028) a + S48x2560.size a ≤ S400x2560.size a := fun i v1028 k0_hw33 k0_h1 => k0_hw33.2.1 k0_h1
theorem k0_off33_wordsbf16 : ∀ (i : grid0.Coords) (v1028 : BitVec 32) (k0_hw33 : k0_chk33 i v1028), ∀ (k0_h1 : k0_cond1 i = 1#1), (Rect.unit (s := S400x2560) (k0_off33 v1028) S48x2560.size (k0_off33_inb i v1028 k0_hw33 k0_h1)).WholeWords (EltTy.packing .bf16) := fun i v1028 k0_hw33 k0_h1 => k0_hw33.2.2 k0_h1 (k0_off33_inb i v1028 k0_hw33 k0_h1)

def k0_off34 (v1036 : BitVec 32) : Fin 1 → Nat :=
  let v1037 : Index := Scalar.indexCast v1036
  ![v1037.toNat]

def k0_chk34 (i : grid0.Coords) (v1036 : BitVec 32) : Prop :=
  (∀ (k0_h1 : k0_cond1 i = 1#1), ∀ a, (k0_off34 v1036) a + S1.size a ≤ S9.size a)
theorem k0_off34_inb : ∀ (i : grid0.Coords) (v1036 : BitVec 32) (k0_hw34 : k0_chk34 i v1036), ∀ (k0_h1 : k0_cond1 i = 1#1), ∀ a, (k0_off34 v1036) a + S1.size a ≤ S9.size a := fun i v1036 k0_hw34 k0_h1 => k0_hw34 k0_h1

def k0_mult20 (v1038 : BitVec 32) : BitVec 32 :=
  let c_m16_i32_356 : BitVec 32 := 4294967280#32
  let v1039 : BitVec 32 := Scalar.andi v1038 c_m16_i32_356
  let c352_i32_357 : BitVec 32 := 352#32
  let v1040 : BitVec 32 := Scalar.minsi v1039 c352_i32_357
  v1040

def k0_off35 (v1038 : BitVec 32) : Fin 2 → Nat :=
  let c_m16_i32_356 : BitVec 32 := 4294967280#32
  let v1039 : BitVec 32 := Scalar.andi v1038 c_m16_i32_356
  let c352_i32_357 : BitVec 32 := 352#32
  let v1040 : BitVec 32 := Scalar.minsi v1039 c352_i32_357
  let v1041 : BitVec 32 := v1040
  let c0_i32_361 : BitVec 32 := 0#32
  ![v1041.toNat, 0]

def k0_chk35 (i : grid0.Coords) (v1038 : BitVec 32) : Prop :=
  (∀ (k0_h1 : k0_cond1 i = 1#1), 16 ∣ (k0_mult20 v1038).toNat) ∧
  (∀ (k0_h1 : k0_cond1 i = 1#1), ∀ a, (k0_off35 v1038) a + S48x2560.size a ≤ S400x2560.size a) ∧
  (∀ (k0_h1 : k0_cond1 i = 1#1), ∀ (hinb : ∀ a, (k0_off35 v1038) a + S48x2560.size a ≤ S400x2560.size a), (Rect.unit (s := S400x2560) (k0_off35 v1038) S48x2560.size hinb).WholeWords (EltTy.packing .bf16))
theorem k0_mult20_dvd : ∀ (i : grid0.Coords) (v1038 : BitVec 32) (k0_hw35 : k0_chk35 i v1038), ∀ (k0_h1 : k0_cond1 i = 1#1), 16 ∣ (k0_mult20 v1038).toNat := fun i v1038 k0_hw35 k0_h1 => k0_hw35.1 k0_h1
theorem k0_off35_inb : ∀ (i : grid0.Coords) (v1038 : BitVec 32) (k0_hw35 : k0_chk35 i v1038), ∀ (k0_h1 : k0_cond1 i = 1#1), ∀ a, (k0_off35 v1038) a + S48x2560.size a ≤ S400x2560.size a := fun i v1038 k0_hw35 k0_h1 => k0_hw35.2.1 k0_h1
theorem k0_off35_wordsbf16 : ∀ (i : grid0.Coords) (v1038 : BitVec 32) (k0_hw35 : k0_chk35 i v1038), ∀ (k0_h1 : k0_cond1 i = 1#1), (Rect.unit (s := S400x2560) (k0_off35 v1038) S48x2560.size (k0_off35_inb i v1038 k0_hw35 k0_h1)).WholeWords (EltTy.packing .bf16) := fun i v1038 k0_hw35 k0_h1 => k0_hw35.2.2 k0_h1 (k0_off35_inb i v1038 k0_hw35 k0_h1)

def k0_off36 (v237 : BitVec 32) : Fin 1 → Nat :=
  let v238 : Index := Scalar.indexCast v237
  ![v238.toNat]

def k0_chk36 (v237 : BitVec 32) : Prop :=
  (∀ a, (k0_off36 v237) a + S1.size a ≤ S9.size a)
theorem k0_off36_inb : ∀ (v237 : BitVec 32) (k0_hw36 : k0_chk36 v237), ∀ a, (k0_off36 v237) a + S1.size a ≤ S9.size a := fun v237 k0_hw36 => k0_hw36

def k0_mult21 (v239 : BitVec 32) : BitVec 32 :=
  let c_m16_i32_70 : BitVec 32 := 4294967280#32
  let v240 : BitVec 32 := Scalar.andi v239 c_m16_i32_70
  let c352_i32_71 : BitVec 32 := 352#32
  let v241 : BitVec 32 := Scalar.minsi v240 c352_i32_71
  v241

def k0_mult22 (i : grid0.Coords) : BitVec 32 :=
  let arg0 : BitVec 32 := BitVec.ofNat 32 (i 0).val
  let c1024_i32_72 : BitVec 32 := 1024#32
  let v243 : BitVec 32 := Scalar.muli arg0 c1024_i32_72
  v243
def k0_off37 (i : grid0.Coords) (v239 : BitVec 32) : Fin 2 → Nat :=
  let c_m16_i32_70 : BitVec 32 := 4294967280#32
  let v240 : BitVec 32 := Scalar.andi v239 c_m16_i32_70
  let c352_i32_71 : BitVec 32 := 352#32
  let v241 : BitVec 32 := Scalar.minsi v240 c352_i32_71
  let v242 : BitVec 32 := v241
  let arg0 : BitVec 32 := BitVec.ofNat 32 (i 0).val
  let c1024_i32_72 : BitVec 32 := 1024#32
  let v243 : BitVec 32 := Scalar.muli arg0 c1024_i32_72
  let v244 : BitVec 32 := v243
  ![v242.toNat, v244.toNat]

def k0_chk37 (i : grid0.Coords) (v239 : BitVec 32) : Prop :=
  (16 ∣ (k0_mult21 v239).toNat) ∧
  (∀ a, (k0_off37 i v239) a + S48x1024.size a ≤ S400x10240.size a) ∧
  (∀ (hinb : ∀ a, (k0_off37 i v239) a + S48x1024.size a ≤ S400x10240.size a), (Rect.unit (s := S400x10240) (k0_off37 i v239) S48x1024.size hinb).WholeWords (EltTy.packing .bf16))
theorem k0_mult21_dvd : ∀ (i : grid0.Coords) (v239 : BitVec 32) (k0_hw37 : k0_chk37 i v239), 16 ∣ (k0_mult21 v239).toNat := fun i v239 k0_hw37 => k0_hw37.1
theorem k0_off37_inb : ∀ (i : grid0.Coords) (v239 : BitVec 32) (k0_hw37 : k0_chk37 i v239), ∀ a, (k0_off37 i v239) a + S48x1024.size a ≤ S400x10240.size a := fun i v239 k0_hw37 => k0_hw37.2.1
theorem k0_off37_wordsbf16 : ∀ (i : grid0.Coords) (v239 : BitVec 32) (k0_hw37 : k0_chk37 i v239), (Rect.unit (s := S400x10240) (k0_off37 i v239) S48x1024.size (k0_off37_inb i v239 k0_hw37)).WholeWords (EltTy.packing .bf16) := fun i v239 k0_hw37 => k0_hw37.2.2 (k0_off37_inb i v239 k0_hw37)

def k0_off38 (v249 : BitVec 32) : Fin 1 → Nat :=
  let v250 : Index := Scalar.indexCast v249
  ![v250.toNat]

def k0_chk38 (v249 : BitVec 32) : Prop :=
  (∀ a, (k0_off38 v249) a + S1.size a ≤ S9.size a)
theorem k0_off38_inb : ∀ (v249 : BitVec 32) (k0_hw38 : k0_chk38 v249), ∀ a, (k0_off38 v249) a + S1.size a ≤ S9.size a := fun v249 k0_hw38 => k0_hw38

def k0_mult23 (v251 : BitVec 32) : BitVec 32 :=
  let c_m16_i32_77 : BitVec 32 := 4294967280#32
  let v252 : BitVec 32 := Scalar.andi v251 c_m16_i32_77
  let c352_i32_78 : BitVec 32 := 352#32
  let v253 : BitVec 32 := Scalar.minsi v252 c352_i32_78
  v253

def k0_mult24 (i : grid0.Coords) : BitVec 32 :=
  let arg0 : BitVec 32 := BitVec.ofNat 32 (i 0).val
  let c1024_i32_79 : BitVec 32 := 1024#32
  let v255 : BitVec 32 := Scalar.muli arg0 c1024_i32_79
  v255
def k0_off39 (i : grid0.Coords) (v251 : BitVec 32) : Fin 2 → Nat :=
  let c_m16_i32_77 : BitVec 32 := 4294967280#32
  let v252 : BitVec 32 := Scalar.andi v251 c_m16_i32_77
  let c352_i32_78 : BitVec 32 := 352#32
  let v253 : BitVec 32 := Scalar.minsi v252 c352_i32_78
  let v254 : BitVec 32 := v253
  let arg0 : BitVec 32 := BitVec.ofNat 32 (i 0).val
  let c1024_i32_79 : BitVec 32 := 1024#32
  let v255 : BitVec 32 := Scalar.muli arg0 c1024_i32_79
  let v256 : BitVec 32 := v255
  ![v254.toNat, v256.toNat]

def k0_chk39 (i : grid0.Coords) (v251 : BitVec 32) : Prop :=
  (16 ∣ (k0_mult23 v251).toNat) ∧
  (∀ a, (k0_off39 i v251) a + S48x1024.size a ≤ S400x10240.size a) ∧
  (∀ (hinb : ∀ a, (k0_off39 i v251) a + S48x1024.size a ≤ S400x10240.size a), (Rect.unit (s := S400x10240) (k0_off39 i v251) S48x1024.size hinb).WholeWords (EltTy.packing .bf16))
theorem k0_mult23_dvd : ∀ (i : grid0.Coords) (v251 : BitVec 32) (k0_hw39 : k0_chk39 i v251), 16 ∣ (k0_mult23 v251).toNat := fun i v251 k0_hw39 => k0_hw39.1
theorem k0_off39_inb : ∀ (i : grid0.Coords) (v251 : BitVec 32) (k0_hw39 : k0_chk39 i v251), ∀ a, (k0_off39 i v251) a + S48x1024.size a ≤ S400x10240.size a := fun i v251 k0_hw39 => k0_hw39.2.1
theorem k0_off39_wordsbf16 : ∀ (i : grid0.Coords) (v251 : BitVec 32) (k0_hw39 : k0_chk39 i v251), (Rect.unit (s := S400x10240) (k0_off39 i v251) S48x1024.size (k0_off39_inb i v251 k0_hw39)).WholeWords (EltTy.packing .bf16) := fun i v251 k0_hw39 => k0_hw39.2.2 (k0_off39_inb i v251 k0_hw39)

def k0_off40 (v261 : BitVec 32) : Fin 1 → Nat :=
  let v262 : Index := Scalar.indexCast v261
  ![v262.toNat]

def k0_chk40 (v261 : BitVec 32) : Prop :=
  (∀ a, (k0_off40 v261) a + S1.size a ≤ S9.size a)
theorem k0_off40_inb : ∀ (v261 : BitVec 32) (k0_hw40 : k0_chk40 v261), ∀ a, (k0_off40 v261) a + S1.size a ≤ S9.size a := fun v261 k0_hw40 => k0_hw40

def k0_mult25 (v263 : BitVec 32) : BitVec 32 :=
  let c_m16_i32_84 : BitVec 32 := 4294967280#32
  let v264 : BitVec 32 := Scalar.andi v263 c_m16_i32_84
  let c352_i32_85 : BitVec 32 := 352#32
  let v265 : BitVec 32 := Scalar.minsi v264 c352_i32_85
  v265

def k0_mult26 (i : grid0.Coords) : BitVec 32 :=
  let arg0 : BitVec 32 := BitVec.ofNat 32 (i 0).val
  let c1024_i32_86 : BitVec 32 := 1024#32
  let v267 : BitVec 32 := Scalar.muli arg0 c1024_i32_86
  v267
def k0_off41 (i : grid0.Coords) (v263 : BitVec 32) : Fin 2 → Nat :=
  let c_m16_i32_84 : BitVec 32 := 4294967280#32
  let v264 : BitVec 32 := Scalar.andi v263 c_m16_i32_84
  let c352_i32_85 : BitVec 32 := 352#32
  let v265 : BitVec 32 := Scalar.minsi v264 c352_i32_85
  let v266 : BitVec 32 := v265
  let arg0 : BitVec 32 := BitVec.ofNat 32 (i 0).val
  let c1024_i32_86 : BitVec 32 := 1024#32
  let v267 : BitVec 32 := Scalar.muli arg0 c1024_i32_86
  let v268 : BitVec 32 := v267
  ![v266.toNat, v268.toNat]

def k0_chk41 (i : grid0.Coords) (v263 : BitVec 32) : Prop :=
  (16 ∣ (k0_mult25 v263).toNat) ∧
  (∀ a, (k0_off41 i v263) a + S48x1024.size a ≤ S400x10240.size a) ∧
  (∀ (hinb : ∀ a, (k0_off41 i v263) a + S48x1024.size a ≤ S400x10240.size a), (Rect.unit (s := S400x10240) (k0_off41 i v263) S48x1024.size hinb).WholeWords (EltTy.packing .bf16))
theorem k0_mult25_dvd : ∀ (i : grid0.Coords) (v263 : BitVec 32) (k0_hw41 : k0_chk41 i v263), 16 ∣ (k0_mult25 v263).toNat := fun i v263 k0_hw41 => k0_hw41.1
theorem k0_off41_inb : ∀ (i : grid0.Coords) (v263 : BitVec 32) (k0_hw41 : k0_chk41 i v263), ∀ a, (k0_off41 i v263) a + S48x1024.size a ≤ S400x10240.size a := fun i v263 k0_hw41 => k0_hw41.2.1
theorem k0_off41_wordsbf16 : ∀ (i : grid0.Coords) (v263 : BitVec 32) (k0_hw41 : k0_chk41 i v263), (Rect.unit (s := S400x10240) (k0_off41 i v263) S48x1024.size (k0_off41_inb i v263 k0_hw41)).WholeWords (EltTy.packing .bf16) := fun i v263 k0_hw41 => k0_hw41.2.2 (k0_off41_inb i v263 k0_hw41)

def k0_off42 (v273 : BitVec 32) : Fin 1 → Nat :=
  let v274 : Index := Scalar.indexCast v273
  ![v274.toNat]

def k0_chk42 (v273 : BitVec 32) : Prop :=
  (∀ a, (k0_off42 v273) a + S1.size a ≤ S9.size a)
theorem k0_off42_inb : ∀ (v273 : BitVec 32) (k0_hw42 : k0_chk42 v273), ∀ a, (k0_off42 v273) a + S1.size a ≤ S9.size a := fun v273 k0_hw42 => k0_hw42

def k0_mult27 (v275 : BitVec 32) : BitVec 32 :=
  let c_m16_i32_91 : BitVec 32 := 4294967280#32
  let v276 : BitVec 32 := Scalar.andi v275 c_m16_i32_91
  let c352_i32_92 : BitVec 32 := 352#32
  let v277 : BitVec 32 := Scalar.minsi v276 c352_i32_92
  v277

def k0_mult28 (i : grid0.Coords) : BitVec 32 :=
  let arg0 : BitVec 32 := BitVec.ofNat 32 (i 0).val
  let c1024_i32_93 : BitVec 32 := 1024#32
  let v279 : BitVec 32 := Scalar.muli arg0 c1024_i32_93
  v279
def k0_off43 (i : grid0.Coords) (v275 : BitVec 32) : Fin 2 → Nat :=
  let c_m16_i32_91 : BitVec 32 := 4294967280#32
  let v276 : BitVec 32 := Scalar.andi v275 c_m16_i32_91
  let c352_i32_92 : BitVec 32 := 352#32
  let v277 : BitVec 32 := Scalar.minsi v276 c352_i32_92
  let v278 : BitVec 32 := v277
  let arg0 : BitVec 32 := BitVec.ofNat 32 (i 0).val
  let c1024_i32_93 : BitVec 32 := 1024#32
  let v279 : BitVec 32 := Scalar.muli arg0 c1024_i32_93
  let v280 : BitVec 32 := v279
  ![v278.toNat, v280.toNat]

def k0_chk43 (i : grid0.Coords) (v275 : BitVec 32) : Prop :=
  (16 ∣ (k0_mult27 v275).toNat) ∧
  (∀ a, (k0_off43 i v275) a + S48x1024.size a ≤ S400x10240.size a) ∧
  (∀ (hinb : ∀ a, (k0_off43 i v275) a + S48x1024.size a ≤ S400x10240.size a), (Rect.unit (s := S400x10240) (k0_off43 i v275) S48x1024.size hinb).WholeWords (EltTy.packing .bf16))
theorem k0_mult27_dvd : ∀ (i : grid0.Coords) (v275 : BitVec 32) (k0_hw43 : k0_chk43 i v275), 16 ∣ (k0_mult27 v275).toNat := fun i v275 k0_hw43 => k0_hw43.1
theorem k0_off43_inb : ∀ (i : grid0.Coords) (v275 : BitVec 32) (k0_hw43 : k0_chk43 i v275), ∀ a, (k0_off43 i v275) a + S48x1024.size a ≤ S400x10240.size a := fun i v275 k0_hw43 => k0_hw43.2.1
theorem k0_off43_wordsbf16 : ∀ (i : grid0.Coords) (v275 : BitVec 32) (k0_hw43 : k0_chk43 i v275), (Rect.unit (s := S400x10240) (k0_off43 i v275) S48x1024.size (k0_off43_inb i v275 k0_hw43)).WholeWords (EltTy.packing .bf16) := fun i v275 k0_hw43 => k0_hw43.2.2 (k0_off43_inb i v275 k0_hw43)

def k0_off44 (v285 : BitVec 32) : Fin 1 → Nat :=
  let v286 : Index := Scalar.indexCast v285
  ![v286.toNat]

def k0_chk44 (v285 : BitVec 32) : Prop :=
  (∀ a, (k0_off44 v285) a + S1.size a ≤ S9.size a)
theorem k0_off44_inb : ∀ (v285 : BitVec 32) (k0_hw44 : k0_chk44 v285), ∀ a, (k0_off44 v285) a + S1.size a ≤ S9.size a := fun v285 k0_hw44 => k0_hw44

def k0_mult29 (v287 : BitVec 32) : BitVec 32 :=
  let c_m16_i32_98 : BitVec 32 := 4294967280#32
  let v288 : BitVec 32 := Scalar.andi v287 c_m16_i32_98
  let c352_i32_99 : BitVec 32 := 352#32
  let v289 : BitVec 32 := Scalar.minsi v288 c352_i32_99
  v289

def k0_mult30 (i : grid0.Coords) : BitVec 32 :=
  let arg0 : BitVec 32 := BitVec.ofNat 32 (i 0).val
  let c1024_i32_100 : BitVec 32 := 1024#32
  let v291 : BitVec 32 := Scalar.muli arg0 c1024_i32_100
  v291
def k0_off45 (i : grid0.Coords) (v287 : BitVec 32) : Fin 2 → Nat :=
  let c_m16_i32_98 : BitVec 32 := 4294967280#32
  let v288 : BitVec 32 := Scalar.andi v287 c_m16_i32_98
  let c352_i32_99 : BitVec 32 := 352#32
  let v289 : BitVec 32 := Scalar.minsi v288 c352_i32_99
  let v290 : BitVec 32 := v289
  let arg0 : BitVec 32 := BitVec.ofNat 32 (i 0).val
  let c1024_i32_100 : BitVec 32 := 1024#32
  let v291 : BitVec 32 := Scalar.muli arg0 c1024_i32_100
  let v292 : BitVec 32 := v291
  ![v290.toNat, v292.toNat]

def k0_chk45 (i : grid0.Coords) (v287 : BitVec 32) : Prop :=
  (16 ∣ (k0_mult29 v287).toNat) ∧
  (∀ a, (k0_off45 i v287) a + S48x1024.size a ≤ S400x10240.size a) ∧
  (∀ (hinb : ∀ a, (k0_off45 i v287) a + S48x1024.size a ≤ S400x10240.size a), (Rect.unit (s := S400x10240) (k0_off45 i v287) S48x1024.size hinb).WholeWords (EltTy.packing .bf16))
theorem k0_mult29_dvd : ∀ (i : grid0.Coords) (v287 : BitVec 32) (k0_hw45 : k0_chk45 i v287), 16 ∣ (k0_mult29 v287).toNat := fun i v287 k0_hw45 => k0_hw45.1
theorem k0_off45_inb : ∀ (i : grid0.Coords) (v287 : BitVec 32) (k0_hw45 : k0_chk45 i v287), ∀ a, (k0_off45 i v287) a + S48x1024.size a ≤ S400x10240.size a := fun i v287 k0_hw45 => k0_hw45.2.1
theorem k0_off45_wordsbf16 : ∀ (i : grid0.Coords) (v287 : BitVec 32) (k0_hw45 : k0_chk45 i v287), (Rect.unit (s := S400x10240) (k0_off45 i v287) S48x1024.size (k0_off45_inb i v287 k0_hw45)).WholeWords (EltTy.packing .bf16) := fun i v287 k0_hw45 => k0_hw45.2.2 (k0_off45_inb i v287 k0_hw45)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S9 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S6 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S5 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S20x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x80 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x128x2560 : Shape := ⟨3, ![2, 128, 2560]⟩
abbrev S320x10240 : Shape := ⟨2, ![320, 10240]⟩
abbrev S20x10240 : Shape := ⟨2, ![20, 10240]⟩
abbrev S400x2560 : Shape := ⟨2, ![400, 2560]⟩
abbrev S400x10240 : Shape := ⟨2, ![400, 10240]⟩
abbrev S9 : Shape := ⟨1, ![9]⟩
abbrev S6 : Shape := ⟨1, ![6]⟩
abbrev S5 : Shape := ⟨1, ![5]⟩
abbrev S256x2560 : Shape := ⟨2, ![256, 2560]⟩
abbrev S8 : Shape := ⟨1, ![8]⟩
abbrev S_ : Shape := ⟨0, ![]⟩
abbrev S320x1x10240 : Shape := ⟨3, ![320, 1, 10240]⟩
abbrev S1x8x1 : Shape := ⟨3, ![1, 8, 1]⟩
abbrev S320x8x10240 : Shape := ⟨3, ![320, 8, 10240]⟩
abbrev S2560x10240 : Shape := ⟨2, ![2560, 10240]⟩
abbrev S20x128x10240 : Shape := ⟨3, ![20, 128, 10240]⟩
abbrev S256x10240 : Shape := ⟨2, ![256, 10240]⟩
abbrev S5x1 : Shape := ⟨2, ![5, 1]⟩
abbrev S32 : Shape := ⟨1, ![32]⟩
abbrev S1x32 : Shape := ⟨2, ![1, 32]⟩
abbrev S5x32 : Shape := ⟨2, ![5, 32]⟩
abbrev S5x32x1 : Shape := ⟨3, ![5, 32, 1]⟩
abbrev S5x32x2560 : Shape := ⟨3, ![5, 32, 2560]⟩
abbrev S5x32x10240 : Shape := ⟨3, ![5, 32, 10240]⟩
abbrev S256 : Shape := ⟨1, ![256]⟩
abbrev S256x1 : Shape := ⟨2, ![256, 1]⟩
abbrev S1x5 : Shape := ⟨2, ![1, 5]⟩
abbrev S256x5 : Shape := ⟨2, ![256, 5]⟩
abbrev S256x5x32 : Shape := ⟨3, ![256, 5, 32]⟩
abbrev S256x5x1 : Shape := ⟨3, ![256, 5, 1]⟩
abbrev S1x5x32 : Shape := ⟨3, ![1, 5, 32]⟩
abbrev S1x5x1 : Shape := ⟨3, ![1, 5, 1]⟩
abbrev S256x32 : Shape := ⟨2, ![256, 32]⟩
abbrev S256x5x10240 : Shape := ⟨3, ![256, 5, 10240]⟩
abbrev S256x80x128 : Shape := ⟨3, ![256, 80, 128]⟩
abbrev S256x80 : Shape := ⟨2, ![256, 80]⟩
abbrev S256x80x1 : Shape := ⟨3, ![256, 80, 1]⟩

abbrev nBuf : Space → Nat
  | .hbm => 150
  | .vmem => 0
  | .smem => 0
  | _ => 0

abbrev hbmTy0_0 (i : Nat) : BufTy := match i % 128 with
  | 0 => ⟨S2x128x2560, .bf16⟩
  | 1 => ⟨S320x10240, .i32⟩
  | 2 => ⟨S20x10240, .bf16⟩
  | 3 => ⟨S400x2560, .bf16⟩
  | 4 => ⟨S400x10240, .bf16⟩
  | 5 => ⟨S9, .i32⟩
  | 6 => ⟨S9, .i32⟩
  | 7 => ⟨S9, .f32⟩
  | 8 => ⟨S6, .i32⟩
  | 9 => ⟨S5, .i32⟩
  | 10 => ⟨S256x2560, .bf16⟩
  | 11 => ⟨S8, .i32⟩
  | 12 => ⟨S_, .i32⟩
  | 13 => ⟨S8, .i32⟩
  | 14 => ⟨S8, .i32⟩
  | 15 => ⟨S320x1x10240, .i32⟩
  | 16 => ⟨S1x8x1, .i32⟩
  | 17 => ⟨S320x8x10240, .i32⟩
  | 18 => ⟨S320x8x10240, .i32⟩
  | 19 => ⟨S320x8x10240, .i32⟩
  | 20 => ⟨S_, .i32⟩
  | 21 => ⟨S320x8x10240, .i32⟩
  | 22 => ⟨S320x8x10240, .i32⟩
  | 23 => ⟨S_, .i32⟩
  | 24 => ⟨S320x8x10240, .i32⟩
  | 25 => ⟨S320x8x10240, .i1⟩
  | 26 => ⟨S320x8x10240, .i32⟩
  | 27 => ⟨S_, .i32⟩
  | 28 => ⟨S320x8x10240, .i32⟩
  | 29 => ⟨S320x8x10240, .i32⟩
  | 30 => ⟨S320x8x10240, .i32⟩
  | 31 => ⟨S2560x10240, .i32⟩
  | 32 => ⟨S2560x10240, .bf16⟩
  | 33 => ⟨S20x128x10240, .bf16⟩
  | 34 => ⟨S2560x10240, .bf16⟩
  | 35 => ⟨S2560x10240, .bf16⟩
  | 36 => ⟨S256x10240, .f32⟩
  | 37 => ⟨S5x1, .i32⟩
  | 38 => ⟨S5, .i32⟩
  | 39 => ⟨S5x1, .i32⟩
  | 40 => ⟨S5, .i32⟩
  | 41 => ⟨S5x1, .i32⟩
  | 42 => ⟨S5, .f32⟩
  | 43 => ⟨S5x1, .i32⟩
  | 44 => ⟨S32, .i32⟩
  | 45 => ⟨S1x32, .i32⟩
  | 46 => ⟨S5x32, .i32⟩
  | 47 => ⟨S5x32, .i32⟩
  | 48 => ⟨S5x32, .i32⟩
  | 49 => ⟨S5x32x1, .i32⟩
  | 50 => ⟨S5x32x2560, .bf16⟩
  | 51 => ⟨S5x32x1, .i32⟩
  | 52 => ⟨S5x32x10240, .bf16⟩
  | 53 => ⟨S256, .i32⟩
  | 54 => ⟨S256x1, .i32⟩
  | 55 => ⟨S5, .i32⟩
  | 56 => ⟨S1x5, .i32⟩
  | 57 => ⟨S256x5, .i32⟩
  | 58 => ⟨S256x5, .i32⟩
  | 59 => ⟨S256x5, .i1⟩
  | 60 => ⟨S5, .i32⟩
  | 61 => ⟨S1x5, .i32⟩
  | 62 => ⟨S256x5, .i32⟩
  | 63 => ⟨S256x5, .i32⟩
  | 64 => ⟨S256x5, .i1⟩
  | 65 => ⟨S256x5, .i1⟩
  | 66 => ⟨S32, .i32⟩
  | 67 => ⟨S1x32, .i32⟩
  | 68 => ⟨S5x1, .i32⟩
  | 69 => ⟨S5x32, .i32⟩
  | 70 => ⟨S5x32, .i32⟩
  | 71 => ⟨S5x32, .i1⟩
  | 72 => ⟨S256x5x32, .f32⟩
  | 73 => ⟨S256x5x1, .i1⟩
  | 74 => ⟨S1x5x32, .i1⟩
  | 75 => ⟨S256x5x32, .i1⟩
  | 76 => ⟨S256x5x32, .i1⟩
  | 77 => ⟨S256x5x32, .i1⟩
  | 78 => ⟨S1x5x1, .f32⟩
  | 79 => ⟨S256x5x32, .f32⟩
  | 80 => ⟨S256x5x32, .f32⟩
  | 81 => ⟨S_, .f32⟩
  | 82 => ⟨S_, .f32⟩
  | 83 => ⟨S256x5x32, .f32⟩
  | 84 => ⟨S256x5x32, .f32⟩
  | 85 => ⟨S_, .f32⟩
  | 86 => ⟨S256x32, .f32⟩
  | 87 => ⟨S256x32, .bf16⟩
  | 88 => ⟨S256x5x10240, .f32⟩
  | 89 => ⟨S256x5x1, .i1⟩
  | 90 => ⟨S_, .f32⟩
  | 91 => ⟨S_, .f32⟩
  | 92 => ⟨S256x5x10240, .i1⟩
  | 93 => ⟨S256x5x10240, .f32⟩
  | 94 => ⟨S256x5x10240, .f32⟩
  | 95 => ⟨S_, .f32⟩
  | 96 => ⟨S256x10240, .f32⟩
  | 97 => ⟨S256x10240, .f32⟩
  | 98 => ⟨S256x80x128, .f32⟩
  | 99 => ⟨S256x80x128, .f32⟩
  | 100 => ⟨S_, .f32⟩
  | 101 => ⟨S256x80, .f32⟩
  | 102 => ⟨S_, .f32⟩
  | 103 => ⟨S256x80, .f32⟩
  | 104 => ⟨S256x80, .f32⟩
  | 105 => ⟨S256x80, .f32⟩
  | 106 => ⟨S_, .f32⟩
  | 107 => ⟨S_, .f32⟩
  | 108 => ⟨S256x80, .f32⟩
  | 109 => ⟨S256x80, .f32⟩
  | 110 => ⟨S256x80, .f32⟩
  | 111 => ⟨S_, .f32⟩
  | 112 => ⟨S256x80, .f32⟩
  | 113 => ⟨S256x80, .f32⟩
  | 114 => ⟨S_, .f32⟩
  | 115 => ⟨S256x80, .f32⟩
  | 116 => ⟨S256x80, .i1⟩
  | 117 => ⟨S_, .f32⟩
  | 118 => ⟨S_, .f32⟩
  | 119 => ⟨S_, .f32⟩
  | 120 => ⟨S256x80, .f32⟩
  | 121 => ⟨S256x80, .f32⟩
  | 122 => ⟨S_, .f32⟩
  | 123 => ⟨S256x80, .f32⟩
  | 124 => ⟨S256x80, .f32⟩
  | 125 => ⟨S_, .f32⟩
  | 126 => ⟨S_, .f32⟩
  | 127 => ⟨S256x80, .f32⟩
  | _ => ⟨S2x128x2560, .bf16⟩

abbrev hbmTy0_1 (i : Nat) : BufTy := match i % 128 with
  | 0 => ⟨S256x80, .f32⟩
  | 1 => ⟨S_, .f32⟩
  | 2 => ⟨S256x80, .f32⟩
  | 3 => ⟨S256x80, .f32⟩
  | 4 => ⟨S256x80, .f32⟩
  | 5 => ⟨S_, .f32⟩
  | 6 => ⟨S256x80, .f32⟩
  | 7 => ⟨S256x80, .f32⟩
  | 8 => ⟨S256x80x1, .f32⟩
  | 9 => ⟨S256x80x128, .f32⟩
  | 10 => ⟨S256x80x128, .f32⟩
  | 11 => ⟨S_, .f32⟩
  | 12 => ⟨S_, .f32⟩
  | 13 => ⟨S_, .f32⟩
  | 14 => ⟨S256x80x128, .f32⟩
  | 15 => ⟨S256x80x128, .f32⟩
  | 16 => ⟨S_, .f32⟩
  | 17 => ⟨S256x80x128, .f32⟩
  | 18 => ⟨S256x80x128, .f32⟩
  | 19 => ⟨S256x80x128, .fp8e4m3⟩
  | 20 => ⟨S256x10240, .fp8e4m3⟩
  | 21 => ⟨S256x10240, .bf16⟩
  | _ => ⟨S2x128x2560, .bf16⟩

abbrev hbmTy (i : Nat) : BufTy := match i / 128 with
  | 0 => hbmTy0_0 i
  | 1 => hbmTy0_1 i
  | _ => ⟨S2x128x2560, .bf16⟩

abbrev bufTy : (tb : Table) → Fin (tcTables nBuf tb) → BufTy
  | .hbm, ⟨i, _⟩ => hbmTy i
  | _, _ => ⟨S2x128x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_v23 : Ref sig .tc := ⟨.hbm, 38, rfl⟩
abbrev main_call1_v0 : Ref sig .tc := ⟨.hbm, 39, rfl⟩
abbrev main_v24 : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call3_v0 : Ref sig .tc := ⟨.hbm, 49, rfl⟩
abbrev main_v32 : Ref sig .tc := ⟨.hbm, 50, rfl⟩
abbrev main_call4_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst : Ref sig .tc := ⟨.hbm, 81, rfl⟩
abbrev main_call5_v0 : Ref sig .tc := ⟨.hbm, 82, rfl⟩
abbrev main_call5_v1 : Ref sig .tc := ⟨.hbm, 83, rfl⟩
abbrev main_v62 : Ref sig .tc := ⟨.hbm, 84, rfl⟩
abbrev main_cst_3 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_4 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_v67 : Ref sig .tc := ⟨.hbm, 94, rfl⟩
abbrev main_cst_5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_cst_7 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_8 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_9 : Ref sig .tc := ⟨.hbm, 111, rfl⟩
abbrev main_v80 : Ref sig .tc := ⟨.hbm, 112, rfl⟩
abbrev main_v81 : Ref sig .tc := ⟨.hbm, 113, rfl⟩
abbrev main_cst_10 : Ref sig .tc := ⟨.hbm, 114, rfl⟩
abbrev main_v82 : Ref sig .tc := ⟨.hbm, 115, rfl⟩
abbrev main_v83 : Ref sig .tc := ⟨.hbm, 116, rfl⟩
abbrev main_cst_11 : Ref sig .tc := ⟨.hbm, 117, rfl⟩
abbrev main_cst_12 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_v84 : Ref sig .tc := ⟨.hbm, 124, rfl⟩
abbrev main_cst_13 : Ref sig .tc := ⟨.hbm, 125, rfl⟩
abbrev main_call8_v0 : Ref sig .tc := ⟨.hbm, 126, rfl⟩
abbrev main_call8_v1 : Ref sig .tc := ⟨.hbm, 127, rfl⟩
abbrev main_v85 : Ref sig .tc := ⟨.hbm, 128, rfl⟩
abbrev main_cst_14 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_16 : Ref sig .tc := ⟨.hbm, 139, rfl⟩
abbrev main_cst_17 : Ref sig .tc := ⟨.hbm, 140, rfl⟩
abbrev main_call9_v0 : Ref sig .tc := ⟨.hbm, 141, rfl⟩
abbrev main_call9_v1 : Ref sig .tc := ⟨.hbm, 142, rfl⟩
abbrev main_call9_v2 : Ref sig .tc := ⟨.hbm, 143, rfl⟩
abbrev main_call9_v3 : Ref sig .tc := ⟨.hbm, 144, rfl⟩
abbrev main_call9_v4 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩

abbrev nD : Nat := 1
abbrev τ : Topo := Topo.v7x

variable {F : FTy → Type} [FloatOps F]
-- ==== Proof.Bits.Checks.lean ====
/- What the body assumes of the words it loads holds of every word in range: a segment's adapter below 9, an adapter's first slot at most 368. -/
module

public import proofs.«01_k».proof.Kernel
public import Idealize.ShloMosaic.Lib.WholeRead
public import Idealize.ShloMosaic.Lib.WordCmp
public import Idealize.ShloMosaic.Lib.Tactic
public import Idealize.ShloMosaic.Lib.Affine
public import proofs.«01_k».proof.Proof.Gen.Kernel.Skeleton
public import proofs.«01_k».proof.Proof.Gen.Kernel.Launch

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

/-- An adapter's first slot rounded down to a multiple of 16, at most 352: a multiple of 16 no larger. -/
theorem base_facts (w : BitVec 32) (h : w.toNat ≤ 368) :
    16 ∣ (k0_mult1 w).toNat ∧ (k0_mult1 w).toNat ≤ 352 ∧ (k0_mult1 w).toNat ≤ w.toNat ∧ w.toNat ≤ (k0_mult1 w).toNat + 16 := by
  have key : ∀ n : Fin 369, 16 ∣ (k0_mult1 (BitVec.ofNat 32 n.val)).toNat ∧ (k0_mult1 (BitVec.ofNat 32 n.val)).toNat ≤ 352
      ∧ (k0_mult1 (BitVec.ofNat 32 n.val)).toNat ≤ n.val ∧ n.val ≤ (k0_mult1 (BitVec.ofNat 32 n.val)).toNat + 16 := by decide +kernel
  have := key ⟨w.toNat, by omega⟩
  simpa only [BitVec.ofNat_toNat, BitVec.setWidth_eq] using this

/-- The column a tile starts at. -/
theorem tile_col (i : grid0.Coords) : (k0_mult2 i).toNat = 1024 * (i 0).val := by
  have h : (i 0).val < 10 := (i 0).isLt
  simp only [k0_mult2, Scalar.muli, IntOp.muli, BitVec.toNat_mul, BitVec.toNat_ofNat]
  omega

theorem seg_chk (w : BitVec 32) (h : w.toNat < 9) : k0_chk1 w := by
  intro a
  have ha : a = 0 := Fin.fin_one_eq_zero a
  subst ha
  show w.toNat + 1 ≤ 9
  omega

theorem b_chk (i : grid0.Coords) (w : BitVec 32) (h : w.toNat ≤ 368) : k0_chk2 i w := by
  obtain ⟨h1, h2, -, -⟩ := base_facts w h
  have hi : (i 0).val < 10 := (i 0).isLt
  have hc := tile_col i
  refine ⟨h1, ?_, fun hinb => .inl ?_⟩
  · intro a
    have e0 : k0_off2 i w 0 = (k0_mult1 w).toNat := rfl
    have e1 : k0_off2 i w 1 = (k0_mult2 i).toNat := rfl
    match a with
    | 0 => show k0_off2 i w 0 + 48 ≤ 400; omega
    | 1 => show k0_off2 i w 1 + 1024 ≤ 10240; omega
  · refine Affine.packed_dvd (by decide) ?_ ?_
    · show 2 ∣ (k0_mult1 w).toNat; omega
    · show 2 ∣ 48; omega

theorem a_chk (i : grid0.Coords) (w : BitVec 32) (h : w.toNat ≤ 368) : k0_chk12 i w := by
  obtain ⟨h1, h2, -, -⟩ := base_facts w h
  refine ⟨fun _ => h1, fun _ => ?_, fun _ hinb => .inl ?_⟩
  · intro a
    have e0 : k0_off12 w 0 = (k0_mult1 w).toNat := rfl
    match a with
    | 0 => show k0_off12 w 0 + 48 ≤ 400; omega
    | 1 => show 0 + 2560 ≤ 2560; omega
  · refine Affine.packed_dvd (by decide) ?_ ?_
    · show 2 ∣ (k0_mult1 w).toNat; omega
    · show 2 ∣ 48; omega

variable {x0 : Vec F S9 .i32} {x4 : Vec F S5 .i32} {arg1 : Memref sig .tc .smem S9 .i32} {arg5 : Memref sig .tc .smem S5 .i32}

theorem seg_word (harg5 : arg5.IsWhole) (hG : ∀ j, (x4 j : BitVec 32).toNat < 9) {w : BitVec 32}
    (h : ∃ (r : LoadRect S5) (j : r.shape.Idx), w = arg5.view.readAt (Elt F) r (harg5.unread x4) j) : w.toNat < 9 := by
  obtain ⟨r, j, rfl⟩ := h; rw [harg5.readAt_unread]; exact hG _

theorem start_word (harg1 : arg1.IsWhole) (hS : ∀ j, (x0 j : BitVec 32).toNat ≤ 368) {w : BitVec 32}
    (h : ∃ (r : LoadRect S9) (j : r.shape.Idx), w = arg1.view.readAt (Elt F) r (harg1.unread x0) j) : w.toNat ≤ 368 := by
  obtain ⟨r, j, rfl⟩ := h; rw [harg1.readAt_unread]; exact hS _

theorem chk1 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk1 w := seg_chk _ (seg_word harg5 hG h)
theorem chk2 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk2 i w := b_chk i _ (start_word harg1 hS h)
theorem chk3 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk3 w := seg_chk _ (seg_word harg5 hG h)
theorem chk4 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk4 i w := b_chk i _ (start_word harg1 hS h)
theorem chk5 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk5 w := seg_chk _ (seg_word harg5 hG h)
theorem chk6 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk6 i w := b_chk i _ (start_word harg1 hS h)
theorem chk7 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk7 w := seg_chk _ (seg_word harg5 hG h)
theorem chk8 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk8 i w := b_chk i _ (start_word harg1 hS h)
theorem chk9 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk9 w := seg_chk _ (seg_word harg5 hG h)
theorem chk10 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk10 i w := b_chk i _ (start_word harg1 hS h)
theorem chk11 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk11 i w := fun _ => seg_chk _ (seg_word harg5 hG h)
theorem chk12 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk12 i w := a_chk i _ (start_word harg1 hS h)
theorem chk13 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk13 i w := fun _ => seg_chk _ (seg_word harg5 hG h)
theorem chk14 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk14 i w := a_chk i _ (start_word harg1 hS h)
theorem chk15 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk15 i w := fun _ => seg_chk _ (seg_word harg5 hG h)
theorem chk16 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk16 i w := a_chk i _ (start_word harg1 hS h)
theorem chk17 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk17 i w := fun _ => seg_chk _ (seg_word harg5 hG h)
theorem chk18 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk18 i w := a_chk i _ (start_word harg1 hS h)
theorem chk19 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk19 i w := fun _ => seg_chk _ (seg_word harg5 hG h)
theorem chk20 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk20 i w := a_chk i _ (start_word harg1 hS h)
theorem chk21 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk21 i w := fun _ => seg_chk _ (seg_word harg5 hG h)
theorem chk22 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk22 i w := fun _ => seg_chk _ (seg_word harg5 hG h)
theorem chk23 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk23 i w := fun _ => seg_chk _ (seg_word harg5 hG h)
theorem chk24 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk24 i w := fun _ => seg_chk _ (seg_word harg5 hG h)
theorem chk25 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk25 i w := fun _ => seg_chk _ (seg_word harg5 hG h)
theorem chk26 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk26 i w := fun _ => seg_chk _ (seg_word harg5 hG h)
theorem chk27 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk27 i w := a_chk i _ (start_word harg1 hS h)
theorem chk28 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk28 i w := fun _ => seg_chk _ (seg_word harg5 hG h)
theorem chk29 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk29 i w := a_chk i _ (start_word harg1 hS h)
theorem chk30 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk30 i w := fun _ => seg_chk _ (seg_word harg5 hG h)
theorem chk31 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk31 i w := a_chk i _ (start_word harg1 hS h)
theorem chk32 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk32 i w := fun _ => seg_chk _ (seg_word harg5 hG h)
theorem chk33 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk33 i w := a_chk i _ (start_word harg1 hS h)
theorem chk34 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk34 i w := fun _ => seg_chk _ (seg_word harg5 hG h)
theorem chk35 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk35 i w := a_chk i _ (start_word harg1 hS h)
theorem chk36 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk36 w := seg_chk _ (seg_word harg5 hG h)
theorem chk37 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk37 i w := b_chk i _ (start_word harg1 hS h)
theorem chk38 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk38 w := seg_chk _ (seg_word harg5 hG h)
theorem chk39 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk39 i w := b_chk i _ (start_word harg1 hS h)
theorem chk40 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk40 w := seg_chk _ (seg_word harg5 hG h)
theorem chk41 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk41 i w := b_chk i _ (start_word harg1 hS h)
theorem chk42 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk42 w := seg_chk _ (seg_word harg5 hG h)
theorem chk43 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk43 i w := b_chk i _ (start_word harg1 hS h)
theorem chk44 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk44 w := seg_chk _ (seg_word harg5 hG h)
theorem chk45 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk45 i w := b_chk i _ (start_word harg1 hS h)

end Cert.Kernel.Own

end
-- ==== Proof.Bits.Base.lean ====
/- What the two runs of the kernel body are stated over: the branch condition at a point, the staging and scratch memrefs, the DMA cells and the pools left in HBM, and the invariant of the loop conjunct by conjunct. -/
module

public import proofs.«01_k».proof.Proof.Gen.Kernel.Frame
public import proofs.«01_k».proof.Proof.Bits.Checks

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region, over the algebra that carries the transfers' counters. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- One staging buffer of output window 8, through which its contents are stated (`View.read_writes_of_cover`: the
    choice does not matter). -/
abbrev VO0_8 : View sig .tc .vmem S256x1024 .bf16 := (Memref.whole cc0_stg8_0 : Memref sig .tc .vmem S256x1024 .bf16).view
/-- One staging buffer of output window 9, through which its contents are stated (`View.read_writes_of_cover`: the
    choice does not matter). -/
abbrev VO0_9 : View sig .tc .vmem S256x32 .bf16 := (Memref.whole cc0_stg9_0 : Memref sig .tc .vmem S256x32 .bf16).view
/-- One staging buffer of output window 10, through which its contents are stated (`View.read_writes_of_cover`: the
    choice does not matter). -/
abbrev VO0_10 : View sig .tc .vmem S256x1024 .fp8e4m3 := (Memref.whole cc0_stg10_0 : Memref sig .tc .vmem S256x1024 .fp8e4m3).view
/-- One staging buffer of output window 11, through which its contents are stated (`View.read_writes_of_cover`: the
    choice does not matter). -/
abbrev VO0_11 : View sig .tc .vmem S256x80 .f32 := (Memref.whole cc0_stg11_0 : Memref sig .tc .vmem S256x80 .f32).view
/-- Each window's current staging memref at point `t`, spelled as the pipeline passes it (`bodyAt0`), and its wholeness. -/
abbrev ms0_0 (t : Fin cfg0.N) : Memref sig .tc .smem S9 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S9 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S9 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S6 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S5 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S320x1024 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S20x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x32 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x80 .f32 := win0_11.stage (cfg0.slots t 11)
abbrev hs0_11 (t : Fin cfg0.N) : (ms0_11 t).IsWhole := hstage0_11 ((cfg0.slots t 11).cast nbuf0_11)

/-! ## The side conditions the body assumes, as the frame's hypothesis -/

/-- The scratch operands: whole scoped buffers of the kernel's own, passed beside the windows. -/
abbrev scM0_0 : Memref sig .tc .vmem S256x2816 .bf16 := Memref.whole cc0_scratch0
abbrev scM0_1 : Memref sig .tc .vmem S2816x1024 .bf16 := Memref.whole cc0_scratch1
abbrev scM0_2 : Memref sig .tc .vmem S256x2560 .bf16 := Memref.whole cc0_scratch2
/-- The scratch `arg15` the kernel carries between points, as a view: what it holds is stated through it. -/
abbrev VS0_0 : View sig .tc .vmem S256x2816 .bf16 := scM0_0.view
/-- The scratch `arg16` the kernel carries between points, as a view: what it holds is stated through it. -/
abbrev VS0_1 : View sig .tc .vmem S2816x1024 .bf16 := scM0_1.view
/-- The operands left in HBM that the body copies into scratch itself, whole. -/
abbrev hbM0_0 : Memref sig .tc .hbm S400x2560 .bf16 := Memref.whole main_arg3
abbrev hbM0_1 : Memref sig .tc .hbm S400x10240 .bf16 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 10 → SemLoc sig := fun j => (![SemLoc.dma 16, SemLoc.dma 17, SemLoc.dma 18, SemLoc.dma 19, SemLoc.dma 20, SemLoc.dma 21, SemLoc.dma 22, SemLoc.dma 23, SemLoc.dma 24, SemLoc.dma 25] : Fin 10 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9] (by decide) (by decide)]; rfl
/-- The HBM operands the body moves, as references: unscoped, no window's array (`Pipeline.restRefs`). -/
def H0 : Finset (Ref sig .tc) := {main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg3) ∗ hbPt0 c hbM0_1 (V m c main_arg4))) := by
  rw [Pipeline.ΦD_eq, scopedRest0_eq, ownSems00_eq, hbmPts0_eq]; simp only [scM0_0, scM0_1, scM0_2, owns_whole]; try rfl

end Cert.Kernel.Own

end
-- ==== Proof.Bits.RunA.lean ====
/- The kernel body run at the first point of the grid, on whole staging memrefs: what its stores leave in each buffer, as pieces, with the proof that it runs there. -/
module

public import proofs.«01_k».proof.Proof.Bits.Base

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

set_option maxHeartbeats 40000000 in set_option sl_exec.dmaWindow true in set_option sl_exec.dmaWindowSet true in set_option sl_exec.lendShare "Hh0 Hh1" in set_option sl_exec.rejoinFuel 200 in set_option sl_exec.rejoinHeartbeats 2000000 in
/-- What the body's stores leave in each buffer, as pieces, last first, at the first point, with the proof that the
    body runs: the inputs and the pools come back as they were, the DMA cells at zero. -/
noncomputable def runA (c : Dev nD) (i : grid0.Coords) (hc0 : cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole) (arg6 : Memref sig .tc .vmem S256x2560 .bf16) (harg6 : arg6.IsWhole) (arg7 : Memref sig .tc .vmem S320x1024 .i32) (harg7 : arg7.IsWhole) (arg8 : Memref sig .tc .vmem S20x1024 .bf16) (harg8 : arg8.IsWhole) (arg11 : Memref sig .tc .vmem S256x1024 .bf16) (harg11 : arg11.IsWhole) (arg12 : Memref sig .tc .vmem S256x32 .bf16) (harg12 : arg12.IsWhole) (arg13 : Memref sig .tc .vmem S256x1024 .fp8e4m3) (harg13 : arg13.IsWhole) (arg14 : Memref sig .tc .vmem S256x80 .f32) (harg14 : arg14.IsWhole) (arg15 : Memref sig .tc .vmem S256x2816 .bf16) (harg15 : arg15.IsWhole) (arg16 : Memref sig .tc .vmem S2816x1024 .bf16) (harg16 : arg16.IsWhole) (arg17 : Memref sig .tc .vmem S256x2560 .bf16) (harg17 : arg17.IsWhole)
    (x0 : Vec F S9 .i32) (x1 : Vec F S9 .i32) (x2 : Vec F S9 .f32) (x3 : Vec F S6 .i32) (x4 : Vec F S5 .i32) (x5 : Vec F S256x2560 .bf16) (x6 : Vec F S320x1024 .i32) (x7 : Vec F S20x1024 .bf16)
    (xo11 : Vec F S256x80 .f32) (fh0 : HbBuf0 (F := F) c hbM0_0) (fh1 : HbBuf0 (F := F) c hbM0_1)
    (hS : ∀ j, (x0 j : BitVec 32).toNat ≤ 368) (hG : ∀ j, (x4 j : BitVec 32).toNat < 9) :
    Σ' (L8 : List (View.Piece (Elt F) S256x1024 .bf16)), Σ' (L9 : List (View.Piece (Elt F) S256x32 .bf16)), Σ' (L10 : List (View.Piece (Elt F) S256x1024 .fp8e4m3)), Σ' (L11 : List (View.Piece (Elt F) S256x80 .f32)), Σ' (LS0 : List (View.Piece (Elt F) S256x2816 .bf16)), Σ' (LS1 : List (View.Piece (Elt F) S2816x1024 .bf16)), { LT2 : List (View.Piece (Elt F) S256x2560 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (arg14.view.loc (c : Thread nD τ) ↦[arg14.view.set]{fullShare} arg14.view.writes (Elt F) (harg14.unread xo11) L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_multi_lora i arg1 harg1 arg2 harg2 arg3 harg3 arg4 harg4 arg5 harg5 arg6 harg6 arg7 harg7 arg8 harg8 (Memref.whole main_arg3) (Memref.isWhole_whole _) (Memref.whole main_arg4) (Memref.isWhole_whole _) arg11 harg11 arg12 harg12 arg13 harg13 arg14 harg14 arg15 harg15 arg16 harg16 arg17 harg17 cc0_scratch3 cc0_scratch4) K } := by
  refine ⟨?_, ?_, ?_, ?_, ?_, ?_, ?_, fun W K => ?run⟩
  case run =>
    simp only [cc0_multi_lora_eq_skeleton]; unfold cc0_multi_lora_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf11
    sl_exec (disch := first | sl_exact hc0 | (with_reducible refine chk1 harg5 hG ?_; exact ⟨_, _, rfl⟩) | (with_reducible refine chk2 i harg1 hS ?_; exact ⟨_, _, rfl⟩) | (with_reducible refine chk3 harg5 hG ?_; exact ⟨_, _, rfl⟩) | (with_reducible refine chk4 i harg1 hS ?_; exact ⟨_, _, rfl⟩) | (with_reducible refine chk5 harg5 hG ?_; exact ⟨_, _, rfl⟩) | (with_reducible refine chk6 i harg1 hS ?_; exact ⟨_, _, rfl⟩) | (with_reducible refine chk7 harg5 hG ?_; exact ⟨_, _, rfl⟩) | (with_reducible refine chk8 i harg1 hS ?_; exact ⟨_, _, rfl⟩) | (with_reducible refine chk9 harg5 hG ?_; exact ⟨_, _, rfl⟩) | (with_reducible refine chk10 i harg1 hS ?_; exact ⟨_, _, rfl⟩) | (with_reducible refine chk11 i harg5 hG ?_; exact ⟨_, _, rfl⟩) | (with_reducible refine chk12 i harg1 hS ?_; exact ⟨_, _, rfl⟩) | (with_reducible refine chk13 i harg5 hG ?_; exact ⟨_, _, rfl⟩) | (with_reducible refine chk14 i harg1 hS ?_; exact ⟨_, _, rfl⟩) | (with_reducible refine chk15 i harg5 hG ?_; exact ⟨_, _, rfl⟩) | (with_reducible refine chk16 i harg1 hS ?_; exact ⟨_, _, rfl⟩) | (with_reducible refine chk17 i harg5 hG ?_; exact ⟨_, _, rfl⟩) | (with_reducible refine chk18 i harg1 hS ?_; exact ⟨_, _, rfl⟩) | (with_reducible refine chk19 i harg5 hG ?_; exact ⟨_, _, rfl⟩) | (with_reducible refine chk20 i harg1 hS ?_; exact ⟨_, _, rfl⟩) | (with_reducible refine chk21 i harg5 hG ?_; exact ⟨_, _, rfl⟩) | (with_reducible refine chk22 i harg5 hG ?_; exact ⟨_, _, rfl⟩) | (with_reducible refine chk23 i harg5 hG ?_; exact ⟨_, _, rfl⟩) | (with_reducible refine chk24 i harg5 hG ?_; exact ⟨_, _, rfl⟩) | (with_reducible refine chk25 i harg5 hG ?_; exact ⟨_, _, rfl⟩) | (with_reducible refine chk26 i harg5 hG ?_; exact ⟨_, _, rfl⟩) | (with_reducible refine chk27 i harg1 hS ?_; exact ⟨_, _, rfl⟩) | (with_reducible refine chk28 i harg5 hG ?_; exact ⟨_, _, rfl⟩) | (with_reducible refine chk29 i harg1 hS ?_; exact ⟨_, _, rfl⟩) | (with_reducible refine chk30 i harg5 hG ?_; exact ⟨_, _, rfl⟩) | (with_reducible refine chk31 i harg1 hS ?_; exact ⟨_, _, rfl⟩) | (with_reducible refine chk32 i harg5 hG ?_; exact ⟨_, _, rfl⟩) | (with_reducible refine chk33 i harg1 hS ?_; exact ⟨_, _, rfl⟩) | (with_reducible refine chk34 i harg5 hG ?_; exact ⟨_, _, rfl⟩) | (with_reducible refine chk35 i harg1 hS ?_; exact ⟨_, _, rfl⟩) | (with_reducible refine chk36 harg5 hG ?_; exact ⟨_, _, rfl⟩) | (with_reducible refine chk37 i harg1 hS ?_; exact ⟨_, _, rfl⟩) | (with_reducible refine chk38 harg5 hG ?_; exact ⟨_, _, rfl⟩) | (with_reducible refine chk39 i harg1 hS ?_; exact ⟨_, _, rfl⟩) | (with_reducible refine chk40 harg5 hG ?_; exact ⟨_, _, rfl⟩) | (with_reducible refine chk41 i harg1 hS ?_; exact ⟨_, _, rfl⟩) | (with_reducible refine chk42 harg5 hG ?_; exact ⟨_, _, rfl⟩) | (with_reducible refine chk43 i harg1 hS ?_; exact ⟨_, _, rfl⟩) | (with_reducible refine chk44 harg5 hG ?_; exact ⟨_, _, rfl⟩) | (with_reducible refine chk45 i harg1 hS ?_; exact ⟨_, _, rfl⟩))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexact H11
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    iexists _; iexact HW

end Cert.Kernel.Own

end
-- ==== Proof.Bits.RunB.lean ====
/- The kernel body run at a later point of the grid, on whole staging memrefs: what its stores leave in each buffer, as pieces, with the proof that it runs there. -/
module

public import proofs.«01_k».proof.Proof.Bits.Base

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

set_option maxHeartbeats 40000000 in set_option sl_exec.dmaWindow true in set_option sl_exec.dmaWindowSet true in set_option sl_exec.lendShare "Hh0 Hh1" in set_option sl_exec.rejoinFuel 200 in set_option sl_exec.rejoinHeartbeats 2000000 in
/-- What the body's stores leave in each buffer, as pieces, last first, at a later point, with the proof that the
    body runs: the inputs and the pools come back as they were, the DMA cells at zero. -/
noncomputable def runB (c : Dev nD) (i : grid0.Coords) (hc0 : ¬cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole) (arg6 : Memref sig .tc .vmem S256x2560 .bf16) (harg6 : arg6.IsWhole) (arg7 : Memref sig .tc .vmem S320x1024 .i32) (harg7 : arg7.IsWhole) (arg8 : Memref sig .tc .vmem S20x1024 .bf16) (harg8 : arg8.IsWhole) (arg11 : Memref sig .tc .vmem S256x1024 .bf16) (harg11 : arg11.IsWhole) (arg12 : Memref sig .tc .vmem S256x32 .bf16) (harg12 : arg12.IsWhole) (arg13 : Memref sig .tc .vmem S256x1024 .fp8e4m3) (harg13 : arg13.IsWhole) (arg14 : Memref sig .tc .vmem S256x80 .f32) (harg14 : arg14.IsWhole) (arg15 : Memref sig .tc .vmem S256x2816 .bf16) (harg15 : arg15.IsWhole) (arg16 : Memref sig .tc .vmem S2816x1024 .bf16) (harg16 : arg16.IsWhole) (arg17 : Memref sig .tc .vmem S256x2560 .bf16) (harg17 : arg17.IsWhole)
    (x0 : Vec F S9 .i32) (x1 : Vec F S9 .i32) (x2 : Vec F S9 .f32) (x3 : Vec F S6 .i32) (x4 : Vec F S5 .i32) (x5 : Vec F S256x2560 .bf16) (x6 : Vec F S320x1024 .i32) (x7 : Vec F S20x1024 .bf16)
    (xo9 : Vec F S256x32 .bf16) (xo11 : Vec F S256x80 .f32) (xs0 : Vec F S256x2816 .bf16) (xs1 : Vec F S2816x1024 .bf16) (fh0 : HbBuf0 (F := F) c hbM0_0) (fh1 : HbBuf0 (F := F) c hbM0_1)
    (hS : ∀ j, (x0 j : BitVec 32).toNat ≤ 368) (hG : ∀ j, (x4 j : BitVec 32).toNat < 9) :
    Σ' (L8 : List (View.Piece (Elt F) S256x1024 .bf16)), Σ' (L10 : List (View.Piece (Elt F) S256x1024 .fp8e4m3)), Σ' (L11 : List (View.Piece (Elt F) S256x80 .f32)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d) ∗ owns (c : Thread nD τ) arg12 fullShare xo9 ∗ (∃ d, owns (c : Thread nD τ) arg13 fullShare d) ∗ owns (c : Thread nD τ) arg14 fullShare xo11 ∗ owns (c : Thread nD τ) arg15 fullShare xs0 ∗ owns (c : Thread nD τ) arg16 fullShare xs1 ∗ (∃ d, owns (c : Thread nD τ) arg17 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8) ∗ owns (c : Thread nD τ) arg12 fullShare xo9 ∗ (∃ f, arg13.view.loc (c : Thread nD τ) ↦[arg13.view.set]{fullShare} arg13.view.writes (Elt F) f L10) ∗ (arg14.view.loc (c : Thread nD τ) ↦[arg14.view.set]{fullShare} arg14.view.writes (Elt F) (harg14.unread xo11) L11) ∗ owns (c : Thread nD τ) arg15 fullShare xs0 ∗ (arg16.view.loc (c : Thread nD τ) ↦[arg16.view.set]{fullShare} arg16.view.writes (Elt F) (harg16.unread xs1) LS1) ∗ (∃ d, owns (c : Thread nD τ) arg17 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_multi_lora i arg1 harg1 arg2 harg2 arg3 harg3 arg4 harg4 arg5 harg5 arg6 harg6 arg7 harg7 arg8 harg8 (Memref.whole main_arg3) (Memref.isWhole_whole _) (Memref.whole main_arg4) (Memref.isWhole_whole _) arg11 harg11 arg12 harg12 arg13 harg13 arg14 harg14 arg15 harg15 arg16 harg16 arg17 harg17 cc0_scratch3 cc0_scratch4) K } := by
  refine ⟨?_, ?_, ?_, ?_, fun W K => ?run⟩
  case run =>
    simp only [cc0_multi_lora_eq_skeleton]; unfold cc0_multi_lora_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%fs0, %hfs0, HS0⟩, ⟨%fs1, %hfs1, HS1⟩, ⟨%ds2, %fs2, -, HS2⟩, Hq0, Hq1, Hq2, Hq3, Hq4, Hq5, Hq6, Hq7, Hq8, Hq9, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hf9; obtain rfl := harg14.eq_unread hf11; obtain rfl := harg15.eq_unread hfs0; obtain rfl := harg16.eq_unread hfs1
    sl_exec (disch := first | sl_exact hc0 | (with_reducible refine chk1 harg5 hG ?_; exact ⟨_, _, rfl⟩) | (with_reducible refine chk2 i harg1 hS ?_; exact ⟨_, _, rfl⟩) | (with_reducible refine chk3 harg5 hG ?_; exact ⟨_, _, rfl⟩) | (with_reducible refine chk4 i harg1 hS ?_; exact ⟨_, _, rfl⟩) | (with_reducible refine chk5 harg5 hG ?_; exact ⟨_, _, rfl⟩) | (with_reducible refine chk6 i harg1 hS ?_; exact ⟨_, _, rfl⟩) | (with_reducible refine chk7 harg5 hG ?_; exact ⟨_, _, rfl⟩) | (with_reducible refine chk8 i harg1 hS ?_; exact ⟨_, _, rfl⟩) | (with_reducible refine chk9 harg5 hG ?_; exact ⟨_, _, rfl⟩) | (with_reducible refine chk10 i harg1 hS ?_; exact ⟨_, _, rfl⟩) | (with_reducible refine chk36 harg5 hG ?_; exact ⟨_, _, rfl⟩) | (with_reducible refine chk37 i harg1 hS ?_; exact ⟨_, _, rfl⟩) | (with_reducible refine chk38 harg5 hG ?_; exact ⟨_, _, rfl⟩) | (with_reducible refine chk39 i harg1 hS ?_; exact ⟨_, _, rfl⟩) | (with_reducible refine chk40 harg5 hG ?_; exact ⟨_, _, rfl⟩) | (with_reducible refine chk41 i harg1 hS ?_; exact ⟨_, _, rfl⟩) | (with_reducible refine chk42 harg5 hG ?_; exact ⟨_, _, rfl⟩) | (with_reducible refine chk43 i harg1 hS ?_; exact ⟨_, _, rfl⟩) | (with_reducible refine chk44 harg5 hG ?_; exact ⟨_, _, rfl⟩) | (with_reducible refine chk45 i harg1 hS ?_; exact ⟨_, _, rfl⟩))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg12.read_unread _
      iexact H9
    isplitl [H10]; · iexists _; iexact H10
    isplitl [H11]; · iexact H11
    isplitl [HS0]
    · iexists _; isplitr; · ipureintro; exact harg15.read_unread _
      iexact HS0
    isplitl [HS1]; · iexact HS1
    isplitl [HS2]
    · iexists _, _; isplitr; swap; · iexact HS2
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    iexists _; iexact HW

end Cert.Kernel.Own

end
-- ==== Proof.Bits.Frame.lean ====
/- The two runs of the body put together into a launch whose outputs are not named: the kernel ends, leaves its arguments unchanged and every semaphore at zero, whenever the words that pick its DMA windows are in range. -/
module

public import proofs.«01_k».proof.Proof.Bits.RunA
public import proofs.«01_k».proof.Proof.Bits.RunB
public import Idealize.ShloMosaic.Lib.Claim
public import Idealize.ShloMosaic.Lib.Pipeline.FrameBody

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Input window 0's staging buffer holds its block at every point, whatever proof data stages it. -/
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whatever proof data stages it. -/
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whatever proof data stages it. -/
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whatever proof data stages it. -/
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whatever proof data stages it. -/
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whatever proof data stages it. -/
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whatever proof data stages it. -/
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whatever proof data stages it. -/
theorem before_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- What the words that pick the DMA windows must satisfy: every adapter's start row leaves room for its rank, and
    every segment names one of the nine adapters. -/
def WordsOK : Prop := ∀ c : Dev nD,
  (∀ j, (m ((c : Thread nD τ).loc main_arg5) j : BitVec 32).toNat ≤ 368) ∧ ∀ j, (m ((c : Thread nD τ).loc main_arg9) j : BitVec 32).toNat < 9

theorem starts_ok {m : (ℓ : Loc nD τ sig) → Buf (Elt F) ℓ} (h : WordsOK m) (c : Dev nD) (t : Fin cfg0.N) (j) : (iblk m c 0 t j : BitVec 32).toNat ≤ 368 := by
  show (V m c main_arg5 _ : BitVec 32).toNat ≤ 368
  rw [V_main_arg5]; exact (h c).1 _

theorem segs_ok {m : (ℓ : Loc nD τ sig) → Buf (Elt F) ℓ} (h : WordsOK m) (c : Dev nD) (t : Fin cfg0.N) (j) : (iblk m c 4 t j : BitVec 32).toNat < 9 := by
  show (V m c main_arg9 _ : BitVec 32).toNat < 9
  rw [V_main_arg9]; exact (h c).2 _

/-- The output windows, of which the frame says nothing. -/
def forgets : Fin 12 → Bool := fun w => w.val == 8 || w.val == 9 || w.val == 10 || w.val == 11

/-- The proof data of the pipeline on core `c`: the arrays as the region finds them; after the body each input's buffer at
    its block and the outputs unnamed; the scratch, the DMA cells and the pools in the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before_0 m (dats m 0 c) (A_eq m c 0) (after0_0 m c) t d
theorem before0_1 (c : Dev nD) (t : Fin cfg0.N) (d) : (dats m 0 c).before 1 t d = iblk m c 1 t :=
  before_1 m (dats m 0 c) (A_eq m c 1) (after0_1 m c) t d
theorem before0_2 (c : Dev nD) (t : Fin cfg0.N) (d) : (dats m 0 c).before 2 t d = iblk m c 2 t :=
  before_2 m (dats m 0 c) (A_eq m c 2) (after0_2 m c) t d
theorem before0_3 (c : Dev nD) (t : Fin cfg0.N) (d) : (dats m 0 c).before 3 t d = iblk m c 3 t :=
  before_3 m (dats m 0 c) (A_eq m c 3) (after0_3 m c) t d
theorem before0_4 (c : Dev nD) (t : Fin cfg0.N) (d) : (dats m 0 c).before 4 t d = iblk m c 4 t :=
  before_4 m (dats m 0 c) (A_eq m c 4) (after0_4 m c) t d
theorem before0_5 (c : Dev nD) (t : Fin cfg0.N) (d) : (dats m 0 c).before 5 t d = iblk m c 5 t :=
  before_5 m (dats m 0 c) (A_eq m c 5) (after0_5 m c) t d
theorem before0_6 (c : Dev nD) (t : Fin cfg0.N) (d) : (dats m 0 c).before 6 t d = iblk m c 6 t :=
  before_6 m (dats m 0 c) (A_eq m c 6) (after0_6 m c) t d
theorem before0_7 (c : Dev nD) (t : Fin cfg0.N) (d) : (dats m 0 c).before 7 t d = iblk m c 7 t :=
  before_7 m (dats m 0 c) (A_eq m c 7) (after0_7 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

theorem leaves_0 (c : Dev nD) (t : Fin cfg0.N) : (dats m 0 c).leavesExact 0 t = owns (c : Thread nD τ) (ms0_0 t) fullShare (iblk m c 0 t) := by
  rw [← after0_0]
theorem leaves_1 (c : Dev nD) (t : Fin cfg0.N) : (dats m 0 c).leavesExact 1 t = owns (c : Thread nD τ) (ms0_1 t) fullShare (iblk m c 1 t) := by
  rw [← after0_1]
theorem leaves_2 (c : Dev nD) (t : Fin cfg0.N) : (dats m 0 c).leavesExact 2 t = owns (c : Thread nD τ) (ms0_2 t) fullShare (iblk m c 2 t) := by
  rw [← after0_2]
theorem leaves_3 (c : Dev nD) (t : Fin cfg0.N) : (dats m 0 c).leavesExact 3 t = owns (c : Thread nD τ) (ms0_3 t) fullShare (iblk m c 3 t) := by
  rw [← after0_3]
theorem leaves_4 (c : Dev nD) (t : Fin cfg0.N) : (dats m 0 c).leavesExact 4 t = owns (c : Thread nD τ) (ms0_4 t) fullShare (iblk m c 4 t) := by
  rw [← after0_4]
theorem leaves_5 (c : Dev nD) (t : Fin cfg0.N) : (dats m 0 c).leavesExact 5 t = owns (c : Thread nD τ) (ms0_5 t) fullShare (iblk m c 5 t) := by
  rw [← after0_5]
theorem leaves_6 (c : Dev nD) (t : Fin cfg0.N) : (dats m 0 c).leavesExact 6 t = owns (c : Thread nD τ) (ms0_6 t) fullShare (iblk m c 6 t) := by
  rw [← after0_6]
theorem leaves_7 (c : Dev nD) (t : Fin cfg0.N) : (dats m 0 c).leavesExact 7 t = owns (c : Thread nD τ) (ms0_7 t) fullShare (iblk m c 7 t) := by
  rw [← after0_7]

/-- A buffer held at written contents is owned at some contents. -/
theorem anyOf {c : Dev nD} {sp : Space} {s : Shape} {e : EltTy} {M : Memref sig .tc sp s e} {f} :
    (M.view.loc (c : Thread nD τ) ↦[M.view.set]{fullShare} f : sProp 𝕄) ⊢ iprop(∃ d, owns (c : Thread nD τ) M fullShare d) := by
  unfold owns
  iintro H
  iexists _, f
  isplitr
  · ipureintro; rfl
  iexact H

set_option maxHeartbeats 4800000 in
set_option maxRecDepth 131072 in
/-- The body at any point: the inputs' memrefs hold their blocks; the first point takes one run, the others the other. -/
theorem sound_body (hOK : WordsOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves_0, leaves_1, leaves_2, leaves_3, leaves_4, leaves_5, leaves_6, leaves_7]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  by_cases h0 : t.val % 10 = 0
  · iintro ⟨⟨⟨HS0, HS1, HS2⟩, Hg, ⟨Hq0, Hq1, Hq2, Hq3, Hq4, Hq5, Hq6, Hq7, Hq8, Hq9⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) ((hcond0_0 t).mpr h0) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t)).2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HW]; · iexact HW
    iintro ⟨H0, H1, H2, H3, H4, H5, H6, H7, ⟨%fh8, H8⟩, ⟨%fh9, H9⟩, ⟨%fh10, H10⟩, H11, ⟨%fhs0, HS0⟩, ⟨%fhs1, HS1⟩, ⟨%fhs2, HS2⟩, Hq0, Hq1, Hq2, Hq3, Hq4, Hq5, Hq6, Hq7, Hq8, Hq9, Hh0, Hh1, ⟨%W', HW'⟩⟩
    isplitl [HS0 HS1 HS2 Hg Hq0 Hq1 Hq2 Hq3 Hq4 Hq5 Hq6 Hq7 Hq8 Hq9 Hh0 Hh1]
    · isplitl [HS0 HS1 HS2]
      · isplitl [HS0]
        · iapply anyOf; iexact HS0
        isplitl [HS1]
        · iapply anyOf; iexact HS1
        iapply anyOf; iexact HS2
      isplitl [Hg]
      · iexact Hg
      isplitl [Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply anyOf; iexact H8
    isplitl [H9]
    · iapply anyOf; iexact H9
    isplitl [H10]
    · iapply anyOf; iexact H10
    iapply anyOf; iexact H11
  · iintro ⟨⟨⟨HS0, HS1, HS2⟩, Hg, ⟨Hq0, Hq1, Hq2, Hq3, Hq4, Hq5, Hq6, Hq7, Hq8, Hq9⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    icases HS0 with ⟨%e0, HS0⟩
    icases HS1 with ⟨%e1, HS1⟩
    iapply ((runB c (grid0.coords t) (fun h => h0 ((hcond0_0 t).mp h)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d9 d11 e0 e1 (V m c main_arg3) (V m c main_arg4) (starts_ok hOK c t) (segs_ok hOK c t)).2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HW]; · iexact HW
    iintro ⟨H0, H1, H2, H3, H4, H5, H6, H7, ⟨%fh8, H8⟩, H9, ⟨%fh10, H10⟩, H11, HS0, HS1, HS2, Hq0, Hq1, Hq2, Hq3, Hq4, Hq5, Hq6, Hq7, Hq8, Hq9, Hh0, Hh1, ⟨%W', HW'⟩⟩
    isplitl [HS0 HS1 HS2 Hg Hq0 Hq1 Hq2 Hq3 Hq4 Hq5 Hq6 Hq7 Hq8 Hq9 Hh0 Hh1]
    · isplitl [HS0 HS1 HS2]
      · isplitl [HS0]
        · iexists _; iexact HS0
        isplitl [HS1]
        · iapply anyOf; iexact HS1
        iexact HS2
      isplitl [Hg]
      · iexact Hg
      isplitl [Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply anyOf; iexact H8
    isplitl [H9]
    · iexists _; iexact H9
    isplitl [H10]
    · iapply anyOf; iexact H10
    iapply anyOf; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's triple, as the launch asks for it. -/
theorem body_obligation (hOK : WordsOK m) (c : Dev nD) : BodyObligation (dats (F := F) m 0 c) (defs₀ (F := F)) Variants.none () Set.univ forgets := fun t => by
  rw [bigSep_W0, bigSep_W0, defs₀_row]
  exact triple_restated (sound_body m hOK c t) rfl .rfl fun _ => .rfl

set_option backward.isDefEq.respectTransparency.types false in
set_option maxHeartbeats 800000 in
/-- The launch, and every semaphore counter at zero at every final state. -/
theorem run_main (hOK : WordsOK m) : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_dma_forget (Q' := _) cfgs (dats m) (0 : Fin 1) launch0 osem0 defs₀ Variants.none forgets ownSemFacts0 H0 H0_sub m ρ main
    (hbody := fun c => (body_obligation m hOK c).loose) (hshare := fun c => (dats m 0 c).share_full fun _ => rfl)
    (howed := fun _ _ => rfl) (V := V m)
    (hmain := hmainD m Variants.none) (hA := A_eq m) (hin := fun _ => .rfl) (hout := fun _ => .rfl)

/-- THE FRAME: the run ends, the argument arrays end unchanged, every semaphore counter ends at zero. -/
theorem frame (hOK : WordsOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 6 rfl).trans ((A_eq m c 6).trans (V_main_arg1 m c)),
      (h.1.arr_in c 7 rfl).trans ((A_eq m c 7).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c)),
      (h.1.arr_in c 1 rfl).trans ((A_eq m c 1).trans (V_main_arg6 m c)),
      (h.1.arr_in c 2 rfl).trans ((A_eq m c 2).trans (V_main_arg7 m c)),
      (h.1.arr_in c 3 rfl).trans ((A_eq m c 3).trans (V_main_arg8 m c)),
      (h.1.arr_in c 4 rfl).trans ((A_eq m c 4).trans (V_main_arg9 m c))⟩, h.2⟩) (run_main m ρ hOK)

end Cert.Kernel.Own

end
-- ==== Proof.Ideal.Checks.lean ====
/- What the body assumes of the words it loads holds of every word in range: a segment's adapter below 9, an adapter's first slot at most 368. -/
module

public import proofs.«01_k».proof.KernelIdeal
public import Idealize.ShloMosaic.Lib.WholeRead
public import Idealize.ShloMosaic.Lib.WordCmp
public import Idealize.ShloMosaic.Lib.Tactic
public import Idealize.ShloMosaic.Lib.Affine
public import proofs.«01_k».proof.Proof.Gen.KernelIdeal.Skeleton
public import proofs.«01_k».proof.Proof.Gen.KernelIdeal.Launch

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (Pipeline.UD sig nD τ) ℕ

/-- An adapter's first slot rounded down to a multiple of 16, at most 352: a multiple of 16 no larger. -/
theorem base_facts (w : BitVec 32) (h : w.toNat ≤ 368) :
    16 ∣ (k0_mult1 w).toNat ∧ (k0_mult1 w).toNat ≤ 352 ∧ (k0_mult1 w).toNat ≤ w.toNat ∧ w.toNat ≤ (k0_mult1 w).toNat + 16 := by
  have key : ∀ n : Fin 369, 16 ∣ (k0_mult1 (BitVec.ofNat 32 n.val)).toNat ∧ (k0_mult1 (BitVec.ofNat 32 n.val)).toNat ≤ 352
      ∧ (k0_mult1 (BitVec.ofNat 32 n.val)).toNat ≤ n.val ∧ n.val ≤ (k0_mult1 (BitVec.ofNat 32 n.val)).toNat + 16 := by decide +kernel
  have := key ⟨w.toNat, by omega⟩
  simpa only [BitVec.ofNat_toNat, BitVec.setWidth_eq] using this

/-- The column a tile starts at. -/
theorem tile_col (i : grid0.Coords) : (k0_mult2 i).toNat = 1024 * (i 0).val := by
  have h : (i 0).val < 10 := (i 0).isLt
  simp only [k0_mult2, Scalar.muli, IntOp.muli, BitVec.toNat_mul, BitVec.toNat_ofNat]
  omega

theorem seg_chk (w : BitVec 32) (h : w.toNat < 9) : k0_chk1 w := by
  intro a
  have ha : a = 0 := Fin.fin_one_eq_zero a
  subst ha
  show w.toNat + 1 ≤ 9
  omega

theorem b_chk (i : grid0.Coords) (w : BitVec 32) (h : w.toNat ≤ 368) : k0_chk2 i w := by
  obtain ⟨h1, h2, -, -⟩ := base_facts w h
  have hi : (i 0).val < 10 := (i 0).isLt
  have hc := tile_col i
  refine ⟨h1, ?_, fun hinb => .inl ?_⟩
  · intro a
    have e0 : k0_off2 i w 0 = (k0_mult1 w).toNat := rfl
    have e1 : k0_off2 i w 1 = (k0_mult2 i).toNat := rfl
    match a with
    | 0 => show k0_off2 i w 0 + 48 ≤ 400; omega
    | 1 => show k0_off2 i w 1 + 1024 ≤ 10240; omega
  · refine Affine.packed_dvd (by decide) ?_ ?_
    · show 2 ∣ (k0_mult1 w).toNat; omega
    · show 2 ∣ 48; omega

theorem a_chk (i : grid0.Coords) (w : BitVec 32) (h : w.toNat ≤ 368) : k0_chk12 i w := by
  obtain ⟨h1, h2, -, -⟩ := base_facts w h
  refine ⟨fun _ => h1, fun _ => ?_, fun _ hinb => .inl ?_⟩
  · intro a
    have e0 : k0_off12 w 0 = (k0_mult1 w).toNat := rfl
    match a with
    | 0 => show k0_off12 w 0 + 48 ≤ 400; omega
    | 1 => show 0 + 2560 ≤ 2560; omega
  · refine Affine.packed_dvd (by decide) ?_ ?_
    · show 2 ∣ (k0_mult1 w).toNat; omega
    · show 2 ∣ 48; omega

variable {x0 : Vec F S9 .i32} {x4 : Vec F S5 .i32} {arg1 : Memref sig .tc .smem S9 .i32} {arg5 : Memref sig .tc .smem S5 .i32}

theorem seg_word (harg5 : arg5.IsWhole) (hG : ∀ j, (x4 j : BitVec 32).toNat < 9) {w : BitVec 32}
    (h : ∃ (r : LoadRect S5) (j : r.shape.Idx), w = arg5.view.readAt (Elt F) r (harg5.unread x4) j) : w.toNat < 9 := by
  obtain ⟨r, j, rfl⟩ := h; rw [harg5.readAt_unread]; exact hG _

theorem start_word (harg1 : arg1.IsWhole) (hS : ∀ j, (x0 j : BitVec 32).toNat ≤ 368) {w : BitVec 32}
    (h : ∃ (r : LoadRect S9) (j : r.shape.Idx), w = arg1.view.readAt (Elt F) r (harg1.unread x0) j) : w.toNat ≤ 368 := by
  obtain ⟨r, j, rfl⟩ := h; rw [harg1.readAt_unread]; exact hS _

theorem chk1 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk1 w := seg_chk _ (seg_word harg5 hG h)
theorem chk2 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk2 i w := b_chk i _ (start_word harg1 hS h)
theorem chk3 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk3 w := seg_chk _ (seg_word harg5 hG h)
theorem chk4 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk4 i w := b_chk i _ (start_word harg1 hS h)
theorem chk5 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk5 w := seg_chk _ (seg_word harg5 hG h)
theorem chk6 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk6 i w := b_chk i _ (start_word harg1 hS h)
theorem chk7 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk7 w := seg_chk _ (seg_word harg5 hG h)
theorem chk8 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk8 i w := b_chk i _ (start_word harg1 hS h)
theorem chk9 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk9 w := seg_chk _ (seg_word harg5 hG h)
theorem chk10 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk10 i w := b_chk i _ (start_word harg1 hS h)
theorem chk11 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk11 i w := fun _ => seg_chk _ (seg_word harg5 hG h)
theorem chk12 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk12 i w := a_chk i _ (start_word harg1 hS h)
theorem chk13 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk13 i w := fun _ => seg_chk _ (seg_word harg5 hG h)
theorem chk14 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk14 i w := a_chk i _ (start_word harg1 hS h)
theorem chk15 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk15 i w := fun _ => seg_chk _ (seg_word harg5 hG h)
theorem chk16 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk16 i w := a_chk i _ (start_word harg1 hS h)
theorem chk17 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk17 i w := fun _ => seg_chk _ (seg_word harg5 hG h)
theorem chk18 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk18 i w := a_chk i _ (start_word harg1 hS h)
theorem chk19 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk19 i w := fun _ => seg_chk _ (seg_word harg5 hG h)
theorem chk20 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk20 i w := a_chk i _ (start_word harg1 hS h)
theorem chk21 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk21 i w := fun _ => seg_chk _ (seg_word harg5 hG h)
theorem chk22 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk22 i w := fun _ => seg_chk _ (seg_word harg5 hG h)
theorem chk23 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk23 i w := fun _ => seg_chk _ (seg_word harg5 hG h)
theorem chk24 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk24 i w := fun _ => seg_chk _ (seg_word harg5 hG h)
theorem chk25 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk25 i w := fun _ => seg_chk _ (seg_word harg5 hG h)
theorem chk26 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk26 i w := fun _ => seg_chk _ (seg_word harg5 hG h)
theorem chk27 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk27 i w := a_chk i _ (start_word harg1 hS h)
theorem chk28 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk28 i w := fun _ => seg_chk _ (seg_word harg5 hG h)
theorem chk29 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk29 i w := a_chk i _ (start_word harg1 hS h)
theorem chk30 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk30 i w := fun _ => seg_chk _ (seg_word harg5 hG h)
theorem chk31 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk31 i w := a_chk i _ (start_word harg1 hS h)
theorem chk32 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk32 i w := fun _ => seg_chk _ (seg_word harg5 hG h)
theorem chk33 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk33 i w := a_chk i _ (start_word harg1 hS h)
theorem chk34 (i : grid0.Coords) (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk34 i w := fun _ => seg_chk _ (seg_word harg5 hG h)
theorem chk35 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk35 i w := a_chk i _ (start_word harg1 hS h)
theorem chk36 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk36 w := seg_chk _ (seg_word harg5 hG h)
theorem chk37 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk37 i w := b_chk i _ (start_word harg1 hS h)
theorem chk38 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk38 w := seg_chk _ (seg_word harg5 hG h)
theorem chk39 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk39 i w := b_chk i _ (start_word harg1 hS h)
theorem chk40 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk40 w := seg_chk _ (seg_word harg5 hG h)
theorem chk41 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk41 i w := b_chk i _ (start_word harg1 hS h)
theorem chk42 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk42 w := seg_chk _ (seg_word harg5 hG h)
theorem chk43 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk43 i w := b_chk i _ (start_word harg1 hS h)
theorem chk44 (harg5 : arg5.IsWhole) (hG : ∀ j, (x4 j : BitVec 32).toNat < 9) {w : BitVec 32}
    (h : ∃ (r : LoadRect S5) (j : r.shape.Idx), w = arg5.view.readAt (Elt F) r (harg5.unread x4) j) :
    k0_chk44 w := seg_chk _ (seg_word harg5 hG h)
theorem chk45 (i : grid0.Coords) (harg1 : arg1.IsWhole) (hS : ∀ j, (x0 j : BitVec 32).toNat ≤ 368) {w : BitVec 32}
    (h : ∃ (r : LoadRect S9) (j : r.shape.Idx), w = arg1.view.readAt (Elt F) r (harg1.unread x0) j) :
    k0_chk45 i w := b_chk i _ (start_word harg1 hS h)

end Cert.KernelIdeal.Own

end
-- ==== Proof.Ideal.Base.lean ====
/- What the two runs of the kernel body are stated over: the branch condition at a point, the staging and scratch memrefs, the DMA cells and the pools left in HBM, and the invariant of the loop conjunct by conjunct. -/
module

public import proofs.«01_k».proof.Proof.Gen.KernelIdeal.Frame
public import proofs.«01_k».proof.Proof.Ideal.Checks

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region, over the algebra that carries the transfers' counters. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- One staging buffer of output window 8, through which its contents are stated (`View.read_writes_of_cover`: the
    choice does not matter). -/
abbrev VO0_8 : View sig .tc .vmem S256x1024 .bf16 := (Memref.whole cc0_stg8_0 : Memref sig .tc .vmem S256x1024 .bf16).view
/-- One staging buffer of output window 9, through which its contents are stated (`View.read_writes_of_cover`: the
    choice does not matter). -/
abbrev VO0_9 : View sig .tc .vmem S256x32 .bf16 := (Memref.whole cc0_stg9_0 : Memref sig .tc .vmem S256x32 .bf16).view
/-- One staging buffer of output window 10, through which its contents are stated (`View.read_writes_of_cover`: the
    choice does not matter). -/
abbrev VO0_10 : View sig .tc .vmem S256x1024 .fp8e4m3 := (Memref.whole cc0_stg10_0 : Memref sig .tc .vmem S256x1024 .fp8e4m3).view
/-- One staging buffer of output window 11, through which its contents are stated (`View.read_writes_of_cover`: the
    choice does not matter). -/
abbrev VO0_11 : View sig .tc .vmem S256x80 .f32 := (Memref.whole cc0_stg11_0 : Memref sig .tc .vmem S256x80 .f32).view
/-- Each window's current staging memref at point `t`, spelled as the pipeline passes it (`bodyAt0`), and its wholeness. -/
abbrev ms0_0 (t : Fin cfg0.N) : Memref sig .tc .smem S9 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S9 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S9 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S6 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S5 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S320x1024 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S20x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x32 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x80 .f32 := win0_11.stage (cfg0.slots t 11)
abbrev hs0_11 (t : Fin cfg0.N) : (ms0_11 t).IsWhole := hstage0_11 ((cfg0.slots t 11).cast nbuf0_11)

/-! ## The side conditions the body assumes, as the frame's hypothesis -/

/-- The scratch operands: whole scoped buffers of the kernel's own, passed beside the windows. -/
abbrev scM0_0 : Memref sig .tc .vmem S256x2816 .bf16 := Memref.whole cc0_scratch0
abbrev scM0_1 : Memref sig .tc .vmem S2816x1024 .bf16 := Memref.whole cc0_scratch1
abbrev scM0_2 : Memref sig .tc .vmem S256x2560 .bf16 := Memref.whole cc0_scratch2
/-- The scratch `arg15` the kernel carries between points, as a view: what it holds is stated through it. -/
abbrev VS0_0 : View sig .tc .vmem S256x2816 .bf16 := scM0_0.view
/-- The scratch `arg16` the kernel carries between points, as a view: what it holds is stated through it. -/
abbrev VS0_1 : View sig .tc .vmem S2816x1024 .bf16 := scM0_1.view
/-- The operands left in HBM that the body copies into scratch itself, whole. -/
abbrev hbM0_0 : Memref sig .tc .hbm S400x2560 .bf16 := Memref.whole main_arg3
abbrev hbM0_1 : Memref sig .tc .hbm S400x10240 .bf16 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 10 → SemLoc sig := fun j => (![SemLoc.dma 16, SemLoc.dma 17, SemLoc.dma 18, SemLoc.dma 19, SemLoc.dma 20, SemLoc.dma 21, SemLoc.dma 22, SemLoc.dma 23, SemLoc.dma 24, SemLoc.dma 25] : Fin 10 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9] (by decide) (by decide)]; rfl
/-- The HBM operands the body moves, as references: unscoped, no window's array (`Pipeline.restRefs`). -/
def H0 : Finset (Ref sig .tc) := {main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg3) ∗ hbPt0 c hbM0_1 (V m c main_arg4))) := by
  rw [Pipeline.ΦD_eq, scopedRest0_eq, ownSems00_eq, hbmPts0_eq]; simp only [scM0_0, scM0_1, scM0_2, owns_whole]; try rfl

end Cert.KernelIdeal.Own

end
-- ==== Proof.Ideal.RunA.lean ====
/- The kernel body run at the first point of the grid, on whole staging memrefs: what its stores leave in each buffer, as pieces, with the proof that it runs there. -/
module

public import proofs.«01_k».proof.Proof.Ideal.Base

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (Pipeline.UD sig nD τ) ℕ

set_option maxHeartbeats 40000000 in set_option sl_exec.dmaWindow true in set_option sl_exec.dmaWindowSet true in set_option sl_exec.lendShare "Hh0 Hh1" in set_option sl_exec.rejoinFuel 200 in set_option sl_exec.rejoinHeartbeats 2000000 in
/-- What the body's stores leave in each buffer, as pieces, last first, at the first point, with the proof that the
    body runs: the inputs and the pools come back as they were, the DMA cells at zero. -/
noncomputable def runA (c : Dev nD) (i : grid0.Coords) (hc0 : cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole) (arg6 : Memref sig .tc .vmem S256x2560 .bf16) (harg6 : arg6.IsWhole) (arg7 : Memref sig .tc .vmem S320x1024 .i32) (harg7 : arg7.IsWhole) (arg8 : Memref sig .tc .vmem S20x1024 .bf16) (harg8 : arg8.IsWhole) (arg11 : Memref sig .tc .vmem S256x1024 .bf16) (harg11 : arg11.IsWhole) (arg12 : Memref sig .tc .vmem S256x32 .bf16) (harg12 : arg12.IsWhole) (arg13 : Memref sig .tc .vmem S256x1024 .fp8e4m3) (harg13 : arg13.IsWhole) (arg14 : Memref sig .tc .vmem S256x80 .f32) (harg14 : arg14.IsWhole) (arg15 : Memref sig .tc .vmem S256x2816 .bf16) (harg15 : arg15.IsWhole) (arg16 : Memref sig .tc .vmem S2816x1024 .bf16) (harg16 : arg16.IsWhole) (arg17 : Memref sig .tc .vmem S256x2560 .bf16) (harg17 : arg17.IsWhole)
    (x0 : Vec F S9 .i32) (x1 : Vec F S9 .i32) (x2 : Vec F S9 .f32) (x3 : Vec F S6 .i32) (x4 : Vec F S5 .i32) (x5 : Vec F S256x2560 .bf16) (x6 : Vec F S320x1024 .i32) (x7 : Vec F S20x1024 .bf16)
    (xo11 : Vec F S256x80 .f32) (fh0 : HbBuf0 (F := F) c hbM0_0) (fh1 : HbBuf0 (F := F) c hbM0_1)
    (hS : ∀ j, (x0 j : BitVec 32).toNat ≤ 368) (hG : ∀ j, (x4 j : BitVec 32).toNat < 9) :
    Σ' (L8 : List (View.Piece (Elt F) S256x1024 .bf16)), Σ' (L9 : List (View.Piece (Elt F) S256x32 .bf16)), Σ' (L10 : List (View.Piece (Elt F) S256x1024 .fp8e4m3)), Σ' (L11 : List (View.Piece (Elt F) S256x80 .f32)), Σ' (LS0 : List (View.Piece (Elt F) S256x2816 .bf16)), Σ' (LS1 : List (View.Piece (Elt F) S2816x1024 .bf16)), { LT2 : List (View.Piece (Elt F) S256x2560 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (arg14.view.loc (c : Thread nD τ) ↦[arg14.view.set]{fullShare} arg14.view.writes (Elt F) (harg14.unread xo11) L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_multi_lora i arg1 harg1 arg2 harg2 arg3 harg3 arg4 harg4 arg5 harg5 arg6 harg6 arg7 harg7 arg8 harg8 (Memref.whole main_arg3) (Memref.isWhole_whole _) (Memref.whole main_arg4) (Memref.isWhole_whole _) arg11 harg11 arg12 harg12 arg13 harg13 arg14 harg14 arg15 harg15 arg16 harg16 arg17 harg17 cc0_scratch3 cc0_scratch4) K } := by
  refine ⟨?_, ?_, ?_, ?_, ?_, ?_, ?_, fun W K => ?run⟩
  case run =>
    simp only [cc0_multi_lora_eq_skeleton]; unfold cc0_multi_lora_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf11
    sl_exec (disch := first | sl_exact hc0 | (with_reducible refine chk1 harg5 hG ?_; exact ⟨_, _, rfl⟩) | (with_reducible refine chk2 i harg1 hS ?_; exact ⟨_, _, rfl⟩) | (with_reducible refine chk3 harg5 hG ?_; exact ⟨_, _, rfl⟩) | (with_reducible refine chk4 i harg1 hS ?_; exact ⟨_, _, rfl⟩) | (with_reducible refine chk5 harg5 hG ?_; exact ⟨_, _, rfl⟩) | (with_reducible refine chk6 i harg1 hS ?_; exact ⟨_, _, rfl⟩) | (with_reducible refine chk7 harg5 hG ?_; exact ⟨_, _, rfl⟩) | (with_reducible refine chk8 i harg1 hS ?_; exact ⟨_, _, rfl⟩) | (with_reducible refine chk9 harg5 hG ?_; exact ⟨_, _, rfl⟩) | (with_reducible refine chk10 i harg1 hS ?_; exact ⟨_, _, rfl⟩) | (with_reducible refine chk11 i harg5 hG ?_; exact ⟨_, _, rfl⟩) | (with_reducible refine chk12 i harg1 hS ?_; exact ⟨_, _, rfl⟩) | (with_reducible refine chk13 i harg5 hG ?_; exact ⟨_, _, rfl⟩) | (with_reducible refine chk14 i harg1 hS ?_; exact ⟨_, _, rfl⟩) | (with_reducible refine chk15 i harg5 hG ?_; exact ⟨_, _, rfl⟩) | (with_reducible refine chk16 i harg1 hS ?_; exact ⟨_, _, rfl⟩) | (with_reducible refine chk17 i harg5 hG ?_; exact ⟨_, _, rfl⟩) | (with_reducible refine chk18 i harg1 hS ?_; exact ⟨_, _, rfl⟩) | (with_reducible refine chk19 i harg5 hG ?_; exact ⟨_, _, rfl⟩) | (with_reducible refine chk20 i harg1 hS ?_; exact ⟨_, _, rfl⟩) | (with_reducible refine chk21 i harg5 hG ?_; exact ⟨_, _, rfl⟩) | (with_reducible refine chk22 i harg5 hG ?_; exact ⟨_, _, rfl⟩) | (with_reducible refine chk23 i harg5 hG ?_; exact ⟨_, _, rfl⟩) | (with_reducible refine chk24 i harg5 hG ?_; exact ⟨_, _, rfl⟩) | (with_reducible refine chk25 i harg5 hG ?_; exact ⟨_, _, rfl⟩) | (with_reducible refine chk26 i harg5 hG ?_; exact ⟨_, _, rfl⟩) | (with_reducible refine chk27 i harg1 hS ?_; exact ⟨_, _, rfl⟩) | (with_reducible refine chk28 i harg5 hG ?_; exact ⟨_, _, rfl⟩) | (with_reducible refine chk29 i harg1 hS ?_; exact ⟨_, _, rfl⟩) | (with_reducible refine chk30 i harg5 hG ?_; exact ⟨_, _, rfl⟩) | (with_reducible refine chk31 i harg1 hS ?_; exact ⟨_, _, rfl⟩) | (with_reducible refine chk32 i harg5 hG ?_; exact ⟨_, _, rfl⟩) | (with_reducible refine chk33 i harg1 hS ?_; exact ⟨_, _, rfl⟩) | (with_reducible refine chk34 i harg5 hG ?_; exact ⟨_, _, rfl⟩) | (with_reducible refine chk35 i harg1 hS ?_; exact ⟨_, _, rfl⟩) | (with_reducible refine chk36 harg5 hG ?_; exact ⟨_, _, rfl⟩) | (with_reducible refine chk37 i harg1 hS ?_; exact ⟨_, _, rfl⟩) | (with_reducible refine chk38 harg5 hG ?_; exact ⟨_, _, rfl⟩) | (with_reducible refine chk39 i harg1 hS ?_; exact ⟨_, _, rfl⟩) | (with_reducible refine chk40 harg5 hG ?_; exact ⟨_, _, rfl⟩) | (with_reducible refine chk41 i harg1 hS ?_; exact ⟨_, _, rfl⟩) | (with_reducible refine chk42 harg5 hG ?_; exact ⟨_, _, rfl⟩) | (with_reducible refine chk43 i harg1 hS ?_; exact ⟨_, _, rfl⟩) | (with_reducible refine chk44 harg5 hG ?_; exact ⟨_, _, rfl⟩) | (with_reducible refine chk45 i harg1 hS ?_; exact ⟨_, _, rfl⟩))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexact H11
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    iexists _; iexact HW

end Cert.KernelIdeal.Own

end
-- ==== Proof.Ideal.RunB.lean ====
/- The kernel body run at a later point of the grid, on whole staging memrefs: what its stores leave in each buffer, as pieces, with the proof that it runs there. -/
module

public import proofs.«01_k».proof.Proof.Ideal.Base

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (Pipeline.UD sig nD τ) ℕ

set_option maxHeartbeats 40000000 in set_option sl_exec.dmaWindow true in set_option sl_exec.dmaWindowSet true in set_option sl_exec.lendShare "Hh0 Hh1" in set_option sl_exec.rejoinFuel 200 in set_option sl_exec.rejoinHeartbeats 2000000 in
/-- What the body's stores leave in each buffer, as pieces, last first, at a later point, with the proof that the
    body runs: the inputs and the pools come back as they were, the DMA cells at zero. -/
noncomputable def runB (c : Dev nD) (i : grid0.Coords) (hc0 : ¬cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole) (arg6 : Memref sig .tc .vmem S256x2560 .bf16) (harg6 : arg6.IsWhole) (arg7 : Memref sig .tc .vmem S320x1024 .i32) (harg7 : arg7.IsWhole) (arg8 : Memref sig .tc .vmem S20x1024 .bf16) (harg8 : arg8.IsWhole) (arg11 : Memref sig .tc .vmem S256x1024 .bf16) (harg11 : arg11.IsWhole) (arg12 : Memref sig .tc .vmem S256x32 .bf16) (harg12 : arg12.IsWhole) (arg13 : Memref sig .tc .vmem S256x1024 .fp8e4m3) (harg13 : arg13.IsWhole) (arg14 : Memref sig .tc .vmem S256x80 .f32) (harg14 : arg14.IsWhole) (arg15 : Memref sig .tc .vmem S256x2816 .bf16) (harg15 : arg15.IsWhole) (arg16 : Memref sig .tc .vmem S2816x1024 .bf16) (harg16 : arg16.IsWhole) (arg17 : Memref sig .tc .vmem S256x2560 .bf16) (harg17 : arg17.IsWhole)
    (x0 : Vec F S9 .i32) (x1 : Vec F S9 .i32) (x2 : Vec F S9 .f32) (x3 : Vec F S6 .i32) (x4 : Vec F S5 .i32) (x5 : Vec F S256x2560 .bf16) (x6 : Vec F S320x1024 .i32) (x7 : Vec F S20x1024 .bf16)
    (xo9 : Vec F S256x32 .bf16) (xo11 : Vec F S256x80 .f32) (xs0 : Vec F S256x2816 .bf16) (xs1 : Vec F S2816x1024 .bf16) (fh0 : HbBuf0 (F := F) c hbM0_0) (fh1 : HbBuf0 (F := F) c hbM0_1)
    (hS : ∀ j, (x0 j : BitVec 32).toNat ≤ 368) (hG : ∀ j, (x4 j : BitVec 32).toNat < 9) :
    Σ' (L8 : List (View.Piece (Elt F) S256x1024 .bf16)), Σ' (L10 : List (View.Piece (Elt F) S256x1024 .fp8e4m3)), Σ' (L11 : List (View.Piece (Elt F) S256x80 .f32)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d) ∗ owns (c : Thread nD τ) arg12 fullShare xo9 ∗ (∃ d, owns (c : Thread nD τ) arg13 fullShare d) ∗ owns (c : Thread nD τ) arg14 fullShare xo11 ∗ owns (c : Thread nD τ) arg15 fullShare xs0 ∗ owns (c : Thread nD τ) arg16 fullShare xs1 ∗ (∃ d, owns (c : Thread nD τ) arg17 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8) ∗ owns (c : Thread nD τ) arg12 fullShare xo9 ∗ (∃ f, arg13.view.loc (c : Thread nD τ) ↦[arg13.view.set]{fullShare} arg13.view.writes (Elt F) f L10) ∗ (arg14.view.loc (c : Thread nD τ) ↦[arg14.view.set]{fullShare} arg14.view.writes (Elt F) (harg14.unread xo11) L11) ∗ owns (c : Thread nD τ) arg15 fullShare xs0 ∗ (arg16.view.loc (c : Thread nD τ) ↦[arg16.view.set]{fullShare} arg16.view.writes (Elt F) (harg16.unread xs1) LS1) ∗ (∃ d, owns (c : Thread nD τ) arg17 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_multi_lora i arg1 harg1 arg2 harg2 arg3 harg3 arg4 harg4 arg5 harg5 arg6 harg6 arg7 harg7 arg8 harg8 (Memref.whole main_arg3) (Memref.isWhole_whole _) (Memref.whole main_arg4) (Memref.isWhole_whole _) arg11 harg11 arg12 harg12 arg13 harg13 arg14 harg14 arg15 harg15 arg16 harg16 arg17 harg17 cc0_scratch3 cc0_scratch4) K } := by
  refine ⟨?_, ?_, ?_, ?_, fun W K => ?run⟩
  case run =>
    simp only [cc0_multi_lora_eq_skeleton]; unfold cc0_multi_lora_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%fs0, %hfs0, HS0⟩, ⟨%fs1, %hfs1, HS1⟩, ⟨%ds2, %fs2, -, HS2⟩, Hq0, Hq1, Hq2, Hq3, Hq4, Hq5, Hq6, Hq7, Hq8, Hq9, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hf9; obtain rfl := harg14.eq_unread hf11; obtain rfl := harg15.eq_unread hfs0; obtain rfl := harg16.eq_unread hfs1
    sl_exec (disch := first | sl_exact hc0 | (with_reducible refine chk1 harg5 hG ?_; exact ⟨_, _, rfl⟩) | (with_reducible refine chk2 i harg1 hS ?_; exact ⟨_, _, rfl⟩) | (with_reducible refine chk3 harg5 hG ?_; exact ⟨_, _, rfl⟩) | (with_reducible refine chk4 i harg1 hS ?_; exact ⟨_, _, rfl⟩) | (with_reducible refine chk5 harg5 hG ?_; exact ⟨_, _, rfl⟩) | (with_reducible refine chk6 i harg1 hS ?_; exact ⟨_, _, rfl⟩) | (with_reducible refine chk7 harg5 hG ?_; exact ⟨_, _, rfl⟩) | (with_reducible refine chk8 i harg1 hS ?_; exact ⟨_, _, rfl⟩) | (with_reducible refine chk9 harg5 hG ?_; exact ⟨_, _, rfl⟩) | (with_reducible refine chk10 i harg1 hS ?_; exact ⟨_, _, rfl⟩) | (with_reducible refine chk36 harg5 hG ?_; exact ⟨_, _, rfl⟩) | (with_reducible refine chk37 i harg1 hS ?_; exact ⟨_, _, rfl⟩) | (with_reducible refine chk38 harg5 hG ?_; exact ⟨_, _, rfl⟩) | (with_reducible refine chk39 i harg1 hS ?_; exact ⟨_, _, rfl⟩) | (with_reducible refine chk40 harg5 hG ?_; exact ⟨_, _, rfl⟩) | (with_reducible refine chk41 i harg1 hS ?_; exact ⟨_, _, rfl⟩) | (with_reducible refine chk42 harg5 hG ?_; exact ⟨_, _, rfl⟩) | (with_reducible refine chk43 i harg1 hS ?_; exact ⟨_, _, rfl⟩) | (with_reducible refine chk44 harg5 hG ?_; exact ⟨_, _, rfl⟩) | (with_reducible refine chk45 i harg1 hS ?_; exact ⟨_, _, rfl⟩))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg12.read_unread _
      iexact H9
    isplitl [H10]; · iexists _; iexact H10
    isplitl [H11]; · iexact H11
    isplitl [HS0]
    · iexists _; isplitr; · ipureintro; exact harg15.read_unread _
      iexact HS0
    isplitl [HS1]; · iexact HS1
    isplitl [HS2]
    · iexists _, _; isplitr; swap; · iexact HS2
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    iexists _; iexact HW

end Cert.KernelIdeal.Own

end
-- ==== Proof.Ideal.Frame.lean ====
/- The two runs of the body put together into a launch whose outputs are not named: the kernel ends, leaves its arguments unchanged and every semaphore at zero, whenever the words that pick its DMA windows are in range. -/
module

public import proofs.«01_k».proof.Proof.Ideal.RunA
public import proofs.«01_k».proof.Proof.Ideal.RunB
public import Idealize.ShloMosaic.Lib.Claim
public import Idealize.ShloMosaic.Lib.Pipeline.FrameBody

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Input window 0's staging buffer holds its block at every point, whatever proof data stages it. -/
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whatever proof data stages it. -/
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whatever proof data stages it. -/
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whatever proof data stages it. -/
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whatever proof data stages it. -/
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whatever proof data stages it. -/
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whatever proof data stages it. -/
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whatever proof data stages it. -/
theorem before_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- What the words that pick the DMA windows must satisfy: every adapter's start row leaves room for its rank, and
    every segment names one of the nine adapters. -/
def WordsOK : Prop := ∀ c : Dev nD,
  (∀ j, (m ((c : Thread nD τ).loc main_arg5) j : BitVec 32).toNat ≤ 368) ∧ ∀ j, (m ((c : Thread nD τ).loc main_arg9) j : BitVec 32).toNat < 9

theorem starts_ok {m : (ℓ : Loc nD τ sig) → Buf (Elt F) ℓ} (h : WordsOK m) (c : Dev nD) (t : Fin cfg0.N) (j) : (iblk m c 0 t j : BitVec 32).toNat ≤ 368 := by
  show (V m c main_arg5 _ : BitVec 32).toNat ≤ 368
  rw [V_main_arg5]; exact (h c).1 _

theorem segs_ok {m : (ℓ : Loc nD τ sig) → Buf (Elt F) ℓ} (h : WordsOK m) (c : Dev nD) (t : Fin cfg0.N) (j) : (iblk m c 4 t j : BitVec 32).toNat < 9 := by
  show (V m c main_arg9 _ : BitVec 32).toNat < 9
  rw [V_main_arg9]; exact (h c).2 _

/-- The output windows, of which the frame says nothing. -/
def forgets : Fin 12 → Bool := fun w => w.val == 8 || w.val == 9 || w.val == 10 || w.val == 11

/-- The proof data of the pipeline on core `c`: the arrays as the region finds them; after the body each input's buffer at
    its block and the outputs unnamed; the scratch, the DMA cells and the pools in the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before_0 m (dats m 0 c) (A_eq m c 0) (after0_0 m c) t d
theorem before0_1 (c : Dev nD) (t : Fin cfg0.N) (d) : (dats m 0 c).before 1 t d = iblk m c 1 t :=
  before_1 m (dats m 0 c) (A_eq m c 1) (after0_1 m c) t d
theorem before0_2 (c : Dev nD) (t : Fin cfg0.N) (d) : (dats m 0 c).before 2 t d = iblk m c 2 t :=
  before_2 m (dats m 0 c) (A_eq m c 2) (after0_2 m c) t d
theorem before0_3 (c : Dev nD) (t : Fin cfg0.N) (d) : (dats m 0 c).before 3 t d = iblk m c 3 t :=
  before_3 m (dats m 0 c) (A_eq m c 3) (after0_3 m c) t d
theorem before0_4 (c : Dev nD) (t : Fin cfg0.N) (d) : (dats m 0 c).before 4 t d = iblk m c 4 t :=
  before_4 m (dats m 0 c) (A_eq m c 4) (after0_4 m c) t d
theorem before0_5 (c : Dev nD) (t : Fin cfg0.N) (d) : (dats m 0 c).before 5 t d = iblk m c 5 t :=
  before_5 m (dats m 0 c) (A_eq m c 5) (after0_5 m c) t d
theorem before0_6 (c : Dev nD) (t : Fin cfg0.N) (d) : (dats m 0 c).before 6 t d = iblk m c 6 t :=
  before_6 m (dats m 0 c) (A_eq m c 6) (after0_6 m c) t d
theorem before0_7 (c : Dev nD) (t : Fin cfg0.N) (d) : (dats m 0 c).before 7 t d = iblk m c 7 t :=
  before_7 m (dats m 0 c) (A_eq m c 7) (after0_7 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

theorem leaves_0 (c : Dev nD) (t : Fin cfg0.N) : (dats m 0 c).leavesExact 0 t = owns (c : Thread nD τ) (ms0_0 t) fullShare (iblk m c 0 t) := by
  rw [← after0_0]
theorem leaves_1 (c : Dev nD) (t : Fin cfg0.N) : (dats m 0 c).leavesExact 1 t = owns (c : Thread nD τ) (ms0_1 t) fullShare (iblk m c 1 t) := by
  rw [← after0_1]
theorem leaves_2 (c : Dev nD) (t : Fin cfg0.N) : (dats m 0 c).leavesExact 2 t = owns (c : Thread nD τ) (ms0_2 t) fullShare (iblk m c 2 t) := by
  rw [← after0_2]
theorem leaves_3 (c : Dev nD) (t : Fin cfg0.N) : (dats m 0 c).leavesExact 3 t = owns (c : Thread nD τ) (ms0_3 t) fullShare (iblk m c 3 t) := by
  rw [← after0_3]
theorem leaves_4 (c : Dev nD) (t : Fin cfg0.N) : (dats m 0 c).leavesExact 4 t = owns (c : Thread nD τ) (ms0_4 t) fullShare (iblk m c 4 t) := by
  rw [← after0_4]
theorem leaves_5 (c : Dev nD) (t : Fin cfg0.N) : (dats m 0 c).leavesExact 5 t = owns (c : Thread nD τ) (ms0_5 t) fullShare (iblk m c 5 t) := by
  rw [← after0_5]
theorem leaves_6 (c : Dev nD) (t : Fin cfg0.N) : (dats m 0 c).leavesExact 6 t = owns (c : Thread nD τ) (ms0_6 t) fullShare (iblk m c 6 t) := by
  rw [← after0_6]
theorem leaves_7 (c : Dev nD) (t : Fin cfg0.N) : (dats m 0 c).leavesExact 7 t = owns (c : Thread nD τ) (ms0_7 t) fullShare (iblk m c 7 t) := by
  rw [← after0_7]

/-- A buffer held at written contents is owned at some contents. -/
theorem anyOf {c : Dev nD} {sp : Space} {s : Shape} {e : EltTy} {M : Memref sig .tc sp s e} {f} :
    (M.view.loc (c : Thread nD τ) ↦[M.view.set]{fullShare} f : sProp 𝕄) ⊢ iprop(∃ d, owns (c : Thread nD τ) M fullShare d) := by
  unfold owns
  iintro H
  iexists _, f
  isplitr
  · ipureintro; rfl
  iexact H

set_option maxHeartbeats 4800000 in
set_option maxRecDepth 131072 in
/-- The body at any point: the inputs' memrefs hold their blocks; the first point takes one run, the others the other. -/
theorem sound_body (hOK : WordsOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves_0, leaves_1, leaves_2, leaves_3, leaves_4, leaves_5, leaves_6, leaves_7]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  by_cases h0 : t.val % 10 = 0
  · iintro ⟨⟨⟨HS0, HS1, HS2⟩, Hg, ⟨Hq0, Hq1, Hq2, Hq3, Hq4, Hq5, Hq6, Hq7, Hq8, Hq9⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) ((hcond0_0 t).mpr h0) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t)).2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HW]; · iexact HW
    iintro ⟨H0, H1, H2, H3, H4, H5, H6, H7, ⟨%fh8, H8⟩, ⟨%fh9, H9⟩, ⟨%fh10, H10⟩, H11, ⟨%fhs0, HS0⟩, ⟨%fhs1, HS1⟩, ⟨%fhs2, HS2⟩, Hq0, Hq1, Hq2, Hq3, Hq4, Hq5, Hq6, Hq7, Hq8, Hq9, Hh0, Hh1, ⟨%W', HW'⟩⟩
    isplitl [HS0 HS1 HS2 Hg Hq0 Hq1 Hq2 Hq3 Hq4 Hq5 Hq6 Hq7 Hq8 Hq9 Hh0 Hh1]
    · isplitl [HS0 HS1 HS2]
      · isplitl [HS0]
        · iapply anyOf; iexact HS0
        isplitl [HS1]
        · iapply anyOf; iexact HS1
        iapply anyOf; iexact HS2
      isplitl [Hg]
      · iexact Hg
      isplitl [Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply anyOf; iexact H8
    isplitl [H9]
    · iapply anyOf; iexact H9
    isplitl [H10]
    · iapply anyOf; iexact H10
    iapply anyOf; iexact H11
  · iintro ⟨⟨⟨HS0, HS1, HS2⟩, Hg, ⟨Hq0, Hq1, Hq2, Hq3, Hq4, Hq5, Hq6, Hq7, Hq8, Hq9⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    icases HS0 with ⟨%e0, HS0⟩
    icases HS1 with ⟨%e1, HS1⟩
    iapply ((runB c (grid0.coords t) (fun h => h0 ((hcond0_0 t).mp h)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d9 d11 e0 e1 (V m c main_arg3) (V m c main_arg4) (starts_ok hOK c t) (segs_ok hOK c t)).2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HW]; · iexact HW
    iintro ⟨H0, H1, H2, H3, H4, H5, H6, H7, ⟨%fh8, H8⟩, H9, ⟨%fh10, H10⟩, H11, HS0, HS1, HS2, Hq0, Hq1, Hq2, Hq3, Hq4, Hq5, Hq6, Hq7, Hq8, Hq9, Hh0, Hh1, ⟨%W', HW'⟩⟩
    isplitl [HS0 HS1 HS2 Hg Hq0 Hq1 Hq2 Hq3 Hq4 Hq5 Hq6 Hq7 Hq8 Hq9 Hh0 Hh1]
    · isplitl [HS0 HS1 HS2]
      · isplitl [HS0]
        · iexists _; iexact HS0
        isplitl [HS1]
        · iapply anyOf; iexact HS1
        iexact HS2
      isplitl [Hg]
      · iexact Hg
      isplitl [Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply anyOf; iexact H8
    isplitl [H9]
    · iexists _; iexact H9
    isplitl [H10]
    · iapply anyOf; iexact H10
    iapply anyOf; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's triple, as the launch asks for it. -/
theorem body_obligation (hOK : WordsOK m) (c : Dev nD) : BodyObligation (dats (F := F) m 0 c) (defs₀ (F := F)) Variants.none () Set.univ forgets := fun t => by
  rw [bigSep_W0, bigSep_W0, defs₀_row]
  exact triple_restated (sound_body m hOK c t) rfl .rfl fun _ => .rfl

set_option backward.isDefEq.respectTransparency.types false in
set_option maxHeartbeats 800000 in
/-- The launch, and every semaphore counter at zero at every final state. -/
theorem run_main (hOK : WordsOK m) : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_dma_forget (Q' := _) cfgs (dats m) (0 : Fin 1) launch0 osem0 defs₀ Variants.none forgets ownSemFacts0 H0 H0_sub m ρ main
    (hbody := fun c => (body_obligation m hOK c).loose) (hshare := fun c => (dats m 0 c).share_full fun _ => rfl)
    (howed := fun _ _ => rfl) (V := V m)
    (hmain := hmainD m Variants.none) (hA := A_eq m) (hin := fun _ => .rfl) (hout := fun _ => .rfl)

/-- THE FRAME: the run ends, the argument arrays end unchanged, every semaphore counter ends at zero. -/
theorem frame (hOK : WordsOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 6 rfl).trans ((A_eq m c 6).trans (V_main_arg1 m c)),
      (h.1.arr_in c 7 rfl).trans ((A_eq m c 7).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c)),
      (h.1.arr_in c 1 rfl).trans ((A_eq m c 1).trans (V_main_arg6 m c)),
      (h.1.arr_in c 2 rfl).trans ((A_eq m c 2).trans (V_main_arg7 m c)),
      (h.1.arr_in c 3 rfl).trans ((A_eq m c 3).trans (V_main_arg8 m c)),
      (h.1.arr_in c 4 rfl).trans ((A_eq m c 4).trans (V_main_arg9 m c))⟩, h.2⟩) (run_main m ρ hOK)

end Cert.KernelIdeal.Own

end
-- ==== Proof.Math.Lora.lean ====
/- The low-rank part of the problem over plain functions. The kernel loads for each of the five segments a window of 48 pool rows that begins at the adapter's first slot rounded down to a multiple of 16 and at most 352, multiplies all 240 rows at once and keeps of each token only its own adapter's columns. The problem's text takes per segment the 32 rows from the first slot. The two agree. -/
module

public import Mathlib.Data.EReal.Operations
public import Mathlib.Algebra.BigOperators.Fin
public import Mathlib.Tactic.FinCases
public import Mathlib.Tactic.Linarith
public import Mathlib.Tactic.Push

@[expose] public section

noncomputable section

namespace Cert.Lora

/-- The words that govern the low-rank part, as numbers: per segment its adapter's first slot, rank and scaling; the offsets at which the segments begin and end. -/
structure Words where
  st : Fin 5 → ℕ
  rk : Fin 5 → ℤ
  sc : Fin 5 → EReal
  off : Fin 6 → ℤ

variable (W : Words)

structure Words.Ok : Prop where
  st_le : ∀ s, W.st s ≤ 368
  rk_le : ∀ s, W.rk s ≤ 32
  off_le : ∀ s : Fin 5, W.off s.castSucc ≤ W.off s.succ

/-- Token `r` lies in segment `s`. -/
def inside (r : Fin 256) (s : Fin 5) : Prop := W.off s.castSucc ≤ (r.val : ℤ) ∧ (r.val : ℤ) < W.off s.succ
/-- The pool row at which segment `s`'s window begins. -/
def base (s : Fin 5) : ℕ := min (16 * (W.st s / 16)) 352
/-- The stacked window row that holds the first row of segment `s`'s adapter. -/
def first (s : Fin 5) : ℕ := 48 * s.val + (W.st s - base W s)
/-- The segment whose window stacked row `c` lies in. -/
def segOf (c : ℕ) : Fin 5 := ⟨min (c / 48) 4, by omega⟩
/-- The pool row that stacked window row `c` holds. -/
def rowOf (c : ℕ) : ℕ := base W (segOf c) + c % 48
/-- Token `r` keeps the stacked column `c`. -/
def keep (r : Fin 256) (c : ℕ) : Prop := ∃ s, inside W r s ∧ first W s ≤ c ∧ (c : ℤ) < first W s + W.rk s
open Classical in
/-- The scaling token `r` uses: of the last segment it lies in, zero if it lies in none. -/
def gain (r : Fin 256) : EReal :=
  if inside W r 4 then W.sc 4 else if inside W r 3 then W.sc 3 else if inside W r 2 then W.sc 2
    else if inside W r 1 then W.sc 1 else if inside W r 0 then W.sc 0 else 0

variable {κ : Type} [Fintype κ] (x : Fin 256 → κ → EReal) (pa : ℕ → κ → EReal) (pb : ℕ → EReal)

open Classical in
/-- The kernel's scaled and masked product of token `r` with the stacked window row `c`. -/
def hd (r : Fin 256) (c : ℕ) : EReal :=
  if keep W r c then (∑ k, x r k * (if c < 240 then pa (rowOf W c) k else 0)) * gain W r else 0
open Classical in
/-- Stacked row `c` holds row `j` of some segment's adapter: one if it does, zero if not. -/
def sel (c : ℕ) (j : Fin 32) : EReal := if ∃ s, c = first W s + j.val then 1 else 0
open Classical in
/-- The problem's low-rank activations. -/
def lora (r : Fin 256) (j : Fin 32) : EReal :=
  ∑ s, if inside W r s ∧ (j.val : ℤ) < W.rk s then (∑ k, x r k * pa (W.st s + j.val) k) * W.sc s else 0
open Classical in
/-- The problem's low-rank addend at one output column. -/
def delta (r : Fin 256) : EReal :=
  ∑ s, if inside W r s then ∑ j, lora W x pa r j * pb (W.st s + j.val) else 0

variable {W}

theorem off_mono (h : W.Ok) : Monotone W.off := Fin.monotone_iff_le_succ.mpr h.off_le

/-- A token lies in at most one segment. -/
theorem inside_unique (h : W.Ok) {r : Fin 256} {s s' : Fin 5} (a : inside W r s) (b : inside W r s') : s = s' := by
  by_contra hne
  rcases lt_or_gt_of_ne hne with hlt | hlt
  · have : W.off s.succ ≤ W.off s'.castSucc := off_mono h (by rw [Fin.le_def]; simp; omega)
    have := a.2; have := b.1; omega
  · have : W.off s'.succ ≤ W.off s.castSucc := off_mono h (by rw [Fin.le_def]; simp; omega)
    have := b.2; have := a.1; omega

theorem gain_eq (h : W.Ok) {r : Fin 256} {s : Fin 5} (a : inside W r s) : gain W r = W.sc s := by
  have hn : ∀ s', s' ≠ s → ¬ inside W r s' := fun s' hne hs => hne (inside_unique h hs a)
  unfold gain
  match s, a, hn with
  | 0, a, hn => rw [if_neg (hn 4 (by decide)), if_neg (hn 3 (by decide)), if_neg (hn 2 (by decide)), if_neg (hn 1 (by decide)), if_pos a]
  | 1, a, hn => rw [if_neg (hn 4 (by decide)), if_neg (hn 3 (by decide)), if_neg (hn 2 (by decide)), if_pos a]
  | 2, a, hn => rw [if_neg (hn 4 (by decide)), if_neg (hn 3 (by decide)), if_pos a]
  | 3, a, hn => rw [if_neg (hn 4 (by decide)), if_pos a]
  | 4, a, hn => rw [if_pos a]

theorem base_le (h : W.Ok) (s : Fin 5) : base W s ≤ W.st s ∧ W.st s ≤ base W s + 16 := by
  have := h.st_le s; unfold base; omega

theorem first_bounds (h : W.Ok) (s : Fin 5) : 48 * s.val ≤ first W s ∧ first W s ≤ 48 * s.val + 16 := by
  have := base_le h s; unfold first; omega

/-- Row `j` of segment `s`'s adapter, found in the stack. -/
theorem rowOf_first (h : W.Ok) (s : Fin 5) (j : Fin 32) :
    first W s + j.val < 240 ∧ rowOf W (first W s + j.val) = W.st s + j.val := by
  have hb := base_le h s
  have hf := first_bounds h s
  have hs := s.isLt
  have hj := j.isLt
  have e : segOf (first W s + j.val) = s := by
    apply Fin.ext; show min _ 4 = _; omega
  refine ⟨by omega, ?_⟩
  rw [rowOf, e]
  unfold first
  omega

theorem hd_of_outside {r : Fin 256} (hn : ∀ s, ¬ inside W r s) (c : ℕ) : hd W x pa r c = 0 := by
  rw [hd, if_neg]; rintro ⟨s, hs, -⟩; exact hn s hs

theorem lora_of_inside (h : W.Ok) {r : Fin 256} {s : Fin 5} (a : inside W r s) (j : Fin 32) :
    lora W x pa r j = hd W x pa r (first W s + j.val) := by
  classical
  obtain ⟨h1, h2⟩ := rowOf_first h s j
  unfold lora
  rw [Finset.sum_eq_single s]
  · unfold hd
    rw [gain_eq h a]
    by_cases hj : (j.val : ℤ) < W.rk s
    · rw [if_pos ⟨a, hj⟩, if_pos ⟨s, a, by omega, by push_cast; omega⟩]
      simp only [if_pos h1, h2]
    · rw [if_neg (fun hh => hj hh.2), if_neg]
      rintro ⟨s', hs', -, hlt⟩
      obtain rfl := inside_unique h hs' a
      push_cast at hlt; omega
  · intro s' _ hne
    rw [if_neg (fun hh => hne (inside_unique h hh.1 a))]
  · intro hh; exact absurd (Finset.mem_univ _) hh

theorem lora_of_outside {r : Fin 256} (hn : ∀ s, ¬ inside W r s) (j : Fin 32) : lora W x pa r j = 0 := by
  unfold lora
  exact Finset.sum_eq_zero fun s _ => if_neg fun hh => hn s hh.1

/-- A kept column lies among the adapter's 32. -/
theorem keep_col (h : W.Ok) {r : Fin 256} {s : Fin 5} (a : inside W r s) {c : ℕ} (hk : keep W r c) :
    ∃ j : Fin 32, c = first W s + j.val := by
  obtain ⟨s', hs', h1, h2⟩ := hk
  obtain rfl := inside_unique h hs' a
  have := h.rk_le s'
  exact ⟨⟨c - first W s', by omega⟩, by simp; omega⟩

/-- The kernel's selection of its own columns gives the problem's low-rank activations. -/
theorem sum_sel (h : W.Ok) (r : Fin 256) (j : Fin 32) :
    ∑ c : Fin 256, hd W x pa r c.val * sel W c.val j = lora W x pa r j := by
  classical
  by_cases hin : ∃ s, inside W r s
  · obtain ⟨s, a⟩ := hin
    rw [lora_of_inside x pa h a]
    obtain ⟨h1, -⟩ := rowOf_first h s j
    rw [Finset.sum_eq_single (⟨first W s + j.val, by omega⟩ : Fin 256)]
    · rw [sel, if_pos ⟨s, rfl⟩, mul_one]
    · intro c _ hne
      by_cases hk : keep W r c.val
      · rw [sel, if_neg, mul_zero]
        rintro ⟨s', e'⟩
        obtain ⟨j', e⟩ := keep_col h a hk
        have b1 := first_bounds h s
        have b2 := first_bounds h s'
        have hj := j.isLt
        have hj' := j'.isLt
        have : s' = s := by apply Fin.ext; omega
        subst this
        exact hne (Fin.ext e')
      · rw [hd, if_neg hk, zero_mul]
    · intro hh; exact absurd (Finset.mem_univ _) hh
  · have hn : ∀ s, ¬ inside W r s := fun s hs => hin ⟨s, hs⟩
    rw [lora_of_outside x pa hn]
    exact Finset.sum_eq_zero fun c _ => by rw [hd_of_outside x pa hn, zero_mul]

/-- The kernel's product with the stacked windows of the second factor gives the problem's low-rank addend. -/
theorem sum_windows (h : W.Ok) (r : Fin 256) :
    ∑ c : Fin 256, hd W x pa r c.val * (if c.val < 240 then pb (rowOf W c.val) else 0) = delta W x pa pb r := by
  classical
  by_cases hin : ∃ s, inside W r s
  · obtain ⟨s, a⟩ := hin
    unfold delta
    rw [Finset.sum_eq_single s]
    · rw [if_pos a]
      symm
      refine Finset.sum_of_injOn (fun j : Fin 32 => (⟨first W s + j.val, by have := (rowOf_first h s j).1; omega⟩ : Fin 256)) ?_ ?_ ?_ ?_
      · intro j _ j' _ e
        have := congrArg Fin.val e
        simp at this
        exact Fin.ext this
      · intro j _; exact Finset.mem_coe.mpr (Finset.mem_univ _)
      · intro c _ hc
        rw [hd, if_neg, zero_mul]
        intro hk
        obtain ⟨j, e⟩ := keep_col h a hk
        exact hc ⟨j, Finset.mem_coe.mpr (Finset.mem_univ _), Fin.ext e.symm⟩
      · intro j _
        obtain ⟨h1, h2⟩ := rowOf_first h s j
        simp only [if_pos h1, h2, lora_of_inside x pa h a]
    · intro s' _ hne
      rw [if_neg (fun hh => hne (inside_unique h hh a))]
    · intro hh; exact absurd (Finset.mem_univ _) hh
  · have hn : ∀ s, ¬ inside W r s := fun s hs => hin ⟨s, hs⟩
    unfold delta
    rw [Finset.sum_eq_zero fun c _ => by rw [hd_of_outside x pa hn, zero_mul]]
    exact (Finset.sum_eq_zero fun s _ => if_neg (hn s)).symm

end Cert.Lora
-- ==== Proof.Ideal.Words.lean ====
/- The scalar words the kernel loads, as entries of the arrays it was given. -/
module

public import proofs.«01_k».proof.Proof.Ideal.RunA
public import proofs.«01_k».proof.Proof.Ideal.RunB
public import proofs.«01_k».proof.Proof.Math.Lora
public import Idealize.ShloMosaic.Lib.Pointwise
public import Idealize.ShloMosaic.Lib.ValueIdx

@[expose] public section

set_option maxRecDepth 16384

noncomputable section

namespace Cert.KernelIdeal.Own

open Idealize.ShloMosaic Idealize.ShloMosaic.TcCoe
open Cert.KernelIdeal Cert.KernelIdeal.Gen

variable {e : EltTy}

/-- One word loaded of a list of words. -/
theorem word_load {n : ℕ} {m : Memref sig .tc .smem ⟨1, ![n]⟩ e} (h : m.IsWhole) (x : Vec Ideal ⟨1, ![n]⟩ e) (k : ℕ)
    (inb : ∀ a, (![k] : Fin 1 → ℕ) a + S1.size a ≤ (⟨1, ![n]⟩ : Shape).size a) (j : S1.Idx) :
    View.readAt (Elt Ideal) m.view (Rect.unit (s := ⟨1, ![n]⟩) ![k] S1.size inb).toLoadRect (h.unread x) j = x (ix1 ⟨k, inb 0⟩) := by
  rw [Memref.IsWhole.readAt_unread]
  congr 1
  funext a
  apply Fin.ext
  have ha : a = 0 := Fin.fin_one_eq_zero a
  subst ha
  have hj : (j 0).val = 0 := Nat.lt_one_iff.mp (j 0).isLt
  show k + 1 * (j 0).val = k
  omega

/-- The entry of a per-adapter list that segment `s` uses. -/
def lookup {α : Type} (x : S9.Idx → α) (x4 : Vec Ideal S5 .i32) (s : Fin 5) : α :=
  x (ix1 ⟨(x4 (ix1 s) : BitVec 32).toNat % 9, Nat.mod_lt _ (by decide)⟩)

/-- A load from a per-adapter list at a segment's adapter. -/
theorem word_at {m : Memref sig .tc .smem S9 e} (h : m.IsWhole) (x : Vec Ideal S9 e) (x4 : Vec Ideal S5 .i32)
    (s : Fin 5) {w : BitVec 32} (hw : w = x4 (ix1 s))
    (inb : ∀ a, (![(Scalar.indexCast w).toNat] : Fin 1 → ℕ) a + S1.size a ≤ S9.size a) (j : S1.Idx) :
    View.readAt (Elt Ideal) m.view (Rect.unit (s := S9) ![(Scalar.indexCast w).toNat] S1.size inb).toLoadRect (h.unread x) j
      = lookup x x4 s := by
  rw [word_load h x _ inb j]
  unfold lookup
  congr 2
  apply Fin.ext
  have h9 : w.toNat + 1 ≤ 9 := inb 0
  show w.toNat = (x4 (ix1 s) : BitVec 32).toNat % 9
  rw [hw] at h9 ⊢
  omega

/-- The words that govern the low-rank part, of the arrays the kernel reads. -/
def wordsOf (x0 x1 : Vec Ideal S9 .i32) (x2 : Vec Ideal S9 .f32) (x3 : Vec Ideal S6 .i32) (x4 : Vec Ideal S5 .i32) : Lora.Words where
  st s := (lookup (α := BitVec 32) x0 x4 s).toNat
  rk s := (lookup (α := BitVec 32) x1 x4 s).toInt
  sc s := lookup (α := EReal) x2 x4 s
  off s := (x3 (ix1 s) : BitVec 32).toInt

/-! ### What comparisons of words say of numbers -/

theorem ori_one (a b : BitVec 1) : IntOp.ori a b = 1#1 ↔ a = 1#1 ∨ b = 1#1 := by revert a b; decide
theorem andi_one (a b : BitVec 1) : IntOp.andi a b = 1#1 ↔ a = 1#1 ∧ b = 1#1 := by revert a b; decide

theorem toInt_small (n : ℕ) (h : n < 1024) : (BitVec.ofNat 32 n).toInt = n := by
  rw [BitVec.toInt_eq_toNat_cond, BitVec.toNat_ofNat]
  omega

theorem sge_one (n : ℕ) (h : n < 1024) (w : BitVec 32) : IntOp.cmpi .sge (BitVec.ofNat 32 n) w = 1#1 ↔ w.toInt ≤ n := by
  have := toInt_small n h
  simp only [IntOp.cmpi, BitVec.sle]
  rw [← this]
  by_cases hc : w.toInt ≤ (BitVec.ofNat 32 n).toInt <;> simp [hc]

theorem slt_one (n : ℕ) (h : n < 1024) (w : BitVec 32) : IntOp.cmpi .slt (BitVec.ofNat 32 n) w = 1#1 ↔ (n : ℤ) < w.toInt := by
  have := toInt_small n h
  simp only [IntOp.cmpi, BitVec.slt]
  rw [← this]
  by_cases hc : (BitVec.ofNat 32 n).toInt < w.toInt <;> simp [hc]

theorem eq_one (a b : BitVec 32) : IntOp.cmpi .eq a b = 1#1 ↔ a = b := by
  simp only [IntOp.cmpi]
  by_cases hc : a = b
  · simp [hc]
  · have : (a == b) = false := by simpa using hc
    simp [this, hc]

/-- The pool row a window begins at. -/
theorem mult_toNat (w : BitVec 32) (h : w.toNat ≤ 368) : (k0_mult1 w).toNat = min (16 * (w.toNat / 16)) 352 := by
  have key : ∀ n : Fin 369, (k0_mult1 (BitVec.ofNat 32 n.val)).toNat = min (16 * (n.val / 16)) 352 := by decide +kernel
  have := key ⟨w.toNat, by omega⟩
  simpa only [BitVec.ofNat_toNat, BitVec.setWidth_eq] using this

/-- The word of a segment's first stacked row. -/
def firstWord (k : ℕ) (w : BitVec 32) : BitVec 32 :=
  IntOp.subi (IntOp.addi (BitVec.ofNat 32 k) w) (IntOp.minsi (IntOp.andi w 4294967280#32) 352#32)

theorem firstWord_toNat (k : ℕ) (hk : k ≤ 192) (w : BitVec 32) (h : w.toNat ≤ 368) :
    (firstWord k w).toNat = k + (w.toNat - min (16 * (w.toNat / 16)) 352) := by
  have e := mult_toNat w h
  have : (firstWord k w) = BitVec.ofNat 32 k + w - k0_mult1 w := rfl
  rw [this, BitVec.toNat_sub, BitVec.toNat_add, BitVec.toNat_ofNat, e]
  omega

theorem firstWord_toInt (k : ℕ) (hk : k ≤ 192) (w : BitVec 32) (h : w.toNat ≤ 368) :
    (firstWord k w).toInt = ((k + (w.toNat - min (16 * (w.toNat / 16)) 352) : ℕ) : ℤ) := by
  have e := firstWord_toNat k hk w h
  rw [BitVec.toInt_eq_toNat_cond, e]
  omega

theorem end_toInt (f rk : BitVec 32) (h0 : f.toNat ≤ 240) (h1 : rk.toInt ≤ 32) : (IntOp.addi f rk).toInt = f.toNat + rk.toInt := by
  have hf : f.toInt = f.toNat := by rw [BitVec.toInt_eq_toNat_cond]; omega
  show (f + rk).toInt = _
  rw [BitVec.toInt_add, hf]
  have h2 : -2147483648 ≤ rk.toInt := by have := BitVec.le_toInt rk; simpa using this
  rw [Int.bmod_eq_of_le] <;> omega

section Segments
variable {x0 x1 : Vec Ideal S9 .i32} {x2 : Vec Ideal S9 .f32} {x3 : Vec Ideal S6 .i32} {x4 : Vec Ideal S5 .i32}

theorem first_toNat (hS : ∀ j, (x0 j : BitVec 32).toNat ≤ 368) (s : Fin 5) :
    (firstWord (48 * s.val) (lookup (α := BitVec 32) x0 x4 s)).toNat = Lora.first (wordsOf x0 x1 x2 x3 x4) s := by
  have hs := s.isLt
  have hw : (lookup (α := BitVec 32) x0 x4 s).toNat ≤ 368 := hS _
  rw [firstWord_toNat _ (by omega) _ hw]
  rfl

/-- A token lies in segment `s`. -/
theorem inside_one (r : Fin 256) (s : Fin 5) :
    IntOp.andi (IntOp.cmpi .sge (BitVec.ofNat 32 r.val) (x3 (ix1 s.castSucc))) (IntOp.cmpi .slt (BitVec.ofNat 32 r.val) (x3 (ix1 s.succ))) = 1#1
      ↔ Lora.inside (wordsOf x0 x1 x2 x3 x4) r s := by
  have hr := r.isLt
  rw [andi_one, sge_one _ (by omega), slt_one _ (by omega)]
  rfl

/-- A token keeps a column of segment `s`'s adapter. -/
theorem keep_one (hS : ∀ j, (x0 j : BitVec 32).toNat ≤ 368) (hR : ∀ j, (x1 j : BitVec 32).toInt ≤ 32) (r n : Fin 256) (s : Fin 5) :
    IntOp.andi (IntOp.andi (IntOp.andi (IntOp.cmpi .sge (BitVec.ofNat 32 r.val) (x3 (ix1 s.castSucc))) (IntOp.cmpi .slt (BitVec.ofNat 32 r.val) (x3 (ix1 s.succ))))
        (IntOp.cmpi .sge (BitVec.ofNat 32 n.val) (firstWord (48 * s.val) (lookup (α := BitVec 32) x0 x4 s))))
      (IntOp.cmpi .slt (BitVec.ofNat 32 n.val) (IntOp.addi (firstWord (48 * s.val) (lookup (α := BitVec 32) x0 x4 s)) (lookup (α := BitVec 32) x1 x4 s))) = 1#1
      ↔ Lora.inside (wordsOf x0 x1 x2 x3 x4) r s ∧ Lora.first (wordsOf x0 x1 x2 x3 x4) s ≤ n.val
        ∧ (n.val : ℤ) < Lora.first (wordsOf x0 x1 x2 x3 x4) s + (wordsOf x0 x1 x2 x3 x4).rk s := by
  have hn := n.isLt
  have hs := s.isLt
  have e := first_toNat (x1 := x1) (x2 := x2) (x3 := x3) (x4 := x4) hS s
  have hw : (lookup (α := BitVec 32) x0 x4 s).toNat ≤ 368 := hS _
  have hle : (firstWord (48 * s.val) (lookup (α := BitVec 32) x0 x4 s)).toNat ≤ 240 := by
    rw [firstWord_toNat _ (by omega) _ hw]
    omega
  have hr' : (lookup (α := BitVec 32) x1 x4 s).toInt ≤ 32 := hR _
  have hi : (firstWord (48 * s.val) (lookup (α := BitVec 32) x0 x4 s)).toInt = Lora.first (wordsOf x0 x1 x2 x3 x4) s := by
    rw [← e, BitVec.toInt_eq_toNat_cond]; omega
  rw [andi_one, andi_one, inside_one (x0 := x0) (x1 := x1) (x2 := x2) (x4 := x4), sge_one _ (by omega), slt_one _ (by omega),
    end_toInt _ _ hle hr', hi, e, and_assoc, Nat.cast_le]
  rfl

/-- Stacked row `n` holds row `j` of segment `s`'s adapter. -/
theorem sel_one (hS : ∀ j, (x0 j : BitVec 32).toNat ≤ 368) (n : Fin 256) (j : ℕ) (hj : j < 32) (s : Fin 5) :
    IntOp.andi (IntOp.cmpi .eq (BitVec.ofNat 32 n.val) (IntOp.addi (firstWord (48 * s.val) (lookup (α := BitVec 32) x0 x4 s)) (BitVec.ofNat 32 j)))
      (IntOp.cmpi .slt (BitVec.ofNat 32 j) 32#32) = 1#1
      ↔ n.val = Lora.first (wordsOf x0 x1 x2 x3 x4) s + j := by
  have hn := n.isLt
  have hs := s.isLt
  have e := first_toNat (x1 := x1) (x2 := x2) (x3 := x3) (x4 := x4) hS s
  have hw : (lookup (α := BitVec 32) x0 x4 s).toNat ≤ 368 := hS _
  have hle : (firstWord (48 * s.val) (lookup (α := BitVec 32) x0 x4 s)).toNat ≤ 240 := by
    rw [firstWord_toNat _ (by omega) _ hw]
    omega
  rw [andi_one, eq_one, slt_one _ (by omega)]
  have h32 : (j : ℤ) < (32#32 : BitVec 32).toInt := by
    have : (32#32 : BitVec 32).toInt = 32 := by decide
    omega
  rw [← e, and_iff_left h32]
  constructor
  · intro h
    have := congrArg BitVec.toNat h
    simp only [IntOp.addi, BitVec.toNat_add, BitVec.toNat_ofNat] at this
    omega
  · intro h
    apply BitVec.eq_of_toNat_eq
    simp only [IntOp.addi, BitVec.toNat_add, BitVec.toNat_ofNat]
    omega

end Segments

end Cert.KernelIdeal.Own
-- ==== Proof.Ideal.Masks.lean ====
/- The masks and the gain the kernel forms of the segments' words: which columns a token keeps, the scaling it uses, which stacked row holds which row of an adapter. -/
module

public import proofs.«01_k».proof.Proof.Ideal.Words

@[expose] public section

set_option maxRecDepth 16384

noncomputable section

namespace Cert.KernelIdeal.Own

open Idealize.ShloMosaic Idealize.ShloMosaic.TcCoe
open Cert.KernelIdeal Cert.KernelIdeal.Gen

/-- One of the five segments has it. -/
theorem or5 (p : Fin 5 → Prop) : (((((0#1 : BitVec 1) = 1#1 ∨ p 0) ∨ p 1) ∨ p 2) ∨ p 3) ∨ p 4 ↔ ∃ s, p s := by
  constructor
  · rintro (((((h | h) | h) | h) | h) | h)
    · exact absurd h (by decide)
    all_goals exact ⟨_, h⟩
  · rintro ⟨s, h⟩
    match s, h with
    | 0, h => exact .inl (.inl (.inl (.inl (.inr h))))
    | 1, h => exact .inl (.inl (.inl (.inr h)))
    | 2, h => exact .inl (.inl (.inr h))
    | 3, h => exact .inl (.inr h)
    | 4, h => exact .inr h

section
variable (c : Dev nD) (i : grid0.Coords) (hc0 : cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole)
    (x0 x1 : Vec Ideal S9 .i32) (x2 : Vec Ideal S9 .f32) (x3 : Vec Ideal S6 .i32) (x4 : Vec Ideal S5 .i32)
    (hG : ∀ j, (x4 j : BitVec 32).toNat < 9)

/-! ### The words the masks use: per segment its adapter's first slot, rank and scaling -/

theorem start_0 : runA.sl.r_17 (F := Ideal) c i hc0 arg1 harg1 arg5 harg5 x0 x4 hG = lookup x0 x4 0 :=
  word_at harg1 x0 x4 0 (word_load harg5 x4 0 _ _) _ _
theorem start_1 : runA.sl.r_24 (F := Ideal) c i hc0 arg1 harg1 arg5 harg5 x0 x4 hG = lookup x0 x4 1 :=
  word_at harg1 x0 x4 1 (word_load harg5 x4 1 _ _) _ _
theorem start_2 : runA.sl.r_29 (F := Ideal) c i hc0 arg1 harg1 arg5 harg5 x0 x4 hG = lookup x0 x4 2 :=
  word_at harg1 x0 x4 2 (word_load harg5 x4 2 _ _) _ _
theorem start_3 : runA.sl.r_34 (F := Ideal) c i hc0 arg1 harg1 arg5 harg5 x0 x4 hG = lookup x0 x4 3 :=
  word_at harg1 x0 x4 3 (word_load harg5 x4 3 _ _) _ _
theorem start_4 : runA.sl.r_39 (F := Ideal) c i hc0 arg1 harg1 arg5 harg5 x0 x4 hG = lookup x0 x4 4 :=
  word_at harg1 x0 x4 4 (word_load harg5 x4 4 _ _) _ _
theorem rank_0 : runA.sl.r_20 (F := Ideal) c i hc0 arg2 harg2 arg5 harg5 x1 x4 hG = lookup x1 x4 0 :=
  word_at harg2 x1 x4 0 (word_load harg5 x4 0 _ _) _ _
theorem rank_1 : runA.sl.r_27 (F := Ideal) c i hc0 arg2 harg2 arg5 harg5 x1 x4 hG = lookup x1 x4 1 :=
  word_at harg2 x1 x4 1 (word_load harg5 x4 1 _ _) _ _
theorem rank_2 : runA.sl.r_31 (F := Ideal) c i hc0 arg2 harg2 arg5 harg5 x1 x4 hG = lookup x1 x4 2 :=
  word_at harg2 x1 x4 2 (word_load harg5 x4 2 _ _) _ _
theorem rank_3 : runA.sl.r_36 (F := Ideal) c i hc0 arg2 harg2 arg5 harg5 x1 x4 hG = lookup x1 x4 3 :=
  word_at harg2 x1 x4 3 (word_load harg5 x4 3 _ _) _ _
theorem rank_4 : runA.sl.r_41 (F := Ideal) c i hc0 arg2 harg2 arg5 harg5 x1 x4 hG = lookup x1 x4 4 :=
  word_at harg2 x1 x4 4 (word_load harg5 x4 4 _ _) _ _
theorem scaling_0 : runA.sl.r_21 (F := Ideal) c i hc0 arg3 harg3 arg5 harg5 x2 x4 hG = lookup x2 x4 0 :=
  word_at harg3 x2 x4 0 (word_load harg5 x4 0 _ _) _ _
theorem scaling_1 : runA.sl.r_28 (F := Ideal) c i hc0 arg3 harg3 arg5 harg5 x2 x4 hG = lookup x2 x4 1 :=
  word_at harg3 x2 x4 1 (word_load harg5 x4 1 _ _) _ _
theorem scaling_2 : runA.sl.r_32 (F := Ideal) c i hc0 arg3 harg3 arg5 harg5 x2 x4 hG = lookup x2 x4 2 :=
  word_at harg3 x2 x4 2 (word_load harg5 x4 2 _ _) _ _
theorem scaling_3 : runA.sl.r_37 (F := Ideal) c i hc0 arg3 harg3 arg5 harg5 x2 x4 hG = lookup x2 x4 3 :=
  word_at harg3 x2 x4 3 (word_load harg5 x4 3 _ _) _ _
theorem scaling_4 : runA.sl.r_42 (F := Ideal) c i hc0 arg3 harg3 arg5 harg5 x2 x4 hG = lookup x2 x4 4 :=
  word_at harg3 x2 x4 4 (word_load harg5 x4 4 _ _) _ _

/-- The columns a token keeps. -/
theorem keep_mask (hS : ∀ j, (x0 j : BitVec 32).toNat ≤ 368) (hR : ∀ j, (x1 j : BitVec 32).toInt ≤ 32) (r n : Fin 256) :
    runA.sl.v977 (F := Ideal) c i hc0 arg1 harg1 arg2 harg2 arg4 harg4 arg5 harg5 x0 x1 x3 x4 hG (ix2 r n) = 1#1
      ↔ Lora.keep (wordsOf x0 x1 x2 x3 x4) r n.val := by
  simp only [runA.sl.v977, runA.sl.v933, runA.sl.v889, runA.sl.v845, runA.sl.r_22, runA.sl.r_18, runA.sl.r_19, runA.sl.v844, runA.sl.v838, runA.sl.v835, runA.sl.v831, runA.sl.v769, runA.sl.v830, runA.sl.r_25, runA.sl.v834, runA.sl.v833, runA.sl.r_26, runA.sl.v837, runA.sl.v770, runA.sl.v836, runA.sl.v828, runA.sl.v823, runA.sl.v827, runA.sl.v826, runA.sl.v843, runA.sl.v842, runA.sl.v841, runA.sl.v888, runA.sl.v882, runA.sl.v879, runA.sl.v875, runA.sl.v878, runA.sl.v877, runA.sl.r_30, runA.sl.v881, runA.sl.v880, runA.sl.v872, runA.sl.v867, runA.sl.v871, runA.sl.v870, runA.sl.v887, runA.sl.v886, runA.sl.v885, runA.sl.v932, runA.sl.v926, runA.sl.v923, runA.sl.v919, runA.sl.v922, runA.sl.v921, runA.sl.r_35, runA.sl.v925, runA.sl.v924, runA.sl.v916, runA.sl.v911, runA.sl.v915, runA.sl.v914, runA.sl.v931, runA.sl.v930, runA.sl.v929, runA.sl.v976, runA.sl.v970, runA.sl.v967, runA.sl.v963, runA.sl.v966, runA.sl.v965, runA.sl.r_40, runA.sl.v969, runA.sl.v968, runA.sl.v960, runA.sl.v955, runA.sl.v959, runA.sl.v958, runA.sl.v975, runA.sl.v974, runA.sl.v973, k0_pay8, word_load harg4, start_0, start_1, start_2, start_3, start_4, rank_0, rank_1, rank_2, rank_3, rank_4]
  pointwise
  simp only [ori_one]
  have k := keep_one (x2 := x2) (x3 := x3) (x4 := x4) hS hR r n
  exact (or_congr (or_congr (or_congr (or_congr (or_congr .rfl (k 0)) (k 1)) (k 2)) (k 3)) (k 4)).trans (or5 fun s => Lora.inside (wordsOf x0 x1 x2 x3 x4) r s ∧ Lora.first (wordsOf x0 x1 x2 x3 x4) s ≤ n.val
    ∧ (n.val : ℤ) < Lora.first (wordsOf x0 x1 x2 x3 x4) s + (wordsOf x0 x1 x2 x3 x4).rk s)

open Classical in
/-- The scaling a token uses. -/
theorem gain_mask (r n : Fin 256) :
    runA.sl.v988 (F := Ideal) c i hc0 arg3 harg3 arg4 harg4 arg5 harg5 x2 x3 x4 hG (ix2 r n) = Lora.gain (wordsOf x0 x1 x2 x3 x4) r := by
  simp only [runA.sl.v988, runA.sl.v967, runA.sl.v963, runA.sl.v769, runA.sl.v921, runA.sl.r_35, runA.sl.v966, runA.sl.v965, runA.sl.r_40, runA.sl.v987, runA.sl.v944, runA.sl.v923, runA.sl.v919, runA.sl.v877, runA.sl.r_30, runA.sl.v922, runA.sl.v943, runA.sl.v900, runA.sl.v879, runA.sl.v875, runA.sl.v833, runA.sl.r_26, runA.sl.v878, runA.sl.v899, runA.sl.v856, runA.sl.v835, runA.sl.v831, runA.sl.v830, runA.sl.r_25, runA.sl.v834, runA.sl.v855, runA.sl.v812, runA.sl.r_23, runA.sl.r_18, runA.sl.r_19, runA.sl.v811, k0_pay6, k0_pay9, word_load harg4, scaling_0, scaling_1, scaling_2, scaling_3, scaling_4]
  pointwise
  have k := inside_one (x0 := x0) (x1 := x1) (x2 := x2) (x3 := x3) (x4 := x4) r
  unfold Lora.gain
  have k0 := k 0; have k1 := k 1; have k2 := k 2; have k3 := k 3; have k4 := k 4
  simp only [Scalar.select]
  exact ite_congr (propext k4) (fun _ => rfl) fun _ => ite_congr (propext k3) (fun _ => rfl) fun _ => ite_congr (propext k2) (fun _ => rfl) fun _ =>
    ite_congr (propext k1) (fun _ => rfl) fun _ => ite_congr (propext k0) (fun _ => rfl) fun _ => rfl

/-- Which stacked row holds which row of an adapter. -/
theorem sel_mask (hS : ∀ j, (x0 j : BitVec 32).toNat ≤ 368) (n : Fin 256) (j : Fin 128) (hj : j.val < 32) :
    runA.sl.v995 (F := Ideal) c i hc0 arg1 harg1 arg5 harg5 x0 x4 hG (ix2 n j) = 1#1
      ↔ ∃ s, n.val = Lora.first (wordsOf x0 x1 x2 x3 x4) s + j.val := by
  simp only [runA.sl.v995, runA.sl.v951, runA.sl.v907, runA.sl.v863, runA.sl.v819, runA.sl.v818, runA.sl.v815, runA.sl.v773, runA.sl.v814, runA.sl.v813, runA.sl.v784, runA.sl.v779, runA.sl.v783, runA.sl.v782, runA.sl.v774, runA.sl.v816, runA.sl.v862, runA.sl.v859, runA.sl.v858, runA.sl.v857, runA.sl.v828, runA.sl.v823, runA.sl.v827, runA.sl.v826, runA.sl.v906, runA.sl.v903, runA.sl.v902, runA.sl.v901, runA.sl.v872, runA.sl.v867, runA.sl.v871, runA.sl.v870, runA.sl.v950, runA.sl.v947, runA.sl.v946, runA.sl.v945, runA.sl.v916, runA.sl.v911, runA.sl.v915, runA.sl.v914, runA.sl.v994, runA.sl.v991, runA.sl.v990, runA.sl.v989, runA.sl.v960, runA.sl.v955, runA.sl.v959, runA.sl.v958, k0_pay7, start_0, start_1, start_2, start_3, start_4]
  pointwise
  simp only [ori_one]
  have k := sel_one (x1 := x1) (x2 := x2) (x3 := x3) (x4 := x4) hS n j.val hj
  exact (or_congr (or_congr (or_congr (or_congr (or_congr .rfl (k 0)) (k 1)) (k 2)) (k 3)) (k 4)).trans (or5 fun s => n.val = Lora.first (wordsOf x0 x1 x2 x3 x4) s + j.val)

end

end Cert.KernelIdeal.Own
-- ==== Proof.Math.Exponent.lean ====
/- The block exponent. The kernel counts, among the 256 powers of two a word's exponent field can spell, those the scaled maximum reaches, and forms scale and inverse scale as words; the problem's text takes floor(log2) plus one, clipped, and raises two to it. Both give the same powers of two. -/
module

public import Idealize.ShloMosaic.PureOps.Ideal
public import Idealize.ShloMosaic.PureOps.Ideal.Laws
public import Idealize.ShloMosaic.Lib.IdealHost
public import Mathlib.Analysis.SpecialFunctions.Log.Basic
public import Mathlib.Data.Finset.Fold
public import Mathlib.Tactic.Linarith

@[expose] public section

noncomputable section

namespace Cert.Expo

open Idealize.ShloMosaic

/-- The word the kernel forms of a block's largest magnitude. -/
def bits (a : EReal) : BitVec 32 :=
  if a = 0 then 1056964608#32
  else IntOp.shli ArithUnit.vector
    (IntOp.minsi
      (FloatOps.fptosi (F := Ideal) (φ := .f32) 32
        (Finset.fold max (Ideal.ofBits .f32 4286578688#32)
          (fun x : Fin 256 => if Ideal.ofBits .f32 (IntOp.shli ArithUnit.vector (BitVec.ofNat 32 x.val) 23#32) ≤ a * Ideal.ofBits .f32 991054117#32
            then (FloatOps.sitofp (F := Ideal) .f32 (BitVec.ofNat 32 x.val) : EReal) else 0)
          Finset.univ))
      252#32)
    23#32
/-- The kernel's scale and inverse scale. -/
def scale (a : EReal) : EReal := Ideal.ofBits .f32 (IntOp.addi (bits a) 8388608#32)
def inv (a : EReal) : EReal := Ideal.ofBits .f32 (IntOp.subi 2122317824#32 (bits a))

/-- The problem's exponent. -/
def expo (a : EReal) : EReal :=
  if a = 0 then 0
  else min ((126 : ℝ) : EReal) (max ((-126 : ℝ) : EReal)
    (Ideal.liftRound Int.floor (Ideal.div (Ideal.log (a * Ideal.ofBits .f32 991054117#32)) (Ideal.log ((2 : ℝ) : EReal))) + 1))

/-- A word with only exponent bits set reads as a power of two. -/
theorem ofBits_exp (k : ℕ) (h0 : 1 ≤ k) (h : k ≤ 254) :
    Ideal.ofBits .f32 (BitVec.ofNat 32 (k * 8388608)) = (((2 : ℝ) ^ ((k : ℤ) - 127) : ℝ) : EReal) := by
  have key : ∀ n : Fin 255, ((BitVec.ofNat 32 (n.val * 8388608)).extractLsb' 31 1 == 1#1) = false
      ∧ ((BitVec.ofNat 32 (n.val * 8388608)).extractLsb' 23 8).toNat = n.val
      ∧ ((BitVec.ofNat 32 (n.val * 8388608)).extractLsb' 0 23).toNat = 0 := by decide +kernel
  obtain ⟨k1, k2, k3⟩ := key ⟨k, by omega⟩
  dsimp only at k1 k2 k3
  simp only [Ideal.ofBits, Ideal.ieee, k1, k2, k3]
  rw [if_neg (by omega), if_neg (by omega)]
  congr 1
  have : ((k : ℤ) - (2 ^ (8 - 1) - 1) - ((23 : ℕ) : ℤ)) = ((k : ℤ) - 127) - 23 := by norm_num
  rw [this, zpow_sub₀ (by norm_num)]
  norm_num
  field_simp

theorem ofBits_255 : Ideal.ofBits .f32 (BitVec.ofNat 32 (255 * 8388608)) = ⊤ := by
  simp [Ideal.ofBits, Ideal.ieee]

theorem cutoff_word (x : Fin 256) : IntOp.shli ArithUnit.vector (BitVec.ofNat 32 x.val) 23#32 = BitVec.ofNat 32 (x.val * 8388608) := by
  revert x; decide +kernel

theorem const_pos : ∃ c : ℝ, 0 < c ∧ Ideal.ofBits .f32 991054117#32 = (c : EReal) := by
  refine ⟨_, ?_, rfl⟩
  simp [Ideal.ieee]

theorem neg_inf : Ideal.ofBits .f32 4286578688#32 = ⊥ := by simp [Ideal.ofBits, Ideal.ieee]

theorem sitofp_nat (k : Fin 256) : (FloatOps.sitofp (F := Ideal) .f32 (BitVec.ofNat 32 k.val) : EReal) = ((k.val : ℝ) : EReal) := by
  have : (BitVec.ofNat 32 k.val).toInt = (k.val : ℤ) := by revert k; decide +kernel
  show (((BitVec.ofNat 32 k.val).toInt : ℝ) : EReal) = _
  rw [this]; norm_num

/-- The count: the last of the 256 powers that is reached, if they are reached exactly up to it. -/
theorem fold_eq (v : EReal) (M : ℕ) (hM : M ≤ 255)
    (h : ∀ x : Fin 256, Ideal.ofBits .f32 (IntOp.shli ArithUnit.vector (BitVec.ofNat 32 x.val) 23#32) ≤ v ↔ x.val ≤ M) :
    Finset.fold max (Ideal.ofBits .f32 4286578688#32)
      (fun x : Fin 256 => if Ideal.ofBits .f32 (IntOp.shli ArithUnit.vector (BitVec.ofNat 32 x.val) 23#32) ≤ v
        then (FloatOps.sitofp (F := Ideal) .f32 (BitVec.ofNat 32 x.val) : EReal) else 0) Finset.univ = ((M : ℝ) : EReal) := by
  apply le_antisymm
  · refine (Finset.fold_max_le _).mpr ⟨by rw [neg_inf]; exact bot_le, fun x _ => ?_⟩
    split
    · rename_i hx
      rw [sitofp_nat]
      exact_mod_cast (h x).mp hx
    · exact_mod_cast Nat.zero_le M
  · refine (Finset.le_fold_max _).mpr (Or.inr ⟨⟨M, by omega⟩, Finset.mem_univ _, ?_⟩)
    rw [if_pos ((h ⟨M, by omega⟩).mpr le_rfl), sitofp_nat]

theorem fptosi_nat (M : ℕ) (hM : M ≤ 255) : FloatOps.fptosi (F := Ideal) (φ := .f32) 32 (((M : ℝ) : EReal)) = BitVec.ofNat 32 M := by
  show Ideal.fptosi 32 ((M : ℝ) : EReal) = _
  rw [Ideal.fptosi, Ideal.toIntClamped_coe, if_pos (by positivity), Int.floor_natCast]
  have : max (-((2 ^ (32 - 1) : ℕ) : ℤ)) (min (((2 ^ (32 - 1) : ℕ) : ℤ) - 1) (M : ℤ)) = (M : ℤ) := by
    norm_num; omega
  rw [this, BitVec.ofInt_natCast]

theorem cap_word (M : Fin 256) : IntOp.shli ArithUnit.vector (IntOp.minsi (BitVec.ofNat 32 M.val) 252#32) 23#32 = BitVec.ofNat 32 (min M.val 252 * 8388608) := by
  revert M; decide +kernel

/-- The kernel's word spells the problem's exponent plus 126. -/
theorem bits_expo (a : EReal) (ha : 0 ≤ a) :
    ∃ m : ℕ, m ≤ 252 ∧ bits a = BitVec.ofNat 32 (m * 8388608) ∧ expo a = (((m : ℝ) - 126 : ℝ) : EReal) := by
  by_cases h0 : a = 0
  · refine ⟨126, by norm_num, ?_, ?_⟩
    · rw [bits, if_pos h0]
    · rw [expo, if_pos h0]; norm_num
  obtain ⟨c, hc, ec⟩ := const_pos
  have main : ∃ M : ℕ, M ≤ 255 ∧ (∀ x : Fin 256, Ideal.ofBits .f32 (IntOp.shli ArithUnit.vector (BitVec.ofNat 32 x.val) 23#32) ≤ a * Ideal.ofBits .f32 991054117#32 ↔ x.val ≤ M)
      ∧ min ((126 : ℝ) : EReal) (max ((-126 : ℝ) : EReal)
        (Ideal.liftRound Int.floor (Ideal.div (Ideal.log (a * Ideal.ofBits .f32 991054117#32)) (Ideal.log ((2 : ℝ) : EReal))) + 1)) = (((min M 252 : ℕ) : ℝ) - 126 : ℝ) := by
    have hl2 : (0 : ℝ) < Real.log 2 := Real.log_pos (by norm_num)
    have el2 : Ideal.log ((2 : ℝ) : EReal) = ((Real.log 2 : ℝ) : EReal) := by
      rw [Ideal.log_coe, if_neg (by norm_num)]
    have hne : ((Real.log 2 : ℝ) : EReal) ≠ 0 := by exact_mod_cast hl2.ne'
    rw [ec, el2, Ideal.div, if_neg hne, ← EReal.coe_inv]
    induction a with
    | bot => exact absurd ha (by simp)
    | top =>
      refine ⟨255, le_rfl, fun x => ?_, ?_⟩
      · rw [EReal.top_mul_of_pos (by exact_mod_cast hc)]
        exact ⟨fun _ => by omega, fun _ => le_top⟩
      · rw [EReal.top_mul_of_pos (by exact_mod_cast hc), Ideal.log_top, EReal.top_mul_of_pos (by exact_mod_cast inv_pos.mpr hl2), Ideal.liftRound_top,
          show (1 : EReal) = ((1 : ℝ) : EReal) from rfl, EReal.top_add_coe, max_eq_right le_top, min_eq_left le_top]
        norm_num
    | coe r =>
      have hr : 0 < r := lt_of_le_of_ne (by exact_mod_cast ha) (fun e => h0 (by rw [← e]; rfl))
      have hx : 0 < r * c := mul_pos hr hc
      set f : ℤ := ⌊Real.log (r * c) * (Real.log 2)⁻¹⌋ with hf
      refine ⟨(min (max (f + 127) 0) 254).toNat, by omega, fun x => ?_, ?_⟩
      · rw [cutoff_word, ← EReal.coe_mul]
        have hx' := x.isLt
        rcases Nat.eq_zero_or_pos x.val with hz | hz
        · rw [hz]
          refine ⟨fun _ => by omega, fun _ => ?_⟩
          rw [show BitVec.ofNat 32 (0 * 8388608) = 0x00000000#32 from rfl, Ideal.ofBits_zero_f32]
          exact_mod_cast hx.le
        · by_cases h5 : x.val = 255
          · rw [h5, ofBits_255]
            refine ⟨fun hh => absurd hh (not_le_of_gt (EReal.coe_lt_top _)), fun hh => by omega⟩
          · rw [ofBits_exp x.val hz (by omega), EReal.coe_le_coe_iff]
            have : (2 : ℝ) ^ ((x.val : ℤ) - 127) ≤ r * c ↔ (x.val : ℤ) - 127 ≤ f := by
              rw [hf, Int.le_floor, ← div_eq_mul_inv, le_div_iff₀ hl2, ← Real.log_zpow, Real.log_le_log_iff (by positivity) hx]
            rw [this]
            omega
      · rw [← EReal.coe_mul, Ideal.log_coe, if_neg (by linarith), ← EReal.coe_mul, Ideal.liftRound_coe]
        rw [← hf, show (1 : EReal) = ((1 : ℝ) : EReal) from rfl, ← EReal.coe_add, ← EReal.coe_strictMono.monotone.map_max, ← EReal.coe_strictMono.monotone.map_min]
        congr 1
        have : (min 126 (max (-126) (f + 1)) : ℤ) = ((min (min (max (f + 127) 0) 254).toNat 252 : ℕ) : ℤ) - 126 := by omega
        exact_mod_cast congrArg (Int.cast (R := ℝ)) this
  obtain ⟨M, hM, h1, h2⟩ := main
  refine ⟨min M 252, by omega, ?_, ?_⟩
  · rw [bits, if_neg h0, fold_eq _ M hM h1, fptosi_nat M hM, cap_word ⟨M, by omega⟩]
  · rw [expo, if_neg h0, h2]

theorem pow_two (m : ℤ) : Ideal.pow ((2 : ℝ) : EReal) (((m : ℝ) : ℝ) : EReal) = (((2 : ℝ) ^ m : ℝ) : EReal) := by
  rw [Ideal.pow_coe_coe]; congr 1; exact Real.rpow_intCast 2 m

/-- The kernel's scale is two to the problem's exponent. -/
theorem scale_eq (a : EReal) (ha : 0 ≤ a) : scale a = Ideal.pow ((2 : ℝ) : EReal) (expo a) := by
  obtain ⟨m, hm, e1, e2⟩ := bits_expo a ha
  have ew : ∀ n : Fin 253, IntOp.addi (BitVec.ofNat 32 (n.val * 8388608)) 8388608#32 = BitVec.ofNat 32 ((n.val + 1) * 8388608) := by decide +kernel
  have e := ew ⟨m, by omega⟩
  dsimp only at e
  rw [scale, e1, e, ofBits_exp _ (by omega) (by omega), e2, show ((m : ℝ) - 126 : ℝ) = (((m : ℤ) - 126 : ℤ) : ℝ) by push_cast; ring, pow_two]
  congr 2; push_cast; ring

/-- The kernel's inverse scale is two to minus the problem's exponent. -/
theorem inv_eq (a : EReal) (ha : 0 ≤ a) : inv a = Ideal.pow ((2 : ℝ) : EReal) (-(expo a)) := by
  obtain ⟨m, hm, e1, e2⟩ := bits_expo a ha
  have ew : ∀ n : Fin 253, IntOp.subi 2122317824#32 (BitVec.ofNat 32 (n.val * 8388608)) = BitVec.ofNat 32 ((253 - n.val) * 8388608) := by decide +kernel
  have e := ew ⟨m, by omega⟩
  dsimp only at e
  rw [inv, e1, e, ofBits_exp _ (by omega) (by omega), e2, ← EReal.coe_neg, show (-((m : ℝ) - 126) : ℝ) = (((126 : ℤ) - m : ℤ) : ℝ) by push_cast; ring, pow_two]
  congr 2
  rw [Nat.cast_sub (by omega)]; push_cast; ring

end Cert.Expo
-- ==== Proof.Ideal.Quant.lean ====
/- What the kernel's payloads compute, element by element: the unpacked and scaled weights, the product, the block quantiser and the scales it lists. -/
module

public import proofs.«01_k».proof.KernelIdeal
public import proofs.«01_k».proof.Proof.Gen.KernelIdeal
public import proofs.«01_k».proof.Proof.Gen.KernelIdeal.Skeleton
public import proofs.«01_k».proof.Proof.Math.Exponent
public import proofs.«01_k».proof.Proof.Math.Lora
public import Idealize.ShloMosaic.Lib.Pointwise
public import Idealize.ShloMosaic.Lib.ValueIdx

@[expose] public section

set_option maxRecDepth 16384

noncomputable section

namespace Cert.KernelIdeal.Own

open Idealize.ShloMosaic Idealize.ShloMosaic.TcCoe
open Cert.KernelIdeal Cert.KernelIdeal.Gen

/-! ### The block quantiser -/

/-- The largest magnitude of each row of a block of 128 columns. -/
def absMax (sl : FVec Ideal S256x128 .f32) : FVec Ideal S256x1 .f32 :=
  shapeCast S256x1 (multiReduction .maximumf [1] S256 (absf sl) 0xFF800000#32 reduces_S256x128_S256 (.inl rfl) rfl) shapeCasts_S256_S256x1

/-- The codes of a block. -/
def quant (sl : FVec Ideal S256x128 .f32) : FVec Ideal S256x128 .fp8e4m3 := k0_pay65 sl (absMax sl) k0_pay63

/-- The scales of a block, a column. -/
def scaleCol (sl : FVec Ideal S256x128 .f32) : FVec Ideal S256x1 .f32 :=
  bitcastToFloat .f32 (addi (k0_pay64 (absMax sl) k0_pay63) (broadcast S256x1 8388608#32))

/-- One block's scales put in its lane. -/
def putScale (a k : BitVec 32) (acc : FVec Ideal S256x80 .f32) (u : FVec Ideal S256x1 .f32) : FVec Ideal S256x80 .f32 :=
  select (cmpi .eq (iota .tc S256x80 32 [1] iota_S256x80_d1_w32) (broadcast S256x80 (Scalar.addi (Scalar.muli a 8#32) k)))
    (broadcastTo S256x80 (shapeCast S256x1 u shapeCasts_S256x1_S256x1) broadcasts_S256x1_S256x80) acc

/-- The largest magnitude of 128 numbers. -/
def amax (f : Fin 128 → EReal) : EReal := Finset.fold max (Ideal.ofBits .f32 4286578688#32) (fun x => FloatOps.absf (F := Ideal) (φ := .f32) (f x)) Finset.univ
/-- The code of one of 128 numbers. -/
def code (f : Fin 128 → EReal) (n : Fin 128) : EReal :=
  min (Ideal.ofBits .f32 1138753536#32) (max (Ideal.ofBits .f32 3286237184#32) (f n * Expo.inv (amax f)))

theorem absMax_apply (sl : FVec Ideal S256x128 .f32) (r : Fin 256) : absMax sl (ix2 r 0) = amax fun n => sl (ix2 r n) := by
  unfold absMax amax
  pointwise

theorem bits_apply (a : FVec Ideal S256x1 .f32) (r : Fin 256) : k0_pay64 a k0_pay63 (ix2 r 0) = Expo.bits (a (ix2 r 0)) := by
  unfold k0_pay64 k0_pay63 Expo.bits
  pointwise

theorem quant_apply (sl : FVec Ideal S256x128 .f32) (r : Fin 256) (n : Fin 128) : quant sl (ix2 r n) = code (fun n => sl (ix2 r n)) n := by
  unfold quant k0_pay65 code Expo.inv
  pointwise
  rw [bits_apply, absMax_apply]

theorem scaleCol_apply (sl : FVec Ideal S256x128 .f32) (r : Fin 256) : scaleCol sl (ix2 r 0) = Expo.scale (amax fun n => sl (ix2 r n)) := by
  unfold scaleCol Expo.scale
  pointwise
  rw [bits_apply, absMax_apply]

theorem putScale_apply (a k : BitVec 32) (acc : FVec Ideal S256x80 .f32) (u : FVec Ideal S256x1 .f32) (r : Fin 256) (l : Fin 80) :
    putScale a k acc u (ix2 r l) = if BitVec.ofNat 32 l.val = a * 8#32 + k then u (ix2 r 0) else acc (ix2 r l) := by
  unfold putScale
  pointwise
  have key : ∀ (w v : BitVec 32) (A B : EReal), Scalar.select (IntOp.cmpi .eq w v) A B = if w = v then A else B := by
    intro w v A B
    show (if BitVec.ofBool (w == v) = 1#1 then A else B) = _
    by_cases h : w = v
    · simp [h]
    · have e : (w == v) = false := by simpa using h
      rw [if_neg h, e, if_neg (by decide)]
  exact key _ _ _ _

/-- One block of 128 columns. -/
theorem slice_apply (o : ℕ) (v : FVec Ideal S256x1024 .f32) (h : S256x1024.Slices ![0, o] S256x128) (r : Fin 256) (n : Fin 128) (hb : o + n.val < 1024) :
    extractStridedSlice S256x128 ![0, o] v h (ix2 r n) = v (ix2 r ⟨o + n.val, hb⟩) := by
  unfold extractStridedSlice
  congr 1
  funext a
  apply Fin.ext
  match a with
  | 0 => show 0 + r.val = r.val; omega
  | 1 => rfl

/-! ### The weights -/

/-- The signed four-bit code of weight row `k` in the word that packs rows `8 * (k / 8)` to `8 * (k / 8) + 7`. -/
def nibble (w : BitVec 32) (k : ℕ) : BitVec 32 :=
  IntOp.shrsi .vector (IntOp.shli .vector w (IntOp.subi 28#32 (IntOp.muli 4#32 (IntOp.andi (BitVec.ofNat 32 k) 7#32)))) 28#32

theorem nibble_apply (w : Vec Ideal S320x1024 .i32) (k : Fin 2560) (n : Fin 1024) :
    k0_pay27 w (ix2 k n) = nibble (w (ix2 ⟨k.val / 8, by omega⟩ n)) k.val := by
  unfold k0_pay27 nibble
  pointwise

/-- 128 rows of scaled weights. -/
def weights (o : ℕ) (v : IVec S2560x1024 32) (u : Vec Ideal S1x1024 .bf16) (h : S2560x1024.Slices ![o, 0] S128x1024) : FVec Ideal S128x1024 .bf16 :=
  shapeCast S128x1024 (mulf (sitofp .bf16 (extractStridedSlice S128x1024 ![o, 0] v h)) (broadcastTo S128x1024 u broadcasts_S1x1024_S128x1024)) shapeCasts_S128x1024_S128x1024

theorem weights_apply (o : ℕ) (v : IVec S2560x1024 32) (u : Vec Ideal S1x1024 .bf16) (h : S2560x1024.Slices ![o, 0] S128x1024) (r : Fin 128) (n : Fin 1024) (hb : o + r.val < 2560) :
    weights o v u h (ix2 r n) = FloatOps.sitofp (F := Ideal) .bf16 (v (ix2 ⟨o + r.val, hb⟩ n)) * u (ix2 0 n) := by
  unfold weights
  have e : extractStridedSlice S128x1024 ![o, 0] v h (ix2 r n) = v (ix2 ⟨o + r.val, hb⟩ n) := by
    unfold extractStridedSlice
    congr 1
    funext a
    apply Fin.ext
    match a with
    | 0 => rfl
    | 1 => show 0 + n.val = n.val; omega
  generalize extractStridedSlice S128x1024 ![o, 0] v h = z at e ⊢
  pointwise
  rw [e]

/-! ### The products -/

theorem product_apply (x : Vec Ideal S256x2816 .bf16) (w : Vec Ideal S2816x1024 .bf16) (r : Fin 256) (n : Fin 1024) :
    k0_pay51 (F := Ideal) x w (ix2 r n) = ∑ k : Fin 2816, (x (ix2 r k) : EReal) * w (ix2 k n) := by
  unfold k0_pay51
  pointwise

theorem hidden_apply (keep : IVec S256x256 1) (gain : FVec Ideal S256x256 .f32) (x aw : Vec Ideal S256x2560 .bf16) (r q : Fin 256) :
    k0_pay23 (F := Ideal) keep gain x aw (ix2 r q)
      = if keep (ix2 r q) = 1#1 then (∑ k : Fin 2560, (x (ix2 r k) : EReal) * aw (ix2 q k)) * gain (ix2 r q) else 0 := by
  unfold k0_pay23
  pointwise
  rfl

theorem low_apply (keep : IVec S256x256 1) (gain : FVec Ideal S256x256 .f32) (sel : IVec S256x128 1) (x aw : Vec Ideal S256x2560 .bf16) (r : Fin 256) (j : Fin 32) :
    k0_pay25 (F := Ideal) keep gain sel x aw (ix2 r j)
      = ∑ q : Fin 256, (k0_pay23 (F := Ideal) keep gain x aw (ix2 r q) : EReal) * (if sel (ix2 q ⟨j.val, by omega⟩) = 1#1 then 1 else 0) := by
  unfold k0_pay25
  pointwise
  refine Finset.sum_congr rfl fun q _ => ?_
  congr 1
  generalize sel (ix2 q ⟨j.val, _⟩) = b
  by_cases h : b = 1#1
  · rw [if_pos h, h]
    show (((BitVec.setWidth 32 1#1).toInt : ℝ) : EReal) = 1
    rw [(by decide : (BitVec.setWidth 32 1#1).toInt = 1)]; norm_num
  · have h0 : b = 0#1 := by revert h; revert b; decide
    rw [if_neg h, h0]
    show (((BitVec.setWidth 32 0#1).toInt : ℝ) : EReal) = 0
    rw [(by decide : (BitVec.setWidth 32 0#1).toInt = 0)]; norm_num

end Cert.KernelIdeal.Own
-- ==== Proof.Ideal.Windows.lean ====
/- The two rectangles the kernel assembles in scratch memory, element by element: the gathered adapter rows, the activations with the hidden columns appended, the weights with the adapter rows appended. -/
module

public import proofs.«01_k».proof.Proof.Ideal.Masks
public import proofs.«01_k».proof.Proof.Ideal.Quant

@[expose] public section

set_option maxRecDepth 16384

noncomputable section

namespace Cert.KernelIdeal.Own

open Idealize.ShloMosaic Idealize.ShloMosaic.TcCoe
open Cert.KernelIdeal Cert.KernelIdeal.Gen

variable {e : EltTy}

/-- A rectangle at the origin, of the whole sizes, places every index at itself. -/
theorem idx_origin {a b : ℕ} (inb : ∀ k, (![0, 0] : Fin 2 → ℕ) k + (![a, b] : Fin 2 → ℕ) k ≤ (⟨2, ![a, b]⟩ : Shape).size k) (x : (⟨2, ![a, b]⟩ : Shape).Idx) :
    (Rect.unit (s := ⟨2, ![a, b]⟩) ![0, 0] ![a, b] inb).toLoadRect.idx x = x := by
  funext k
  apply Fin.ext
  match k with
  | 0 => show 0 + 1 * (x 0).val = (x 0).val; omega
  | 1 => show 0 + 1 * (x 1).val = (x 1).val; omega

/-- What stores that cover an index and agree with one function leave there, loaded whole. -/
theorem readAt_pieces {κ : Kind} {sp : Space} {a b : ℕ} (v : View sig κ sp ⟨2, ![a, b]⟩ e) (f : v.ty.Contents (Elt Ideal))
    (L : List (View.Piece (Elt Ideal) ⟨2, ![a, b]⟩ e))
    (inb : ∀ k, (![0, 0] : Fin 2 → ℕ) k + (![a, b] : Fin 2 → ℕ) k ≤ (⟨2, ![a, b]⟩ : Shape).size k)
    (G : (⟨2, ![a, b]⟩ : Shape).Idx → Elt Ideal e) (hG : ∀ p ∈ L, ∀ x : p.1.shape.Idx, p.2 x = G (p.1.emb x))
    (x : (⟨2, ![a, b]⟩ : Shape).Idx) (hc : ∃ p ∈ L, x ∈ p.1.set) :
    v.readAt (Elt Ideal) (Rect.unit (s := ⟨2, ![a, b]⟩) ![0, 0] ![a, b] inb).toLoadRect (v.writes (Elt Ideal) f L) x = G x := by
  have h := View.read_writes_apply_of_pieces v f G L hG x hc
  rw [← h]
  exact congrArg (v.read (Elt Ideal) (v.writes (Elt Ideal) f L)) (idx_origin inb x)

/-- What stores that agree with one function leave, where they cover an index or what was there before agrees too. -/
theorem read_over {κ : Kind} {sp : Space} {a b : ℕ} (v : View sig κ sp ⟨2, ![a, b]⟩ e) (f : v.ty.Contents (Elt Ideal))
    (L : List (View.Piece (Elt Ideal) ⟨2, ![a, b]⟩ e))
    (G : (⟨2, ![a, b]⟩ : Shape).Idx → Elt Ideal e) (hG : ∀ p ∈ L, ∀ x : p.1.shape.Idx, p.2 x = G (p.1.emb x))
    (x : (⟨2, ![a, b]⟩ : Shape).Idx) (hf : (¬∃ p ∈ L, x ∈ p.1.set) → v.read (Elt Ideal) f x = G x) :
    v.read (Elt Ideal) (v.writes (Elt Ideal) f L) x = G x := by
  by_cases hc : ∃ p ∈ L, x ∈ p.1.set
  · exact View.read_writes_apply_of_pieces v f G L hG x hc
  · rw [← hf hc]
    exact View.read_writes_apply_of_forall_not_mem v f x L (by push Not at hc; exact hc)

/-- A row no piece of whole rows holds. -/
theorem rows_out {a b o h : ℕ} (inb : ∀ k, (![o, 0] : Fin 2 → ℕ) k + (![h, b] : Fin 2 → ℕ) k ≤ (⟨2, ![a, b]⟩ : Shape).size k) (y : (⟨2, ![a, b]⟩ : Shape).Idx)
    (hn : y ∉ (Rect.unit (s := ⟨2, ![a, b]⟩) ![o, 0] ![h, b] inb).set) : (y 0).val < o ∨ o + h ≤ (y 0).val := by
  by_contra hc
  push Not at hc
  refine hn (Rect.mem_set_unit.mpr fun k => ?_)
  match k with
  | 0 => exact hc
  | 1 => exact ⟨Nat.zero_le _, by show (y 1).val < 0 + b; have : (y 1).val < b := (y 1).isLt; omega⟩

theorem zero_a (x : S16x2560.Idx) : k0_pay2 (F := Ideal) x = (0 : EReal) := by
  obtain ⟨r, n, rfl⟩ : ∃ r n, x = ix2 r n := ⟨x 0, x 1, by funext k; match k with | 0 => rfl | 1 => rfl⟩
  unfold k0_pay2
  pointwise

theorem zero_b (x : S16x1024.Idx) : k0_pay3 (F := Ideal) x = (0 : EReal) := by
  obtain ⟨r, n, rfl⟩ : ∃ r n, x = ix2 r n := ⟨x 0, x 1, by funext k; match k with | 0 => rfl | 1 => rfl⟩
  unfold k0_pay3
  pointwise

/-- The pools' rows. -/
def paOf (c : Dev nD) (fh0 : HbBuf0 (F := Ideal) c hbM0_0) (p : ℕ) (k : Fin 2560) : EReal :=
  View.read (Elt Ideal) (Memref.whole main_arg3).view fh0 (ix2 ⟨p % 400, Nat.mod_lt _ (by decide)⟩ k)
/-- One column of the second pool. -/
def pbOf (c : Dev nD) (fh1 : HbBuf0 (F := Ideal) c hbM0_1) (col : ℕ) (p : ℕ) : EReal :=
  View.read (Elt Ideal) (Memref.whole main_arg4).view fh1 (ix2 ⟨p % 400, Nat.mod_lt _ (by decide)⟩ ⟨col % 10240, Nat.mod_lt _ (by decide)⟩)

/-- The weights with the second pool's window rows below them, at the columns of grid point `i`. -/
def wcAt (c : Dev nD) (i : ℕ) (W : Lora.Words) (x6 : Vec Ideal S320x1024 .i32) (x7 : Vec Ideal S20x1024 .bf16) (fh1 : HbBuf0 (F := Ideal) c hbM0_1)
    (q : ℕ) (n : Fin 1024) : EReal :=
  if q < 2560 then
    FloatOps.sitofp (F := Ideal) .bf16 (nibble (x6 (ix2 ⟨q / 8 % 320, Nat.mod_lt _ (by decide)⟩ n)) q) * x7 (ix2 ⟨q / 128 % 20, Nat.mod_lt _ (by decide)⟩ n)
  else if q - 2560 < 240 then pbOf c fh1 (1024 * i + n.val) (Lora.rowOf W (q - 2560)) else 0
def wcV (c : Dev nD) (i : ℕ) (W : Lora.Words) (x6 : Vec Ideal S320x1024 .i32) (x7 : Vec Ideal S20x1024 .bf16) (fh1 : HbBuf0 (F := Ideal) c hbM0_1) (y : S2816x1024.Idx) : EReal :=
  wcAt c i W x6 x7 fh1 (y 0).val (y 1)

/-- The stacked window rows of the first pool. -/
def awV (c : Dev nD) (W : Lora.Words) (fh0 : HbBuf0 (F := Ideal) c hbM0_0) (y : S256x2560.Idx) : EReal :=
  if (y 0).val < 240 then paOf c fh0 (Lora.rowOf W (y 0).val) (y 1) else 0

section
variable (c : Dev nD) (i : grid0.Coords) (hc0 : cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole)
    (arg17 : Memref sig .tc .vmem S256x2560 .bf16)
    (x0 x1 : Vec Ideal S9 .i32) (x2 : Vec Ideal S9 .f32) (x3 : Vec Ideal S6 .i32) (x4 : Vec Ideal S5 .i32)
    (fh0 : HbBuf0 (F := Ideal) c hbM0_0)
    (hS : ∀ j, (x0 j : BitVec 32).toNat ≤ 368) (hG : ∀ j, (x4 j : BitVec 32).toNat < 9)

include hS in
/-- The window of the first pool copied for segment `s`. -/
theorem rows_a (s : Fin 5) (w : BitVec 32) (hw : w = lookup x0 x4 s)
    (o : Fin 2 → ℕ) (ho0 : o 0 = (k0_mult1 w).toNat) (ho1 : o 1 = 0) (inb : ∀ a, o a + S48x2560.size a ≤ S400x2560.size a) (hk)
    (off : ℕ) (ho : off = 48 * s.val) (inb' : ∀ a, (![off, 0] : Fin 2 → ℕ) a + S48x2560.size a ≤ S256x2560.size a)
    (x : S48x2560.Idx) :
    ReadAs.same.apply (View.read (Elt Ideal) ((Memref.whole main_arg3).slice (Rect.unit o S48x2560.size inb) hk).view fh0) x
      = awV c (wordsOf x0 x1 x2 x3 x4) fh0 ((Rect.unit (s := S256x2560) ![off, 0] S48x2560.size inb').emb x) := by
  have h0 : (x 0).val < 48 := (x 0).isLt
  have hs := s.isLt
  have hb : (k0_mult1 w).toNat = Lora.base (wordsOf x0 x1 x2 x3 x4) s := by
    have hw' : (lookup (α := BitVec 32) x0 x4 s).toNat ≤ 368 := hS _
    rw [hw, mult_toNat _ hw']; rfl
  have hle : (k0_mult1 w).toNat + 48 ≤ 400 := ho0 ▸ inb 0
  have e0 : (((Rect.unit (s := S256x2560) ![off, 0] S48x2560.size inb').emb x) 0).val = 48 * s.val + (x 0).val := by
    rw [← ho]; show off + 1 * (x 0).val = _; omega
  have e1 : (((Rect.unit (s := S256x2560) ![off, 0] S48x2560.size inb').emb x) 1) = x 1 := by
    apply Fin.ext; show 0 + 1 * (x 1).val = _; omega
  unfold awV
  rw [e0, e1, if_pos (by omega)]
  unfold paOf Lora.rowOf
  have es : Lora.segOf (48 * s.val + (x 0).val) = s := by apply Fin.ext; show min ((48 * s.val + (x 0).val) / 48) 4 = _; omega
  have em : (48 * s.val + (x 0).val) % 48 = (x 0).val := by omega
  rw [es, em, ← hb]
  refine congrArg (View.read (Elt Ideal) (Memref.whole main_arg3).view fh0) (?_ : (Rect.unit (s := S400x2560) o S48x2560.size inb).emb x = _)
  funext a
  apply Fin.ext
  match a with
  | 0 => show o 0 + 1 * (x 0).val = ((k0_mult1 w).toNat + (x 0).val) % 400; rw [ho0]; omega
  | 1 => show o 1 + 1 * (x 1).val = (x 1).val; rw [ho1]; omega

theorem astart_0 : runA.sl.r_10 (F := Ideal) c i hc0 arg1 harg1 arg5 harg5 x0 x4 hG = lookup x0 x4 0 :=
  word_at harg1 x0 x4 0 (word_load harg5 x4 0 _ _) _ _
theorem astart_1 : runA.sl.r_11 (F := Ideal) c i hc0 arg1 harg1 arg5 harg5 x0 x4 hG = lookup x0 x4 1 :=
  word_at harg1 x0 x4 1 (word_load harg5 x4 1 _ _) _ _
theorem astart_2 : runA.sl.r_12 (F := Ideal) c i hc0 arg1 harg1 arg5 harg5 x0 x4 hG = lookup x0 x4 2 :=
  word_at harg1 x0 x4 2 (word_load harg5 x4 2 _ _) _ _
theorem astart_3 : runA.sl.r_13 (F := Ideal) c i hc0 arg1 harg1 arg5 harg5 x0 x4 hG = lookup x0 x4 3 :=
  word_at harg1 x0 x4 3 (word_load harg5 x4 3 _ _) _ _
theorem astart_4 : runA.sl.r_14 (F := Ideal) c i hc0 arg1 harg1 arg5 harg5 x0 x4 hG = lookup x0 x4 4 :=
  word_at harg1 x0 x4 4 (word_load harg5 x4 4 _ _) _ _

theorem window_rows (q : Fin 256) (k : Fin 2560) :
    runA.sl.v1048 (F := Ideal) c i hc0 arg1 harg1 arg5 harg5 arg17 x0 x4 fh0 hS hG (ix2 q k)
      = awV c (wordsOf x0 x1 x2 x3 x4) fh0 (ix2 q k) := by
  refine readAt_pieces (a := 256) (b := 2560) arg17.view _ _ _ (awV c (wordsOf x0 x1 x2 x3 x4) fh0) ?_ (ix2 q k) ?_
  · simp only [List.forall_mem_cons]
    refine ⟨?_, ?_, ?_, ?_, ?_, ?_, by simp⟩
    · intro x
      refine (zero_a x).trans (Eq.symm (if_neg ?_))
      show ¬(240 + 1 * (x 0).val < 240)
      omega
    · intro x; unfold runA.sl.dma20; exact rows_a c x0 x1 x2 x3 x4 fh0 hS 4 _ (astart_4 c i hc0 arg1 harg1 arg5 harg5 x0 x4 hG) (k0_off20 (runA.sl.r_14 (F := Ideal) c i hc0 arg1 harg1 arg5 harg5 x0 x4 hG)) rfl rfl _ _ 192 rfl _ x
    · intro x; unfold runA.sl.dma18; exact rows_a c x0 x1 x2 x3 x4 fh0 hS 3 _ (astart_3 c i hc0 arg1 harg1 arg5 harg5 x0 x4 hG) (k0_off18 (runA.sl.r_13 (F := Ideal) c i hc0 arg1 harg1 arg5 harg5 x0 x4 hG)) rfl rfl _ _ 144 rfl _ x
    · intro x; unfold runA.sl.dma16; exact rows_a c x0 x1 x2 x3 x4 fh0 hS 2 _ (astart_2 c i hc0 arg1 harg1 arg5 harg5 x0 x4 hG) (k0_off16 (runA.sl.r_12 (F := Ideal) c i hc0 arg1 harg1 arg5 harg5 x0 x4 hG)) rfl rfl _ _ 96 rfl _ x
    · intro x; unfold runA.sl.dma14; exact rows_a c x0 x1 x2 x3 x4 fh0 hS 1 _ (astart_1 c i hc0 arg1 harg1 arg5 harg5 x0 x4 hG) (k0_off14 (runA.sl.r_11 (F := Ideal) c i hc0 arg1 harg1 arg5 harg5 x0 x4 hG)) rfl rfl _ _ 48 rfl _ x
    · intro x; unfold runA.sl.dma12; exact rows_a c x0 x1 x2 x3 x4 fh0 hS 0 _ (astart_0 c i hc0 arg1 harg1 arg5 harg5 x0 x4 hG) (k0_off12 (runA.sl.r_10 (F := Ideal) c i hc0 arg1 harg1 arg5 harg5 x0 x4 hG)) rfl rfl _ _ 0 rfl _ x
  · by_contra hn
    simp only [List.exists_mem_cons_iff, not_or] at hn
    obtain ⟨h0, h1, h2, h3, h4, h5, -⟩ := hn
    have := rows_out _ _ h0; have := rows_out _ _ h1; have := rows_out _ _ h2; have := rows_out _ _ h3; have := rows_out _ _ h4; have := rows_out _ _ h5
    have : ((ix2 q k : S256x2560.Idx) 0).val = q.val := rfl
    omega

end

section
variable (c : Dev nD) (i : grid0.Coords)
    (arg1 : Memref sig .tc .smem S9 .i32) (harg1 : arg1.IsWhole) (arg5 : Memref sig .tc .smem S5 .i32) (harg5 : arg5.IsWhole)
    (arg7 : Memref sig .tc .vmem S320x1024 .i32) (harg7 : arg7.IsWhole) (arg8 : Memref sig .tc .vmem S20x1024 .bf16) (harg8 : arg8.IsWhole)
    (arg16 : Memref sig .tc .vmem S2816x1024 .bf16) (harg16 : arg16.IsWhole)
    (x0 x1 : Vec Ideal S9 .i32) (x2 : Vec Ideal S9 .f32) (x3 : Vec Ideal S6 .i32) (x4 : Vec Ideal S5 .i32)
    (x6 : Vec Ideal S320x1024 .i32) (x7 : Vec Ideal S20x1024 .bf16) (xs1 : Vec Ideal S2816x1024 .bf16)
    (fh1 : HbBuf0 (F := Ideal) c hbM0_1)
    (hS : ∀ j, (x0 j : BitVec 32).toNat ≤ 368) (hG : ∀ j, (x4 j : BitVec 32).toNat < 9)

include hS in
/-- The window of the second pool copied for segment `s`. -/
theorem rows_b (s : Fin 5) (w : BitVec 32) (hw : w = lookup x0 x4 s)
    (o : Fin 2 → ℕ) (ho0 : o 0 = (k0_mult1 w).toNat) (ho1 : o 1 = (k0_mult2 i).toNat) (inb : ∀ a, o a + S48x1024.size a ≤ S400x10240.size a) (hk)
    (off : ℕ) (ho : off = 2560 + 48 * s.val) (inb' : ∀ a, (![off, 0] : Fin 2 → ℕ) a + S48x1024.size a ≤ S2816x1024.size a)
    (x : S48x1024.Idx) :
    ReadAs.same.apply (View.read (Elt Ideal) ((Memref.whole main_arg4).slice (Rect.unit o S48x1024.size inb) hk).view fh1) x
      = wcV c (i 0).val (wordsOf x0 x1 x2 x3 x4) x6 x7 fh1 ((Rect.unit (s := S2816x1024) ![off, 0] S48x1024.size inb').emb x) := by
  have h0 : (x 0).val < 48 := (x 0).isLt
  have h1 : (x 1).val < 1024 := (x 1).isLt
  have hs := s.isLt
  have hb : (k0_mult1 w).toNat = Lora.base (wordsOf x0 x1 x2 x3 x4) s := by
    have hw' : (lookup (α := BitVec 32) x0 x4 s).toNat ≤ 368 := hS _
    rw [hw, mult_toNat _ hw']; rfl
  have hle : (k0_mult1 w).toNat + 48 ≤ 400 := ho0 ▸ inb 0
  have hle1 : o 1 + 1024 ≤ 10240 := inb 1
  rw [ho1, tile_col i] at hle1
  have e0 : (((Rect.unit (s := S2816x1024) ![off, 0] S48x1024.size inb').emb x) 0).val = 2560 + (48 * s.val + (x 0).val) := by
    rw [← Nat.add_assoc, ← ho]; show off + 1 * (x 0).val = _; omega
  have e1 : (((Rect.unit (s := S2816x1024) ![off, 0] S48x1024.size inb').emb x) 1) = x 1 := by
    apply Fin.ext; show 0 + 1 * (x 1).val = _; omega
  unfold wcV
  rw [e0, e1]
  unfold wcAt
  rw [if_neg (by omega), Nat.add_sub_cancel_left, if_pos (by omega)]
  unfold pbOf Lora.rowOf
  have es : Lora.segOf (48 * s.val + (x 0).val) = s := by apply Fin.ext; show min ((48 * s.val + (x 0).val) / 48) 4 = _; omega
  have em : (48 * s.val + (x 0).val) % 48 = (x 0).val := by omega
  rw [es, em, ← hb]
  refine congrArg (View.read (Elt Ideal) (Memref.whole main_arg4).view fh1) (?_ : (Rect.unit (s := S400x10240) o S48x1024.size inb).emb x = _)
  funext a
  apply Fin.ext
  match a with
  | 0 => show o 0 + 1 * (x 0).val = ((k0_mult1 w).toNat + (x 0).val) % 400; rw [ho0]; omega
  | 1 => show o 1 + 1 * (x 1).val = (1024 * (i 0).val + (x 1).val) % 10240; rw [ho1, tile_col i]; omega

/-- One group of weight rows. -/
theorem rows_w (g o : ℕ) (hg : g < 20) (hog : o = 128 * g) (W : Lora.Words) (h : S2560x1024.Slices ![o, 0] S128x1024) (inb7)
    (inb8 : ∀ a, (![g, 0] : Fin 2 → ℕ) a + S1x1024.size a ≤ S20x1024.size a)
    (inb' : ∀ a, (![o, 0] : Fin 2 → ℕ) a + S128x1024.size a ≤ S2816x1024.size a) (x : S128x1024.Idx) :
    weights o (k0_pay27 (F := Ideal) (View.readAt (Elt Ideal) arg7.view (Rect.unit (s := S320x1024) ![0, 0] S320x1024.size inb7).toLoadRect (harg7.unread x6)))
        (View.readAt (Elt Ideal) arg8.view (Rect.unit (s := S20x1024) ![g, 0] S1x1024.size inb8).toLoadRect (harg8.unread x7)) h x
      = wcV c (i 0).val W x6 x7 fh1 ((Rect.unit (s := S2816x1024) ![o, 0] S128x1024.size inb').emb x) := by
  subst hog
  obtain ⟨r, n, rfl⟩ : ∃ (r : Fin 128) (n : Fin 1024), x = ix2 r n := ⟨x 0, x 1, by funext k; match k with | 0 => rfl | 1 => rfl⟩
  have hr := r.isLt
  have e0 : (((Rect.unit (s := S2816x1024) ![128 * g, 0] S128x1024.size inb').emb (ix2 r n)) 0).val = 128 * g + r.val := by
    show 128 * g + 1 * r.val = _; omega
  have e1 : (((Rect.unit (s := S2816x1024) ![128 * g, 0] S128x1024.size inb').emb (ix2 r n)) 1) = n := by
    apply Fin.ext; show 0 + 1 * n.val = _; omega
  rw [weights_apply _ _ _ _ _ _ (by omega), nibble_apply]
  unfold wcV
  rw [e0, e1]
  unfold wcAt
  rw [if_pos (by omega)]
  have r7 : View.readAt (Elt Ideal) arg7.view (Rect.unit (s := S320x1024) ![0, 0] S320x1024.size inb7).toLoadRect (harg7.unread x6) = x6 := by
    funext y
    rw [Memref.IsWhole.readAt_unread]
    exact congrArg x6 (idx_origin inb7 y)
  rw [r7, Memref.IsWhole.readAt_unread]
  congr 4
  · congr 2
    show (128 * g + r.val) / 8 = (128 * g + r.val) / 8 % 320
    omega
  · funext a
    apply Fin.ext
    match a with
    | 0 => show g + 1 * 0 = (128 * g + r.val) / 128 % 20; omega
    | 1 => show 0 + 1 * n.val = n.val; omega

theorem bstartA_0 : runA.sl.r_1 (F := Ideal) c arg1 harg1 arg5 harg5 x0 x4 hG = lookup x0 x4 0 :=
  word_at harg1 x0 x4 0 (word_load harg5 x4 0 _ _) _ _
theorem bstartA_1 : runA.sl.r_3 (F := Ideal) c arg1 harg1 arg5 harg5 x0 x4 hG = lookup x0 x4 1 :=
  word_at harg1 x0 x4 1 (word_load harg5 x4 1 _ _) _ _
theorem bstartA_2 : runA.sl.r_5 (F := Ideal) c arg1 harg1 arg5 harg5 x0 x4 hG = lookup x0 x4 2 :=
  word_at harg1 x0 x4 2 (word_load harg5 x4 2 _ _) _ _
theorem bstartA_3 : runA.sl.r_7 (F := Ideal) c arg1 harg1 arg5 harg5 x0 x4 hG = lookup x0 x4 3 :=
  word_at harg1 x0 x4 3 (word_load harg5 x4 3 _ _) _ _
theorem bstartA_4 : runA.sl.r_9 (F := Ideal) c arg1 harg1 arg5 harg5 x0 x4 hG = lookup x0 x4 4 :=
  word_at harg1 x0 x4 4 (word_load harg5 x4 4 _ _) _ _

theorem bstartB_0 : runB.sl.r_1 (F := Ideal) c arg1 harg1 arg5 harg5 x0 x4 hG = lookup x0 x4 0 :=
  word_at harg1 x0 x4 0 (word_load harg5 x4 0 _ _) _ _
theorem bstartB_1 : runB.sl.r_3 (F := Ideal) c arg1 harg1 arg5 harg5 x0 x4 hG = lookup x0 x4 1 :=
  word_at harg1 x0 x4 1 (word_load harg5 x4 1 _ _) _ _
theorem bstartB_2 : runB.sl.r_5 (F := Ideal) c arg1 harg1 arg5 harg5 x0 x4 hG = lookup x0 x4 2 :=
  word_at harg1 x0 x4 2 (word_load harg5 x4 2 _ _) _ _
theorem bstartB_3 : runB.sl.r_7 (F := Ideal) c arg1 harg1 arg5 harg5 x0 x4 hG = lookup x0 x4 3 :=
  word_at harg1 x0 x4 3 (word_load harg5 x4 3 _ _) _ _
theorem bstartB_4 : runB.sl.r_9 (F := Ideal) c arg1 harg1 arg5 harg5 x0 x4 hG = lookup x0 x4 4 :=
  word_at harg1 x0 x4 4 (word_load harg5 x4 4 _ _) _ _

end

end Cert.KernelIdeal.Own
-- ==== Proof.Ideal.Step.lean ====
/- What the kernel's stores are made of, over the two rectangles it assembles: the product, its codes and its scales. -/
module

public import proofs.«01_k».proof.Proof.Ideal.Windows

@[expose] public section

set_option maxRecDepth 16384

noncomputable section

namespace Cert.KernelIdeal.Own

open Idealize.ShloMosaic Idealize.ShloMosaic.TcCoe
open Cert.KernelIdeal Cert.KernelIdeal.Gen

/-- The activations with the hidden columns behind them. -/
def xsAt (c : Dev nD) (W : Lora.Words) (x5 : Vec Ideal S256x2560 .bf16) (fh0 : HbBuf0 (F := Ideal) c hbM0_0) (r : Fin 256) (k : ℕ) : EReal :=
  if k < 2560 then x5 (ix2 r ⟨k % 2560, Nat.mod_lt _ (by decide)⟩) else Lora.hd W (fun r k => x5 (ix2 r k)) (paOf c fh0) r (k - 2560)
/-- The kernel's product: one contraction over the activations with the hidden columns. -/
def total (c : Dev nD) (i : ℕ) (W : Lora.Words) (x5 : Vec Ideal S256x2560 .bf16) (x6 : Vec Ideal S320x1024 .i32) (x7 : Vec Ideal S20x1024 .bf16)
    (fh0 : HbBuf0 (F := Ideal) c hbM0_0) (fh1 : HbBuf0 (F := Ideal) c hbM0_1) (r : Fin 256) (n : Fin 1024) : EReal :=
  ∑ k : Fin 2816, xsAt c W x5 fh0 r k.val * wcAt c i W x6 x7 fh1 k.val n
/-- The codes of a row of 1024 numbers, block by block. -/
def codeAt (row : Fin 1024 → EReal) (n : ℕ) : EReal :=
  code (fun m => row ⟨(128 * (n / 128) + m.val) % 1024, Nat.mod_lt _ (by decide)⟩) ⟨n % 128, Nat.mod_lt _ (by decide)⟩
/-- The scale of block `b` of a row of 1024 numbers. -/
def scaleAt (row : Fin 1024 → EReal) (b : ℕ) : EReal :=
  Expo.scale (amax fun m => row ⟨(128 * b + m.val) % 1024, Nat.mod_lt _ (by decide)⟩)

theorem pay52_apply (x : Vec Ideal S256x2816 .bf16) (w : Vec Ideal S2816x1024 .bf16) (r : Fin 256) (n : Fin 1024) :
    k0_pay52 (F := Ideal) x w (ix2 r n) = (k0_pay51 (F := Ideal) x w (ix2 r n) : EReal) := by
  unfold k0_pay52
  pointwise

/-- One block's codes. -/
theorem codes_piece (v : FVec Ideal S256x1024 .f32) (row : Fin 256 → Fin 1024 → EReal) (hv : ∀ r n, v (ix2 r n) = row r n)
    (b o : ℕ) (hb : b < 8) (ho : o = 128 * b) (h : S256x1024.Slices ![0, o] S256x128)
    (inb : ∀ a, (![0, o] : Fin 2 → ℕ) a + S256x128.size a ≤ S256x1024.size a) (x : S256x128.Idx) :
    quant (extractStridedSlice S256x128 ![0, o] v h) x
      = codeAt (row ((Rect.unit (s := S256x1024) ![0, o] S256x128.size inb).emb x 0)) ((Rect.unit (s := S256x1024) ![0, o] S256x128.size inb).emb x 1).val := by
  subst ho
  obtain ⟨r, n, rfl⟩ : ∃ (r : Fin 256) (n : Fin 128), x = ix2 r n := ⟨x 0, x 1, by funext k; match k with | 0 => rfl | 1 => rfl⟩
  have hn := n.isLt
  have e1 : (((Rect.unit (s := S256x1024) ![0, 128 * b] S256x128.size inb).emb (ix2 r n)) 1).val = 128 * b + n.val := by
    show 128 * b + 1 * n.val = _; omega
  have e0 : (((Rect.unit (s := S256x1024) ![0, 128 * b] S256x128.size inb).emb (ix2 r n)) 0) = r := by
    apply Fin.ext; show 0 + 1 * r.val = _; omega
  rw [quant_apply, e0, e1]
  unfold codeAt
  have en : (⟨(128 * b + n.val) % 128, Nat.mod_lt _ (by decide)⟩ : Fin 128) = n := by apply Fin.ext; show (128 * b + n.val) % 128 = n.val; omega
  rw [en]
  congr 1
  funext m
  have hm := m.isLt
  rw [slice_apply _ _ _ _ _ (by omega), hv]
  congr 1
  apply Fin.ext
  show 128 * b + m.val = (128 * ((128 * b + n.val) / 128) + m.val) % 1024
  omega

theorem scale_piece (v : FVec Ideal S256x1024 .f32) (row : Fin 256 → Fin 1024 → EReal) (hv : ∀ r n, v (ix2 r n) = row r n)
    (b o : ℕ) (hb : b < 8) (ho : o = 128 * b) (h : S256x1024.Slices ![0, o] S256x128) (r : Fin 256) :
    scaleCol (extractStridedSlice S256x128 ![0, o] v h) (ix2 r 0) = scaleAt (row r) b := by
  subst ho
  rw [scaleCol_apply]
  unfold scaleAt
  congr 2
  funext m
  have hm := m.isLt
  rw [slice_apply _ _ _ _ _ (by omega), hv]
  congr 1
  apply Fin.ext
  show 128 * b + m.val = (128 * b + m.val) % 1024
  omega

/-- A lane of the scales belongs to block `k` of grid point `a`. -/
theorem lane_eq (a l k : ℕ) (ha : a < 10) (hl : l < 80) (hk : k < 8) :
    BitVec.ofNat 32 l = BitVec.ofNat 32 a * 8#32 + BitVec.ofNat 32 k ↔ l = 8 * a + k := by
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-- The scales of the eight blocks of one grid point put in their lanes, over what was there. -/
def chain (a : BitVec 32) (acc : FVec Ideal S256x80 .f32) (v : FVec Ideal S256x1024 .f32) : FVec Ideal S256x80 .f32 :=
  putScale a 7#32 (putScale a 6#32 (putScale a 5#32 (putScale a 4#32 (putScale a 3#32 (putScale a 2#32 (putScale a 1#32 (putScale a 0#32 acc (scaleCol (extractStridedSlice S256x128 ![0, 0] v slices_S256x1024_o0_0_S256x128))) (scaleCol (extractStridedSlice S256x128 ![0, 128] v slices_S256x1024_o0_128_S256x128))) (scaleCol (extractStridedSlice S256x128 ![0, 256] v slices_S256x1024_o0_256_S256x128))) (scaleCol (extractStridedSlice S256x128 ![0, 384] v slices_S256x1024_o0_384_S256x128))) (scaleCol (extractStridedSlice S256x128 ![0, 512] v slices_S256x1024_o0_512_S256x128))) (scaleCol (extractStridedSlice S256x128 ![0, 640] v slices_S256x1024_o0_640_S256x128))) (scaleCol (extractStridedSlice S256x128 ![0, 768] v slices_S256x1024_o0_768_S256x128))) (scaleCol (extractStridedSlice S256x128 ![0, 896] v slices_S256x1024_o0_896_S256x128))

theorem chain_apply (a : ℕ) (ha : a < 10) (acc : FVec Ideal S256x80 .f32) (v : FVec Ideal S256x1024 .f32) (row : Fin 256 → Fin 1024 → EReal)
    (hv : ∀ r n, v (ix2 r n) = row r n) (r : Fin 256) (l : Fin 80) :
    chain (BitVec.ofNat 32 a) acc v (ix2 r l) = if l.val / 8 = a then scaleAt (row r) (l.val % 8) else acc (ix2 r l) := by
  have hl := l.isLt
  unfold chain
  simp only [putScale_apply, lane_eq a l.val _ ha hl (by decide : (0 : ℕ) < 8), lane_eq a l.val _ ha hl (by decide : (1 : ℕ) < 8),
    lane_eq a l.val _ ha hl (by decide : (2 : ℕ) < 8), lane_eq a l.val _ ha hl (by decide : (3 : ℕ) < 8), lane_eq a l.val _ ha hl (by decide : (4 : ℕ) < 8),
    lane_eq a l.val _ ha hl (by decide : (5 : ℕ) < 8), lane_eq a l.val _ ha hl (by decide : (6 : ℕ) < 8), lane_eq a l.val _ ha hl (by decide : (7 : ℕ) < 8)]
  have key : ∀ (b o : ℕ) (hb : b < 8) (ho : o = 128 * b) (h : S256x1024.Slices ![0, o] S256x128), l.val = 8 * a + b →
      scaleCol (extractStridedSlice S256x128 ![0, o] v h) (ix2 r 0) = if l.val / 8 = a then scaleAt (row r) (l.val % 8) else acc (ix2 r l) := by
    intro b o hb ho h e
    rw [if_pos (by omega), scale_piece v row hv b o hb ho h r, (by omega : l.val % 8 = b)]
  by_cases h7 : l.val = 8 * a + 7
  · rw [if_pos h7]; exact key 7 896 (by decide) rfl _ h7
  rw [if_neg h7]
  by_cases h6 : l.val = 8 * a + 6
  · rw [if_pos h6]; exact key 6 768 (by decide) rfl _ h6
  rw [if_neg h6]
  by_cases h5 : l.val = 8 * a + 5
  · rw [if_pos h5]; exact key 5 640 (by decide) rfl _ h5
  rw [if_neg h5]
  by_cases h4 : l.val = 8 * a + 4
  · rw [if_pos h4]; exact key 4 512 (by decide) rfl _ h4
  rw [if_neg h4]
  by_cases h3 : l.val = 8 * a + 3
  · rw [if_pos h3]; exact key 3 384 (by decide) rfl _ h3
  rw [if_neg h3]
  by_cases h2 : l.val = 8 * a + 2
  · rw [if_pos h2]; exact key 2 256 (by decide) rfl _ h2
  rw [if_neg h2]
  by_cases h1 : l.val = 8 * a + 1
  · rw [if_pos h1]; exact key 1 128 (by decide) rfl _ h1
  rw [if_neg h1]
  by_cases h0 : l.val = 8 * a + 0
  · rw [if_pos h0]; exact key 0 0 (by decide) rfl _ h0
  rw [if_neg h0]
  rw [if_neg (by omega)]

/-- A whole buffer loaded whole. -/
theorem readAt_whole {e : EltTy} {sp : Space} {a b : ℕ} {m : Memref sig .tc sp ⟨2, ![a, b]⟩ e} (h : m.IsWhole) (x : Vec Ideal ⟨2, ![a, b]⟩ e)
    (inb : ∀ k, (![0, 0] : Fin 2 → ℕ) k + (![a, b] : Fin 2 → ℕ) k ≤ (⟨2, ![a, b]⟩ : Shape).size k) :
    View.readAt (Elt Ideal) m.view (Rect.unit (s := ⟨2, ![a, b]⟩) ![0, 0] ![a, b] inb).toLoadRect (h.unread x) = x := by
  funext y
  rw [Memref.IsWhole.readAt_unread]
  exact congrArg x (idx_origin inb y)

theorem mem_origin {a b : ℕ} (inb : ∀ k, (![0, 0] : Fin 2 → ℕ) k + (![a, b] : Fin 2 → ℕ) k ≤ (⟨2, ![a, b]⟩ : Shape).size k) (y : (⟨2, ![a, b]⟩ : Shape).Idx) :
    y ∈ (Rect.unit (s := ⟨2, ![a, b]⟩) ![0, 0] ![a, b] inb).set := by
  refine Rect.mem_set_unit.mpr fun k => ?_
  match k with
  | 0 => exact ⟨Nat.zero_le _, by show (y 0).val < 0 + a; have : (y 0).val < a := (y 0).isLt; omega⟩
  | 1 => exact ⟨Nat.zero_le _, by show (y 1).val < 0 + b; have : (y 1).val < b := (y 1).isLt; omega⟩

/-- A column no piece of whole columns holds. -/
theorem cols_out {a b o h : ℕ} (inb : ∀ k, (![0, o] : Fin 2 → ℕ) k + (![a, h] : Fin 2 → ℕ) k ≤ (⟨2, ![a, b]⟩ : Shape).size k) (y : (⟨2, ![a, b]⟩ : Shape).Idx)
    (hn : y ∉ (Rect.unit (s := ⟨2, ![a, b]⟩) ![0, o] ![a, h] inb).set) : (y 1).val < o ∨ o + h ≤ (y 1).val := by
  by_contra hc
  push Not at hc
  refine hn (Rect.mem_set_unit.mpr fun k => ?_)
  match k with
  | 0 => exact ⟨Nat.zero_le _, by show (y 0).val < 0 + a; have : (y 0).val < a := (y 0).isLt; omega⟩
  | 1 => exact hc

theorem pay24_apply (keep : IVec S256x256 1) (gain : FVec Ideal S256x256 .f32) (x aw : Vec Ideal S256x2560 .bf16) (r q : Fin 256) :
    k0_pay24 (F := Ideal) keep gain x aw (ix2 r q) = (k0_pay23 (F := Ideal) keep gain x aw (ix2 r q) : EReal) := by
  unfold k0_pay24
  pointwise

theorem pay5_apply (x : Vec Ideal S256x2560 .bf16) (r : Fin 256) (q : Fin 2560) : k0_pay5 (F := Ideal) (k0_pay4 (F := Ideal) x) (ix2 r q) = (x (ix2 r q) : EReal) := by
  unfold k0_pay5 k0_pay4
  pointwise

theorem pay26_apply (x : FVec Ideal S256x32 .f32) (r : Fin 256) (q : Fin 32) : k0_pay26 (F := Ideal) x (ix2 r q) = (x (ix2 r q) : EReal) := by
  unfold k0_pay26
  pointwise

theorem pay53_apply (x : Vec Ideal S256x80 .f32) (r : Fin 256) (q : Fin 80) : k0_pay53 (F := Ideal) x (ix2 r q) = (x (ix2 r q) : EReal) := by
  unfold k0_pay53
  pointwise

end Cert.KernelIdeal.Own
-- ==== Proof.Ideal.StepA.lean ====
/- What the kernel leaves at the first point of the grid, element by element. -/
module

public import proofs.«01_k».proof.Proof.Ideal.Step

@[expose] public section

set_option maxRecDepth 16384

noncomputable section

namespace Cert.KernelIdeal.Own

open Idealize.ShloMosaic Idealize.ShloMosaic.TcCoe
open Cert.KernelIdeal Cert.KernelIdeal.Gen

section
variable (c : Dev nD) (i : grid0.Coords) (hc0 : cond0_0 i) (hc1 : ¬cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole) (arg6 : Memref sig .tc .vmem S256x2560 .bf16) (harg6 : arg6.IsWhole) (arg7 : Memref sig .tc .vmem S320x1024 .i32) (harg7 : arg7.IsWhole) (arg8 : Memref sig .tc .vmem S20x1024 .bf16) (harg8 : arg8.IsWhole) (arg11 : Memref sig .tc .vmem S256x1024 .bf16) (harg11 : arg11.IsWhole) (arg12 : Memref sig .tc .vmem S256x32 .bf16) (harg12 : arg12.IsWhole) (arg13 : Memref sig .tc .vmem S256x1024 .fp8e4m3) (harg13 : arg13.IsWhole) (arg14 : Memref sig .tc .vmem S256x80 .f32) (harg14 : arg14.IsWhole) (arg15 : Memref sig .tc .vmem S256x2816 .bf16) (harg15 : arg15.IsWhole) (arg16 : Memref sig .tc .vmem S2816x1024 .bf16) (harg16 : arg16.IsWhole) (arg17 : Memref sig .tc .vmem S256x2560 .bf16) (harg17 : arg17.IsWhole)
    (x0 : Vec Ideal S9 .i32) (x1 : Vec Ideal S9 .i32) (x2 : Vec Ideal S9 .f32) (x3 : Vec Ideal S6 .i32) (x4 : Vec Ideal S5 .i32) (x5 : Vec Ideal S256x2560 .bf16) (x6 : Vec Ideal S320x1024 .i32) (x7 : Vec Ideal S20x1024 .bf16)
    (xo9 : Vec Ideal S256x32 .bf16) (xo11 : Vec Ideal S256x80 .f32) (xs0 : Vec Ideal S256x2816 .bf16) (xs1 : Vec Ideal S2816x1024 .bf16)
    (fh0 : HbBuf0 (F := Ideal) c hbM0_0) (fh1 : HbBuf0 (F := Ideal) c hbM0_1)
    (hS : ∀ j, (x0 j : BitVec 32).toNat ≤ 368) (hG : ∀ j, (x4 j : BitVec 32).toNat < 9)
    (hR : ∀ j, (x1 j : BitVec 32).toInt ≤ 32)
    (hO : ∀ s : Fin 5, (x3 (ix1 s.castSucc) : BitVec 32).toInt ≤ (x3 (ix1 s.succ) : BitVec 32).toInt)

include hS hR hO in
theorem words_ok : (wordsOf x0 x1 x2 x3 x4).Ok := ⟨fun _ => hS _, fun _ => hR _, hO⟩

include hR in
theorem hiddenA (inb6) (r q : Fin 256) :
    k0_pay23 (F := Ideal) (runA.sl.v977 (F := Ideal) c i hc0 arg1 harg1 arg2 harg2 arg4 harg4 arg5 harg5 x0 x1 x3 x4 hG)
        (runA.sl.v988 (F := Ideal) c i hc0 arg3 harg3 arg4 harg4 arg5 harg5 x2 x3 x4 hG)
        (View.readAt (Elt Ideal) arg6.view (Rect.unit (s := S256x2560) ![0, 0] S256x2560.size inb6).toLoadRect (harg6.unread x5))
        (runA.sl.v1048 (F := Ideal) c i hc0 arg1 harg1 arg5 harg5 arg17 x0 x4 fh0 hS hG) (ix2 r q)
      = Lora.hd (wordsOf x0 x1 x2 x3 x4) (fun (r : Fin 256) (k : Fin 2560) => (x5 (ix2 r k) : EReal)) (paOf c fh0) r q.val := by
  rw [hidden_apply, readAt_whole harg6 x5 inb6, gain_mask c i hc0 arg3 harg3 arg4 harg4 arg5 harg5 x0 x1 x2 x3 x4 hG]
  unfold Lora.hd
  have hk := keep_mask c i hc0 arg1 harg1 arg2 harg2 arg4 harg4 arg5 harg5 x0 x1 x2 x3 x4 hG hS hR r q
  by_cases h : Lora.keep (wordsOf x0 x1 x2 x3 x4) r q.val
  · rw [if_pos h, if_pos (hk.mpr h)]
    congr 1
    refine Finset.sum_congr rfl fun k _ => ?_
    rw [window_rows c i hc0 arg1 harg1 arg5 harg5 arg17 x0 x1 x2 x3 x4 fh0 hS hG]
    rfl
  · rw [if_neg h, if_neg fun e => h (hk.mp e)]

include hR in
theorem xsA (f : arg15.view.ty.Contents (Elt Ideal)) (r : Fin 256) (k : Fin 2816) :
    arg15.view.read (Elt Ideal) (arg15.view.writes (Elt Ideal) f (runA (F := Ideal) c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG).2.2.2.2.1) (ix2 r k)
      = xsAt c (wordsOf x0 x1 x2 x3 x4) x5 fh0 r k.val := by
  unfold runA
  dsimp only
  have hk := k.isLt
  refine View.read_writes_apply_of_pieces arg15.view f (fun y : S256x2816.Idx => xsAt c (wordsOf x0 x1 x2 x3 x4) x5 fh0 (y 0) (y 1).val) _ ?_ (ix2 r k) ?_
  · unfold runA.sl.HS0_2
    simp only [List.forall_mem_cons]
    refine ⟨?_, ?_, by simp⟩
    · intro x
      obtain ⟨r, q, rfl⟩ : ∃ (r q : Fin 256), x = ix2 r q := ⟨x 0, x 1, by funext k; match k with | 0 => rfl | 1 => rfl⟩
      have e0 : ((Rect.unit (s := S256x2816) ![0, 2560] S256x256.size inb_S256x2816_S256x256_0_2560).emb (ix2 r q) 0) = r := by
        apply Fin.ext; show 0 + 1 * r.val = _; omega
      have e1 : ((Rect.unit (s := S256x2816) ![0, 2560] S256x256.size inb_S256x2816_S256x256_0_2560).emb (ix2 r q) 1).val = 2560 + q.val := by
        show 2560 + 1 * q.val = _; omega
      rw [pay24_apply, hiddenA]
      show _ = xsAt _ _ _ _ ((Rect.unit (s := S256x2816) ![0, 2560] S256x256.size inb_S256x2816_S256x256_0_2560).emb (ix2 r q) 0) ((Rect.unit (s := S256x2816) ![0, 2560] S256x256.size inb_S256x2816_S256x256_0_2560).emb (ix2 r q) 1).val
      rw [e0, e1]
      unfold xsAt
      rw [if_neg (by omega), Nat.add_sub_cancel_left]
      exact hR
    · intro x
      obtain ⟨r, q, rfl⟩ : ∃ (r : Fin 256) (q : Fin 2560), x = ix2 r q := ⟨x 0, x 1, by funext k; match k with | 0 => rfl | 1 => rfl⟩
      have hq := q.isLt
      have e0 : ((Rect.unit (s := S256x2816) ![0, 0] S256x2560.size inb_S256x2816_S256x2560_0_0).emb (ix2 r q) 0) = r := by
        apply Fin.ext; show 0 + 1 * r.val = _; omega
      have e1 : ((Rect.unit (s := S256x2816) ![0, 0] S256x2560.size inb_S256x2816_S256x2560_0_0).emb (ix2 r q) 1).val = q.val := by
        show 0 + 1 * q.val = _; omega
      unfold runA.sl.r_15
      rw [pay5_apply, readAt_whole harg6 x5]
      show _ = xsAt _ _ _ _ ((Rect.unit (s := S256x2816) ![0, 0] S256x2560.size inb_S256x2816_S256x2560_0_0).emb (ix2 r q) 0) ((Rect.unit (s := S256x2816) ![0, 0] S256x2560.size inb_S256x2816_S256x2560_0_0).emb (ix2 r q) 1).val
      rw [e0, e1]
      unfold xsAt
      rw [if_pos (by omega)]
      congr 2
      apply Fin.ext; show q.val = q.val % 2560; omega
  · unfold runA.sl.HS0_2
    by_contra hn
    simp only [List.exists_mem_cons_iff, not_or] at hn
    obtain ⟨h0, h1, -⟩ := hn
    have h0 := cols_out _ _ h0; have h1 := cols_out _ _ h1
    have : ((ix2 r k : S256x2816.Idx) 1).val = k.val := rfl
    omega

theorem wcA (f : arg16.view.ty.Contents (Elt Ideal)) (q : Fin 2816) (n : Fin 1024) :
    arg16.view.read (Elt Ideal) (arg16.view.writes (Elt Ideal) f (runA (F := Ideal) c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG).2.2.2.2.2.1) (ix2 q n)
      = wcAt c (i 0).val (wordsOf x0 x1 x2 x3 x4) x6 x7 fh1 q.val n := by
  unfold runA
  dsimp only
  have hq := q.isLt
  refine View.read_writes_apply_of_pieces arg16.view f (wcV c (i 0).val (wordsOf x0 x1 x2 x3 x4) x6 x7 fh1) _ ?_ (ix2 q n) ?_
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, by simp⟩
    · intro x; exact rows_w c i arg7 harg7 arg8 harg8 x6 x7 fh1 19 2432 (by decide) rfl _ slices_S2560x1024_o2432_0_S128x1024 inb_S320x1024_S320x1024_0_0 inb_S20x1024_S1x1024_19_0 inb_S2816x1024_S128x1024_2432_0 x
    · intro x; exact rows_w c i arg7 harg7 arg8 harg8 x6 x7 fh1 18 2304 (by decide) rfl _ slices_S2560x1024_o2304_0_S128x1024 inb_S320x1024_S320x1024_0_0 inb_S20x1024_S1x1024_18_0 inb_S2816x1024_S128x1024_2304_0 x
    · intro x; exact rows_w c i arg7 harg7 arg8 harg8 x6 x7 fh1 17 2176 (by decide) rfl _ slices_S2560x1024_o2176_0_S128x1024 inb_S320x1024_S320x1024_0_0 inb_S20x1024_S1x1024_17_0 inb_S2816x1024_S128x1024_2176_0 x
    · intro x; exact rows_w c i arg7 harg7 arg8 harg8 x6 x7 fh1 16 2048 (by decide) rfl _ slices_S2560x1024_o2048_0_S128x1024 inb_S320x1024_S320x1024_0_0 inb_S20x1024_S1x1024_16_0 inb_S2816x1024_S128x1024_2048_0 x
    · intro x; exact rows_w c i arg7 harg7 arg8 harg8 x6 x7 fh1 15 1920 (by decide) rfl _ slices_S2560x1024_o1920_0_S128x1024 inb_S320x1024_S320x1024_0_0 inb_S20x1024_S1x1024_15_0 inb_S2816x1024_S128x1024_1920_0 x
    · intro x; exact rows_w c i arg7 harg7 arg8 harg8 x6 x7 fh1 14 1792 (by decide) rfl _ slices_S2560x1024_o1792_0_S128x1024 inb_S320x1024_S320x1024_0_0 inb_S20x1024_S1x1024_14_0 inb_S2816x1024_S128x1024_1792_0 x
    · intro x; exact rows_w c i arg7 harg7 arg8 harg8 x6 x7 fh1 13 1664 (by decide) rfl _ slices_S2560x1024_o1664_0_S128x1024 inb_S320x1024_S320x1024_0_0 inb_S20x1024_S1x1024_13_0 inb_S2816x1024_S128x1024_1664_0 x
    · intro x; exact rows_w c i arg7 harg7 arg8 harg8 x6 x7 fh1 12 1536 (by decide) rfl _ slices_S2560x1024_o1536_0_S128x1024 inb_S320x1024_S320x1024_0_0 inb_S20x1024_S1x1024_12_0 inb_S2816x1024_S128x1024_1536_0 x
    · intro x; exact rows_w c i arg7 harg7 arg8 harg8 x6 x7 fh1 11 1408 (by decide) rfl _ slices_S2560x1024_o1408_0_S128x1024 inb_S320x1024_S320x1024_0_0 inb_S20x1024_S1x1024_11_0 inb_S2816x1024_S128x1024_1408_0 x
    · intro x; exact rows_w c i arg7 harg7 arg8 harg8 x6 x7 fh1 10 1280 (by decide) rfl _ slices_S2560x1024_o1280_0_S128x1024 inb_S320x1024_S320x1024_0_0 inb_S20x1024_S1x1024_10_0 inb_S2816x1024_S128x1024_1280_0 x
    · intro x; exact rows_w c i arg7 harg7 arg8 harg8 x6 x7 fh1 9 1152 (by decide) rfl _ slices_S2560x1024_o1152_0_S128x1024 inb_S320x1024_S320x1024_0_0 inb_S20x1024_S1x1024_9_0 inb_S2816x1024_S128x1024_1152_0 x
    · intro x; exact rows_w c i arg7 harg7 arg8 harg8 x6 x7 fh1 8 1024 (by decide) rfl _ slices_S2560x1024_o1024_0_S128x1024 inb_S320x1024_S320x1024_0_0 inb_S20x1024_S1x1024_8_0 inb_S2816x1024_S128x1024_1024_0 x
    · intro x; exact rows_w c i arg7 harg7 arg8 harg8 x6 x7 fh1 7 896 (by decide) rfl _ slices_S2560x1024_o896_0_S128x1024 inb_S320x1024_S320x1024_0_0 inb_S20x1024_S1x1024_7_0 inb_S2816x1024_S128x1024_896_0 x
    · intro x; exact rows_w c i arg7 harg7 arg8 harg8 x6 x7 fh1 6 768 (by decide) rfl _ slices_S2560x1024_o768_0_S128x1024 inb_S320x1024_S320x1024_0_0 inb_S20x1024_S1x1024_6_0 inb_S2816x1024_S128x1024_768_0 x
    · intro x; exact rows_w c i arg7 harg7 arg8 harg8 x6 x7 fh1 5 640 (by decide) rfl _ slices_S2560x1024_o640_0_S128x1024 inb_S320x1024_S320x1024_0_0 inb_S20x1024_S1x1024_5_0 inb_S2816x1024_S128x1024_640_0 x
    · intro x; exact rows_w c i arg7 harg7 arg8 harg8 x6 x7 fh1 4 512 (by decide) rfl _ slices_S2560x1024_o512_0_S128x1024 inb_S320x1024_S320x1024_0_0 inb_S20x1024_S1x1024_4_0 inb_S2816x1024_S128x1024_512_0 x
    · intro x; exact rows_w c i arg7 harg7 arg8 harg8 x6 x7 fh1 3 384 (by decide) rfl _ slices_S2560x1024_o384_0_S128x1024 inb_S320x1024_S320x1024_0_0 inb_S20x1024_S1x1024_3_0 inb_S2816x1024_S128x1024_384_0 x
    · intro x; exact rows_w c i arg7 harg7 arg8 harg8 x6 x7 fh1 2 256 (by decide) rfl _ slices_S2560x1024_o256_0_S128x1024 inb_S320x1024_S320x1024_0_0 inb_S20x1024_S1x1024_2_0 inb_S2816x1024_S128x1024_256_0 x
    · intro x; exact rows_w c i arg7 harg7 arg8 harg8 x6 x7 fh1 1 128 (by decide) rfl _ slices_S2560x1024_o128_0_S128x1024 inb_S320x1024_S320x1024_0_0 inb_S20x1024_S1x1024_1_0 inb_S2816x1024_S128x1024_128_0 x
    · intro x; exact rows_w c i arg7 harg7 arg8 harg8 x6 x7 fh1 0 0 (by decide) rfl _ slices_S2560x1024_o0_0_S128x1024 inb_S320x1024_S320x1024_0_0 inb_S20x1024_S1x1024_0_0 inb_S2816x1024_S128x1024_0_0 x
    · intro x
      refine (zero_b x).trans (Eq.symm ?_)
      refine (if_neg ?_).trans (if_neg ?_)
      · show ¬(2800 + 1 * (x 0).val < 2560); omega
      · show ¬(2800 + 1 * (x 0).val - 2560 < 240); omega
    · intro x; unfold runA.sl.dma10; exact rows_b c i x0 x1 x2 x3 x4 x6 x7 fh1 hS 4 _ (bstartA_4 c arg1 harg1 arg5 harg5 x0 x4 hG) (k0_off10 i (runA.sl.r_9 (F := Ideal) c arg1 harg1 arg5 harg5 x0 x4 hG)) rfl rfl _ _ 2752 rfl _ x
    · intro x; unfold runA.sl.dma8; exact rows_b c i x0 x1 x2 x3 x4 x6 x7 fh1 hS 3 _ (bstartA_3 c arg1 harg1 arg5 harg5 x0 x4 hG) (k0_off8 i (runA.sl.r_7 (F := Ideal) c arg1 harg1 arg5 harg5 x0 x4 hG)) rfl rfl _ _ 2704 rfl _ x
    · intro x; unfold runA.sl.dma6; exact rows_b c i x0 x1 x2 x3 x4 x6 x7 fh1 hS 2 _ (bstartA_2 c arg1 harg1 arg5 harg5 x0 x4 hG) (k0_off6 i (runA.sl.r_5 (F := Ideal) c arg1 harg1 arg5 harg5 x0 x4 hG)) rfl rfl _ _ 2656 rfl _ x
    · intro x; unfold runA.sl.dma4; exact rows_b c i x0 x1 x2 x3 x4 x6 x7 fh1 hS 1 _ (bstartA_1 c arg1 harg1 arg5 harg5 x0 x4 hG) (k0_off4 i (runA.sl.r_3 (F := Ideal) c arg1 harg1 arg5 harg5 x0 x4 hG)) rfl rfl _ _ 2608 rfl _ x
    · intro x; unfold runA.sl.dma2; exact rows_b c i x0 x1 x2 x3 x4 x6 x7 fh1 hS 0 _ (bstartA_0 c arg1 harg1 arg5 harg5 x0 x4 hG) (k0_off2 i (runA.sl.r_1 (F := Ideal) c arg1 harg1 arg5 harg5 x0 x4 hG)) rfl rfl _ _ 2560 rfl _ x
  · by_contra hn
    simp only [List.exists_mem_cons_iff, not_or] at hn
    obtain ⟨h0, h1, h2, h3, h4, h5, h6, h7, h8, h9, h10, h11, h12, h13, h14, h15, h16, h17, h18, h19, h20, h21, h22, h23, h24, h25, -⟩ := hn
    have h0 := rows_out _ _ h0; have h1 := rows_out _ _ h1; have h2 := rows_out _ _ h2; have h3 := rows_out _ _ h3; have h4 := rows_out _ _ h4; have h5 := rows_out _ _ h5; have h6 := rows_out _ _ h6; have h7 := rows_out _ _ h7; have h8 := rows_out _ _ h8; have h9 := rows_out _ _ h9; have h10 := rows_out _ _ h10; have h11 := rows_out _ _ h11; have h12 := rows_out _ _ h12; have h13 := rows_out _ _ h13; have h14 := rows_out _ _ h14; have h15 := rows_out _ _ h15; have h16 := rows_out _ _ h16; have h17 := rows_out _ _ h17; have h18 := rows_out _ _ h18; have h19 := rows_out _ _ h19; have h20 := rows_out _ _ h20; have h21 := rows_out _ _ h21; have h22 := rows_out _ _ h22; have h23 := rows_out _ _ h23; have h24 := rows_out _ _ h24; have h25 := rows_out _ _ h25
    have : ((ix2 q n : S2816x1024.Idx) 0).val = q.val := rfl
    omega

include hR harg11 harg12 harg13 harg14 harg15 harg16 harg17 xo11 in
theorem totalA (r : Fin 256) (n : Fin 1024) :
    runA.sl.r_60 (F := Ideal) c i hc0 arg1 harg1 arg2 harg2 arg3 harg3 arg4 harg4 arg5 harg5 arg6 harg6 arg7 harg7 arg8 harg8 arg15 arg16 arg17 x0 x1 x2 x3 x4 x5 x6 x7 fh0 fh1 hS hG (ix2 r n)
      = total c (i 0).val (wordsOf x0 x1 x2 x3 x4) x5 x6 x7 fh0 fh1 r n := by
  unfold runA.sl.r_60 total
  rw [product_apply]
  refine Finset.sum_congr rfl fun k _ => ?_
  have e1 : runA.sl.v297 (F := Ideal) c i hc0 arg1 harg1 arg2 harg2 arg3 harg3 arg4 harg4 arg5 harg5 arg6 harg6 arg15 arg17 x0 x1 x2 x3 x4 x5 fh0 hS hG (ix2 r k) = xsAt c (wordsOf x0 x1 x2 x3 x4) x5 fh0 r k.val :=
    (congrArg _ (idx_origin inb_S256x2816_S256x2816_0_0 (ix2 r k))).trans (xsA c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG hR arg15.view.junk r k)
  have e2 : runA.sl.v298 (F := Ideal) c i arg1 harg1 arg5 harg5 arg7 harg7 arg8 harg8 arg16 x0 x4 x6 x7 fh1 hS hG (ix2 k n) = wcAt c (i 0).val (wordsOf x0 x1 x2 x3 x4) x6 x7 fh1 k.val n :=
    (congrArg _ (idx_origin inb_S2816x1024_S2816x1024_0_0 (ix2 k n))).trans (wcA c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG arg16.view.junk k n)
  rw [e1, e2]

include hR in
theorem yA (f : arg11.view.ty.Contents (Elt Ideal)) (r : Fin 256) (n : Fin 1024) :
    arg11.view.read (Elt Ideal) (arg11.view.writes (Elt Ideal) f (runA (F := Ideal) c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG).1) (ix2 r n)
      = total c (i 0).val (wordsOf x0 x1 x2 x3 x4) x5 x6 x7 fh0 fh1 r n := by
  unfold runA
  dsimp only
  refine View.read_writes_apply_of_pieces arg11.view f (fun y : S256x1024.Idx => total c (i 0).val (wordsOf x0 x1 x2 x3 x4) x5 x6 x7 fh0 fh1 (y 0) (y 1)) _ ?_ (ix2 r n) ?_
  · simp only [List.forall_mem_cons]
    refine ⟨fun x => ?_, by simp⟩
    have ex : (Rect.unit (s := S256x1024) ![0, 0] S256x1024.size inb_S256x1024_S256x1024_0_0).emb x = x := idx_origin inb_S256x1024_S256x1024_0_0 x
    rw [ex]
    obtain ⟨r, n, rfl⟩ : ∃ (r : Fin 256) (n : Fin 1024), x = ix2 r n := ⟨x 0, x 1, by funext k; match k with | 0 => rfl | 1 => rfl⟩
    exact (pay52_apply _ _ r n).trans (totalA c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG hR r n)
  · exact ⟨_, List.mem_cons_self, mem_origin inb_S256x1024_S256x1024_0_0 _⟩

include hR in
theorem codesA (f : arg13.view.ty.Contents (Elt Ideal)) (r : Fin 256) (n : Fin 1024) :
    arg13.view.read (Elt Ideal) (arg13.view.writes (Elt Ideal) f (runA (F := Ideal) c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG).2.2.1) (ix2 r n)
      = codeAt (total c (i 0).val (wordsOf x0 x1 x2 x3 x4) x5 x6 x7 fh0 fh1 r) n.val := by
  unfold runA
  dsimp only
  have hn' := n.isLt
  have hv := totalA c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG hR
  refine View.read_writes_apply_of_pieces arg13.view f (fun y : S256x1024.Idx => codeAt (total c (i 0).val (wordsOf x0 x1 x2 x3 x4) x5 x6 x7 fh0 fh1 (y 0)) (y 1).val) _ ?_ (ix2 r n) ?_
  · simp only [List.forall_mem_cons]
    refine ⟨?_, ?_, ?_, ?_, ?_, ?_, ?_, ?_, by simp⟩
    · intro x; exact codes_piece _ _ hv 7 896 (by decide) rfl slices_S256x1024_o0_896_S256x128 inb_S256x1024_S256x128_0_896 x
    · intro x; exact codes_piece _ _ hv 6 768 (by decide) rfl slices_S256x1024_o0_768_S256x128 inb_S256x1024_S256x128_0_768 x
    · intro x; exact codes_piece _ _ hv 5 640 (by decide) rfl slices_S256x1024_o0_640_S256x128 inb_S256x1024_S256x128_0_640 x
    · intro x; exact codes_piece _ _ hv 4 512 (by decide) rfl slices_S256x1024_o0_512_S256x128 inb_S256x1024_S256x128_0_512 x
    · intro x; exact codes_piece _ _ hv 3 384 (by decide) rfl slices_S256x1024_o0_384_S256x128 inb_S256x1024_S256x128_0_384 x
    · intro x; exact codes_piece _ _ hv 2 256 (by decide) rfl slices_S256x1024_o0_256_S256x128 inb_S256x1024_S256x128_0_256 x
    · intro x; exact codes_piece _ _ hv 1 128 (by decide) rfl slices_S256x1024_o0_128_S256x128 inb_S256x1024_S256x128_0_128 x
    · intro x; exact codes_piece _ _ hv 0 0 (by decide) rfl slices_S256x1024_o0_0_S256x128 inb_S256x1024_S256x128_0_0 x
  · by_contra hn
    simp only [List.exists_mem_cons_iff, not_or] at hn
    obtain ⟨h0, h1, h2, h3, h4, h5, h6, h7, -⟩ := hn
    have h0 := cols_out _ _ h0; have h1 := cols_out _ _ h1; have h2 := cols_out _ _ h2; have h3 := cols_out _ _ h3
    have h4 := cols_out _ _ h4; have h5 := cols_out _ _ h5; have h6 := cols_out _ _ h6; have h7 := cols_out _ _ h7
    have : ((ix2 r n : S256x1024.Idx) 1).val = n.val := rfl
    omega

include hR in
theorem scalesA (f : arg14.view.ty.Contents (Elt Ideal)) (r : Fin 256) (l : Fin 80) :
    arg14.view.read (Elt Ideal) (arg14.view.writes (Elt Ideal) f (runA (F := Ideal) c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG).2.2.2.1) (ix2 r l)
      = if l.val / 8 = (i 0).val then scaleAt (total c (i 0).val (wordsOf x0 x1 x2 x3 x4) x5 x6 x7 fh0 fh1 r) (l.val % 8) else xo11 (ix2 r l) := by
  unfold runA
  dsimp only
  refine View.read_writes_apply_of_pieces arg14.view f (fun y : S256x80.Idx => if (y 1).val / 8 = (i 0).val then scaleAt (total c (i 0).val (wordsOf x0 x1 x2 x3 x4) x5 x6 x7 fh0 fh1 (y 0)) ((y 1).val % 8) else xo11 y) _ ?_ (ix2 r l) ?_
  · simp only [List.forall_mem_cons]
    refine ⟨fun x => ?_, by simp⟩
    have ex : (Rect.unit (s := S256x80) ![0, 0] S256x80.size inb_S256x80_S256x80_0_0).emb x = x := idx_origin inb_S256x80_S256x80_0_0 x
    rw [ex]
    obtain ⟨r, n, rfl⟩ : ∃ (r : Fin 256) (n : Fin 80), x = ix2 r n := ⟨x 0, x 1, by funext k; match k with | 0 => rfl | 1 => rfl⟩
    refine (chain_apply (i 0).val (i 0).isLt (k0_pay53 (F := Ideal) (View.readAt (Elt Ideal) arg14.view (Rect.unit (s := S256x80) ![0, 0] S256x80.size inb_S256x80_S256x80_0_0).toLoadRect (harg14.unread xo11))) _ _ (totalA c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG hR) r n).trans ?_
    rw [pay53_apply, readAt_whole harg14 xo11]
    rfl
  · exact ⟨_, List.mem_cons_self, mem_origin inb_S256x80_S256x80_0_0 _⟩

include hR hO in
theorem loraA (f : arg12.view.ty.Contents (Elt Ideal)) (r : Fin 256) (j : Fin 32) :
    arg12.view.read (Elt Ideal) (arg12.view.writes (Elt Ideal) f (runA (F := Ideal) c i hc0 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo11 fh0 fh1 hS hG).2.1) (ix2 r j)
      = Lora.lora (wordsOf x0 x1 x2 x3 x4) (fun (r : Fin 256) (k : Fin 2560) => (x5 (ix2 r k) : EReal)) (paOf c fh0) r j := by
  unfold runA
  dsimp only
  refine View.read_writes_apply_of_pieces arg12.view f (fun y : S256x32.Idx => Lora.lora (wordsOf x0 x1 x2 x3 x4) (fun (r : Fin 256) (k : Fin 2560) => (x5 (ix2 r k) : EReal)) (paOf c fh0) (y 0) (y 1)) _ ?_ (ix2 r j) ?_
  · simp only [List.forall_mem_cons]
    refine ⟨fun x => ?_, by simp⟩
    have ex : (Rect.unit (s := S256x32) ![0, 0] S256x32.size inb_S256x32_S256x32_0_0).emb x = x := idx_origin inb_S256x32_S256x32_0_0 x
    rw [ex]
    obtain ⟨r, j, rfl⟩ : ∃ (r : Fin 256) (j : Fin 32), x = ix2 r j := ⟨x 0, x 1, by funext k; match k with | 0 => rfl | 1 => rfl⟩
    rw [pay26_apply]
    unfold runA.sl.r_48
    rw [low_apply]
    refine Eq.trans ?_ (Lora.sum_sel (fun (r : Fin 256) (k : Fin 2560) => (x5 (ix2 r k) : EReal)) (paOf c fh0) (words_ok x0 x1 x2 x3 x4 hS hR hO) r j)
    refine Finset.sum_congr rfl fun q _ => ?_
    rw [hiddenA]
    congr 1
    have hs := sel_mask c i hc0 arg1 harg1 arg5 harg5 x0 x1 x2 x3 x4 hG hS q ⟨j.val, by omega⟩ j.isLt
    unfold Lora.sel
    by_cases h : ∃ s, q.val = Lora.first (wordsOf x0 x1 x2 x3 x4) s + j.val
    · rw [if_pos h, if_pos (hs.mpr h)]
    · rw [if_neg h, if_neg fun e => h (hs.mp e)]
    exact hR
  · exact ⟨_, List.mem_cons_self, mem_origin inb_S256x32_S256x32_0_0 _⟩
end

end Cert.KernelIdeal.Own
-- ==== Proof.Ideal.StepB.lean ====
/- What the kernel leaves at a later point of the grid, element by element. -/
module

public import proofs.«01_k».proof.Proof.Ideal.Step

@[expose] public section

set_option maxRecDepth 16384

noncomputable section

namespace Cert.KernelIdeal.Own

open Idealize.ShloMosaic Idealize.ShloMosaic.TcCoe
open Cert.KernelIdeal Cert.KernelIdeal.Gen

section
variable (c : Dev nD) (i : grid0.Coords) (hc0 : cond0_0 i) (hc1 : ¬cond0_0 i)
    (arg1 : Memref sig .tc .smem S9 .i32) (harg1 : arg1.IsWhole) (arg2 : Memref sig .tc .smem S9 .i32) (harg2 : arg2.IsWhole) (arg3 : Memref sig .tc .smem S9 .f32) (harg3 : arg3.IsWhole) (arg4 : Memref sig .tc .smem S6 .i32) (harg4 : arg4.IsWhole) (arg5 : Memref sig .tc .smem S5 .i32) (harg5 : arg5.IsWhole) (arg6 : Memref sig .tc .vmem S256x2560 .bf16) (harg6 : arg6.IsWhole) (arg7 : Memref sig .tc .vmem S320x1024 .i32) (harg7 : arg7.IsWhole) (arg8 : Memref sig .tc .vmem S20x1024 .bf16) (harg8 : arg8.IsWhole) (arg11 : Memref sig .tc .vmem S256x1024 .bf16) (harg11 : arg11.IsWhole) (arg12 : Memref sig .tc .vmem S256x32 .bf16) (harg12 : arg12.IsWhole) (arg13 : Memref sig .tc .vmem S256x1024 .fp8e4m3) (harg13 : arg13.IsWhole) (arg14 : Memref sig .tc .vmem S256x80 .f32) (harg14 : arg14.IsWhole) (arg15 : Memref sig .tc .vmem S256x2816 .bf16) (harg15 : arg15.IsWhole) (arg16 : Memref sig .tc .vmem S2816x1024 .bf16) (harg16 : arg16.IsWhole) (arg17 : Memref sig .tc .vmem S256x2560 .bf16) (harg17 : arg17.IsWhole)
    (x0 : Vec Ideal S9 .i32) (x1 : Vec Ideal S9 .i32) (x2 : Vec Ideal S9 .f32) (x3 : Vec Ideal S6 .i32) (x4 : Vec Ideal S5 .i32) (x5 : Vec Ideal S256x2560 .bf16) (x6 : Vec Ideal S320x1024 .i32) (x7 : Vec Ideal S20x1024 .bf16)
    (xo9 : Vec Ideal S256x32 .bf16) (xo11 : Vec Ideal S256x80 .f32) (xs0 : Vec Ideal S256x2816 .bf16) (xs1 : Vec Ideal S2816x1024 .bf16)
    (fh0 : HbBuf0 (F := Ideal) c hbM0_0) (fh1 : HbBuf0 (F := Ideal) c hbM0_1)
    (hS : ∀ j, (x0 j : BitVec 32).toNat ≤ 368) (hG : ∀ j, (x4 j : BitVec 32).toNat < 9)
    (hx0 : ∀ (r : Fin 256) (k : Fin 2816), xs0 (ix2 r k) = xsAt c (wordsOf x0 x1 x2 x3 x4) x5 fh0 r k.val)
    (hx1 : ∀ (q : Fin 2816) (n : Fin 1024), 2800 ≤ q.val → xs1 (ix2 q n) = (0 : EReal))

include hx1 in
theorem wcB (q : Fin 2816) (n : Fin 1024) :
    arg16.view.read (Elt Ideal) (arg16.view.writes (Elt Ideal) (harg16.unread xs1) (runB (F := Ideal) c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG).2.2.2.1) (ix2 q n)
      = wcAt c (i 0).val (wordsOf x0 x1 x2 x3 x4) x6 x7 fh1 q.val n := by
  unfold runB
  dsimp only
  have hq := q.isLt
  refine read_over (a := 2816) (b := 1024) arg16.view _ _ (wcV c (i 0).val (wordsOf x0 x1 x2 x3 x4) x6 x7 fh1) ?_ (ix2 q n) ?_
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, by simp⟩
    · intro x; exact rows_w c i arg7 harg7 arg8 harg8 x6 x7 fh1 19 2432 (by decide) rfl _ slices_S2560x1024_o2432_0_S128x1024 inb_S320x1024_S320x1024_0_0 inb_S20x1024_S1x1024_19_0 inb_S2816x1024_S128x1024_2432_0 x
    · intro x; exact rows_w c i arg7 harg7 arg8 harg8 x6 x7 fh1 18 2304 (by decide) rfl _ slices_S2560x1024_o2304_0_S128x1024 inb_S320x1024_S320x1024_0_0 inb_S20x1024_S1x1024_18_0 inb_S2816x1024_S128x1024_2304_0 x
    · intro x; exact rows_w c i arg7 harg7 arg8 harg8 x6 x7 fh1 17 2176 (by decide) rfl _ slices_S2560x1024_o2176_0_S128x1024 inb_S320x1024_S320x1024_0_0 inb_S20x1024_S1x1024_17_0 inb_S2816x1024_S128x1024_2176_0 x
    · intro x; exact rows_w c i arg7 harg7 arg8 harg8 x6 x7 fh1 16 2048 (by decide) rfl _ slices_S2560x1024_o2048_0_S128x1024 inb_S320x1024_S320x1024_0_0 inb_S20x1024_S1x1024_16_0 inb_S2816x1024_S128x1024_2048_0 x
    · intro x; exact rows_w c i arg7 harg7 arg8 harg8 x6 x7 fh1 15 1920 (by decide) rfl _ slices_S2560x1024_o1920_0_S128x1024 inb_S320x1024_S320x1024_0_0 inb_S20x1024_S1x1024_15_0 inb_S2816x1024_S128x1024_1920_0 x
    · intro x; exact rows_w c i arg7 harg7 arg8 harg8 x6 x7 fh1 14 1792 (by decide) rfl _ slices_S2560x1024_o1792_0_S128x1024 inb_S320x1024_S320x1024_0_0 inb_S20x1024_S1x1024_14_0 inb_S2816x1024_S128x1024_1792_0 x
    · intro x; exact rows_w c i arg7 harg7 arg8 harg8 x6 x7 fh1 13 1664 (by decide) rfl _ slices_S2560x1024_o1664_0_S128x1024 inb_S320x1024_S320x1024_0_0 inb_S20x1024_S1x1024_13_0 inb_S2816x1024_S128x1024_1664_0 x
    · intro x; exact rows_w c i arg7 harg7 arg8 harg8 x6 x7 fh1 12 1536 (by decide) rfl _ slices_S2560x1024_o1536_0_S128x1024 inb_S320x1024_S320x1024_0_0 inb_S20x1024_S1x1024_12_0 inb_S2816x1024_S128x1024_1536_0 x
    · intro x; exact rows_w c i arg7 harg7 arg8 harg8 x6 x7 fh1 11 1408 (by decide) rfl _ slices_S2560x1024_o1408_0_S128x1024 inb_S320x1024_S320x1024_0_0 inb_S20x1024_S1x1024_11_0 inb_S2816x1024_S128x1024_1408_0 x
    · intro x; exact rows_w c i arg7 harg7 arg8 harg8 x6 x7 fh1 10 1280 (by decide) rfl _ slices_S2560x1024_o1280_0_S128x1024 inb_S320x1024_S320x1024_0_0 inb_S20x1024_S1x1024_10_0 inb_S2816x1024_S128x1024_1280_0 x
    · intro x; exact rows_w c i arg7 harg7 arg8 harg8 x6 x7 fh1 9 1152 (by decide) rfl _ slices_S2560x1024_o1152_0_S128x1024 inb_S320x1024_S320x1024_0_0 inb_S20x1024_S1x1024_9_0 inb_S2816x1024_S128x1024_1152_0 x
    · intro x; exact rows_w c i arg7 harg7 arg8 harg8 x6 x7 fh1 8 1024 (by decide) rfl _ slices_S2560x1024_o1024_0_S128x1024 inb_S320x1024_S320x1024_0_0 inb_S20x1024_S1x1024_8_0 inb_S2816x1024_S128x1024_1024_0 x
    · intro x; exact rows_w c i arg7 harg7 arg8 harg8 x6 x7 fh1 7 896 (by decide) rfl _ slices_S2560x1024_o896_0_S128x1024 inb_S320x1024_S320x1024_0_0 inb_S20x1024_S1x1024_7_0 inb_S2816x1024_S128x1024_896_0 x
    · intro x; exact rows_w c i arg7 harg7 arg8 harg8 x6 x7 fh1 6 768 (by decide) rfl _ slices_S2560x1024_o768_0_S128x1024 inb_S320x1024_S320x1024_0_0 inb_S20x1024_S1x1024_6_0 inb_S2816x1024_S128x1024_768_0 x
    · intro x; exact rows_w c i arg7 harg7 arg8 harg8 x6 x7 fh1 5 640 (by decide) rfl _ slices_S2560x1024_o640_0_S128x1024 inb_S320x1024_S320x1024_0_0 inb_S20x1024_S1x1024_5_0 inb_S2816x1024_S128x1024_640_0 x
    · intro x; exact rows_w c i arg7 harg7 arg8 harg8 x6 x7 fh1 4 512 (by decide) rfl _ slices_S2560x1024_o512_0_S128x1024 inb_S320x1024_S320x1024_0_0 inb_S20x1024_S1x1024_4_0 inb_S2816x1024_S128x1024_512_0 x
    · intro x; exact rows_w c i arg7 harg7 arg8 harg8 x6 x7 fh1 3 384 (by decide) rfl _ slices_S2560x1024_o384_0_S128x1024 inb_S320x1024_S320x1024_0_0 inb_S20x1024_S1x1024_3_0 inb_S2816x1024_S128x1024_384_0 x
    · intro x; exact rows_w c i arg7 harg7 arg8 harg8 x6 x7 fh1 2 256 (by decide) rfl _ slices_S2560x1024_o256_0_S128x1024 inb_S320x1024_S320x1024_0_0 inb_S20x1024_S1x1024_2_0 inb_S2816x1024_S128x1024_256_0 x
    · intro x; exact rows_w c i arg7 harg7 arg8 harg8 x6 x7 fh1 1 128 (by decide) rfl _ slices_S2560x1024_o128_0_S128x1024 inb_S320x1024_S320x1024_0_0 inb_S20x1024_S1x1024_1_0 inb_S2816x1024_S128x1024_128_0 x
    · intro x; exact rows_w c i arg7 harg7 arg8 harg8 x6 x7 fh1 0 0 (by decide) rfl _ slices_S2560x1024_o0_0_S128x1024 inb_S320x1024_S320x1024_0_0 inb_S20x1024_S1x1024_0_0 inb_S2816x1024_S128x1024_0_0 x
    · intro x; unfold runB.sl.dma10; exact rows_b c i x0 x1 x2 x3 x4 x6 x7 fh1 hS 4 _ (bstartB_4 c arg1 harg1 arg5 harg5 x0 x4 hG) (k0_off10 i (runB.sl.r_9 (F := Ideal) c arg1 harg1 arg5 harg5 x0 x4 hG)) rfl rfl _ _ 2752 rfl _ x
    · intro x; unfold runB.sl.dma8; exact rows_b c i x0 x1 x2 x3 x4 x6 x7 fh1 hS 3 _ (bstartB_3 c arg1 harg1 arg5 harg5 x0 x4 hG) (k0_off8 i (runB.sl.r_7 (F := Ideal) c arg1 harg1 arg5 harg5 x0 x4 hG)) rfl rfl _ _ 2704 rfl _ x
    · intro x; unfold runB.sl.dma6; exact rows_b c i x0 x1 x2 x3 x4 x6 x7 fh1 hS 2 _ (bstartB_2 c arg1 harg1 arg5 harg5 x0 x4 hG) (k0_off6 i (runB.sl.r_5 (F := Ideal) c arg1 harg1 arg5 harg5 x0 x4 hG)) rfl rfl _ _ 2656 rfl _ x
    · intro x; unfold runB.sl.dma4; exact rows_b c i x0 x1 x2 x3 x4 x6 x7 fh1 hS 1 _ (bstartB_1 c arg1 harg1 arg5 harg5 x0 x4 hG) (k0_off4 i (runB.sl.r_3 (F := Ideal) c arg1 harg1 arg5 harg5 x0 x4 hG)) rfl rfl _ _ 2608 rfl _ x
    · intro x; unfold runB.sl.dma2; exact rows_b c i x0 x1 x2 x3 x4 x6 x7 fh1 hS 0 _ (bstartB_0 c arg1 harg1 arg5 harg5 x0 x4 hG) (k0_off2 i (runB.sl.r_1 (F := Ideal) c arg1 harg1 arg5 harg5 x0 x4 hG)) rfl rfl _ _ 2560 rfl _ x
  · intro hn
    simp only [List.exists_mem_cons_iff, not_or] at hn
    obtain ⟨h0, h1, h2, h3, h4, h5, h6, h7, h8, h9, h10, h11, h12, h13, h14, h15, h16, h17, h18, h19, h20, h21, h22, h23, h24, -⟩ := hn
    have h0 := rows_out _ _ h0; have h1 := rows_out _ _ h1; have h2 := rows_out _ _ h2; have h3 := rows_out _ _ h3; have h4 := rows_out _ _ h4; have h5 := rows_out _ _ h5; have h6 := rows_out _ _ h6; have h7 := rows_out _ _ h7; have h8 := rows_out _ _ h8; have h9 := rows_out _ _ h9; have h10 := rows_out _ _ h10; have h11 := rows_out _ _ h11; have h12 := rows_out _ _ h12; have h13 := rows_out _ _ h13; have h14 := rows_out _ _ h14; have h15 := rows_out _ _ h15; have h16 := rows_out _ _ h16; have h17 := rows_out _ _ h17; have h18 := rows_out _ _ h18; have h19 := rows_out _ _ h19; have h20 := rows_out _ _ h20; have h21 := rows_out _ _ h21; have h22 := rows_out _ _ h22; have h23 := rows_out _ _ h23; have h24 := rows_out _ _ h24
    have : ((ix2 q n : S2816x1024.Idx) 0).val = q.val := rfl
    have hq' : 2800 ≤ q.val := by omega
    refine (congrFun (harg16.read_unread xs1) (ix2 q n)).trans ((hx1 q n hq').trans (Eq.symm ?_))
    refine (if_neg ?_).trans (if_neg ?_)
    · show ¬(q.val < 2560); omega
    · show ¬(q.val - 2560 < 240); omega

include hx0 hx1 hc1 harg2 harg3 harg4 harg6 harg11 harg12 harg13 harg14 harg17 x1 x2 x3 x5 xo9 xo11 fh0 in
theorem totalB (r : Fin 256) (n : Fin 1024) :
    runB.sl.r_23 (F := Ideal) c i arg1 harg1 arg5 harg5 arg7 harg7 arg8 harg8 arg15 harg15 arg16 harg16 x0 x4 x6 x7 xs0 xs1 fh1 hS hG (ix2 r n)
      = total c (i 0).val (wordsOf x0 x1 x2 x3 x4) x5 x6 x7 fh0 fh1 r n := by
  unfold runB.sl.r_23 total
  rw [product_apply]
  refine Finset.sum_congr rfl fun k _ => ?_
  have e2 : runB.sl.v298 (F := Ideal) c i arg1 harg1 arg5 harg5 arg7 harg7 arg8 harg8 arg16 harg16 x0 x4 x6 x7 xs1 fh1 hS hG (ix2 k n) = wcAt c (i 0).val (wordsOf x0 x1 x2 x3 x4) x6 x7 fh1 k.val n :=
    (congrArg _ (idx_origin inb_S2816x1024_S2816x1024_0_0 (ix2 k n))).trans (wcB c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG hx1 k n)
  rw [e2, readAt_whole harg15 xs0 inb_S256x2816_S256x2816_0_0, hx0]

include hx0 hx1 in
theorem yB (f : arg11.view.ty.Contents (Elt Ideal)) (r : Fin 256) (n : Fin 1024) :
    arg11.view.read (Elt Ideal) (arg11.view.writes (Elt Ideal) f (runB (F := Ideal) c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG).1) (ix2 r n)
      = total c (i 0).val (wordsOf x0 x1 x2 x3 x4) x5 x6 x7 fh0 fh1 r n := by
  unfold runB
  dsimp only
  refine View.read_writes_apply_of_pieces arg11.view f (fun y : S256x1024.Idx => total c (i 0).val (wordsOf x0 x1 x2 x3 x4) x5 x6 x7 fh0 fh1 (y 0) (y 1)) _ ?_ (ix2 r n) ?_
  · simp only [List.forall_mem_cons]
    refine ⟨fun x => ?_, by simp⟩
    have ex : (Rect.unit (s := S256x1024) ![0, 0] S256x1024.size inb_S256x1024_S256x1024_0_0).emb x = x := idx_origin inb_S256x1024_S256x1024_0_0 x
    rw [ex]
    obtain ⟨r, n, rfl⟩ : ∃ (r : Fin 256) (n : Fin 1024), x = ix2 r n := ⟨x 0, x 1, by funext k; match k with | 0 => rfl | 1 => rfl⟩
    exact (pay52_apply _ _ r n).trans (totalB c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG hx0 hx1 r n)
  · exact ⟨_, List.mem_cons_self, mem_origin inb_S256x1024_S256x1024_0_0 _⟩

include hx0 hx1 in
theorem codesB (f : arg13.view.ty.Contents (Elt Ideal)) (r : Fin 256) (n : Fin 1024) :
    arg13.view.read (Elt Ideal) (arg13.view.writes (Elt Ideal) f (runB (F := Ideal) c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG).2.1) (ix2 r n)
      = codeAt (total c (i 0).val (wordsOf x0 x1 x2 x3 x4) x5 x6 x7 fh0 fh1 r) n.val := by
  unfold runB
  dsimp only
  have hn' := n.isLt
  have hv := totalB c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG hx0 hx1
  refine View.read_writes_apply_of_pieces arg13.view f (fun y : S256x1024.Idx => codeAt (total c (i 0).val (wordsOf x0 x1 x2 x3 x4) x5 x6 x7 fh0 fh1 (y 0)) (y 1).val) _ ?_ (ix2 r n) ?_
  · simp only [List.forall_mem_cons]
    refine ⟨?_, ?_, ?_, ?_, ?_, ?_, ?_, ?_, by simp⟩
    · intro x; exact codes_piece _ _ hv 7 896 (by decide) rfl slices_S256x1024_o0_896_S256x128 inb_S256x1024_S256x128_0_896 x
    · intro x; exact codes_piece _ _ hv 6 768 (by decide) rfl slices_S256x1024_o0_768_S256x128 inb_S256x1024_S256x128_0_768 x
    · intro x; exact codes_piece _ _ hv 5 640 (by decide) rfl slices_S256x1024_o0_640_S256x128 inb_S256x1024_S256x128_0_640 x
    · intro x; exact codes_piece _ _ hv 4 512 (by decide) rfl slices_S256x1024_o0_512_S256x128 inb_S256x1024_S256x128_0_512 x
    · intro x; exact codes_piece _ _ hv 3 384 (by decide) rfl slices_S256x1024_o0_384_S256x128 inb_S256x1024_S256x128_0_384 x
    · intro x; exact codes_piece _ _ hv 2 256 (by decide) rfl slices_S256x1024_o0_256_S256x128 inb_S256x1024_S256x128_0_256 x
    · intro x; exact codes_piece _ _ hv 1 128 (by decide) rfl slices_S256x1024_o0_128_S256x128 inb_S256x1024_S256x128_0_128 x
    · intro x; exact codes_piece _ _ hv 0 0 (by decide) rfl slices_S256x1024_o0_0_S256x128 inb_S256x1024_S256x128_0_0 x
  · by_contra hn
    simp only [List.exists_mem_cons_iff, not_or] at hn
    obtain ⟨h0, h1, h2, h3, h4, h5, h6, h7, -⟩ := hn
    have h0 := cols_out _ _ h0; have h1 := cols_out _ _ h1; have h2 := cols_out _ _ h2; have h3 := cols_out _ _ h3
    have h4 := cols_out _ _ h4; have h5 := cols_out _ _ h5; have h6 := cols_out _ _ h6; have h7 := cols_out _ _ h7
    have : ((ix2 r n : S256x1024.Idx) 1).val = n.val := rfl
    omega

include hx0 hx1 in
theorem scalesB (f : arg14.view.ty.Contents (Elt Ideal)) (r : Fin 256) (l : Fin 80) :
    arg14.view.read (Elt Ideal) (arg14.view.writes (Elt Ideal) f (runB (F := Ideal) c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG).2.2.1) (ix2 r l)
      = if l.val / 8 = (i 0).val then scaleAt (total c (i 0).val (wordsOf x0 x1 x2 x3 x4) x5 x6 x7 fh0 fh1 r) (l.val % 8) else xo11 (ix2 r l) := by
  unfold runB
  dsimp only
  refine View.read_writes_apply_of_pieces arg14.view f (fun y : S256x80.Idx => if (y 1).val / 8 = (i 0).val then scaleAt (total c (i 0).val (wordsOf x0 x1 x2 x3 x4) x5 x6 x7 fh0 fh1 (y 0)) ((y 1).val % 8) else xo11 y) _ ?_ (ix2 r l) ?_
  · simp only [List.forall_mem_cons]
    refine ⟨fun x => ?_, by simp⟩
    have ex : (Rect.unit (s := S256x80) ![0, 0] S256x80.size inb_S256x80_S256x80_0_0).emb x = x := idx_origin inb_S256x80_S256x80_0_0 x
    rw [ex]
    obtain ⟨r, n, rfl⟩ : ∃ (r : Fin 256) (n : Fin 80), x = ix2 r n := ⟨x 0, x 1, by funext k; match k with | 0 => rfl | 1 => rfl⟩
    refine (chain_apply (i 0).val (i 0).isLt (k0_pay53 (F := Ideal) (View.readAt (Elt Ideal) arg14.view (Rect.unit (s := S256x80) ![0, 0] S256x80.size inb_S256x80_S256x80_0_0).toLoadRect (harg14.unread xo11))) _ _ (totalB c i hc1 arg1 harg1 arg2 harg2 arg3 harg3 arg4 harg4 arg5 harg5 arg6 harg6 arg7 harg7 arg8 harg8 arg11 harg11 arg12 harg12 arg13 harg13 arg14 harg14 arg15 harg15 arg16 harg16 arg17 harg17 x0 x1 x2 x3 x4 x5 x6 x7 xo9 xo11 xs0 xs1 fh0 fh1 hS hG hx0 hx1) r n).trans ?_
    rw [pay53_apply, readAt_whole harg14 xo11]
    rfl
  · exact ⟨_, List.mem_cons_self, mem_origin inb_S256x80_S256x80_0_0 _⟩

end

end Cert.KernelIdeal.Own
-- ==== Proof.Ideal.Rel.lean ====
/- The launch with its outputs named: what each grid point leaves in the output buffers and in the scratch that later points read. -/
module

public import proofs.«01_k».proof.Proof.Ideal.Frame
public import proofs.«01_k».proof.Proof.Ideal.StepA
public import proofs.«01_k».proof.Proof.Ideal.StepB
public import Idealize.ShloMosaic.Lib.Pipeline.DatRel
public import Idealize.ShloMosaic.Lib.Pipeline.ArrRel
public import Idealize.ShloMosaic.Lib.Pipeline.ValueKit.Geometry

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

local notation "𝕄" => MT nD τ sig Unit (Elt Ideal) ℕ (Pipeline.UD sig nD τ) ℕ

variable (m : (ℓ : Loc nD τ sig) → Buf (Elt Ideal) ℓ) (ρ : Dev nD → PrngReg)

/-- Besides where the windows lie: the ranks fit the windows and the segments follow each other. -/
def WordsMore : Prop := ∀ c : Dev nD,
  (∀ j, (m ((c : Thread nD τ).loc main_arg6) j : BitVec 32).toInt ≤ 32)
    ∧ ∀ s : Fin 5, (m ((c : Thread nD τ).loc main_arg8) (ix1 s.castSucc) : BitVec 32).toInt ≤ (m ((c : Thread nD τ).loc main_arg8) (ix1 s.succ) : BitVec 32).toInt

/-! ## The blocks of the windows that do not move -/

theorem block_0 (c : Dev nD) (t : Fin cfg0.N) : (iblk m c 0 t : Vec Ideal S9 .i32) = m ((c : Thread nD τ).loc main_arg5) := by
  funext j
  refine (congrFun (V_main_arg5 m c) _).trans (congrArg (m ((c : Thread nD τ).loc main_arg5)) ?_)
  funext a
  match a with
  | 0 => apply Fin.ext; exact (Pipeline.Window.rect_emb_val_of_index_zero win0_0 t 0 rfl j)
theorem block_1 (c : Dev nD) (t : Fin cfg0.N) : (iblk m c 1 t : Vec Ideal S9 .i32) = m ((c : Thread nD τ).loc main_arg6) := by
  funext j
  refine (congrFun (V_main_arg6 m c) _).trans (congrArg (m ((c : Thread nD τ).loc main_arg6)) ?_)
  funext a
  match a with
  | 0 => apply Fin.ext; exact (Pipeline.Window.rect_emb_val_of_index_zero win0_1 t 0 rfl j)
theorem block_2 (c : Dev nD) (t : Fin cfg0.N) : (iblk m c 2 t : Vec Ideal S9 .f32) = m ((c : Thread nD τ).loc main_arg7) := by
  funext j
  refine (congrFun (V_main_arg7 m c) _).trans (congrArg (m ((c : Thread nD τ).loc main_arg7)) ?_)
  funext a
  match a with
  | 0 => apply Fin.ext; exact (Pipeline.Window.rect_emb_val_of_index_zero win0_2 t 0 rfl j)
theorem block_3 (c : Dev nD) (t : Fin cfg0.N) : (iblk m c 3 t : Vec Ideal S6 .i32) = m ((c : Thread nD τ).loc main_arg8) := by
  funext j
  refine (congrFun (V_main_arg8 m c) _).trans (congrArg (m ((c : Thread nD τ).loc main_arg8)) ?_)
  funext a
  match a with
  | 0 => apply Fin.ext; exact (Pipeline.Window.rect_emb_val_of_index_zero win0_3 t 0 rfl j)
theorem block_4 (c : Dev nD) (t : Fin cfg0.N) : (iblk m c 4 t : Vec Ideal S5 .i32) = m ((c : Thread nD τ).loc main_arg9) := by
  funext j
  refine (congrFun (V_main_arg9 m c) _).trans (congrArg (m ((c : Thread nD τ).loc main_arg9)) ?_)
  funext a
  match a with
  | 0 => apply Fin.ext; exact (Pipeline.Window.rect_emb_val_of_index_zero win0_4 t 0 rfl j)
/-- The activations as the region finds them. -/
def act (c : Dev nD) : Vec Ideal S256x2560 .bf16 := V m c (Pipeline.arrRef spec0 5)
theorem block_5 (c : Dev nD) (t : Fin cfg0.N) : (iblk m c 5 t : Vec Ideal S256x2560 .bf16) = act m c := by
  funext j
  refine congrArg (act m c) ?_
  funext a
  match a with
  | 0 => apply Fin.ext; exact (Pipeline.Window.rect_emb_val_of_index_zero win0_5 t 0 rfl j)
  | 1 => apply Fin.ext; exact (Pipeline.Window.rect_emb_val_of_index_zero win0_5 t 1 rfl j)
/-- The segments and the adapters they name, off the arguments. -/
def wds (c : Dev nD) : Lora.Words :=
  wordsOf (m ((c : Thread nD τ).loc main_arg5)) (m ((c : Thread nD τ).loc main_arg6)) (m ((c : Thread nD τ).loc main_arg7)) (m ((c : Thread nD τ).loc main_arg8)) (m ((c : Thread nD τ).loc main_arg9))
theorem wds_eq (c : Dev nD) (t : Fin cfg0.N) : wordsOf (iblk m c 0 t) (iblk m c 1 t) (iblk m c 2 t) (iblk m c 3 t) (iblk m c 4 t) = wds m c := by
  rw [block_0, block_1, block_2, block_3, block_4]; rfl
theorem ranks_ok {m : (ℓ : Loc nD τ sig) → Buf (Elt Ideal) ℓ} (h : WordsMore m) (c : Dev nD) (t : Fin cfg0.N) (j) : (iblk m c 1 t j : BitVec 32).toInt ≤ 32 := by
  rw [block_1]; exact (h c).1 j
theorem offs_ok {m : (ℓ : Loc nD τ sig) → Buf (Elt Ideal) ℓ} (h : WordsMore m) (c : Dev nD) (t : Fin cfg0.N) (s : Fin 5) :
    (iblk m c 3 t (ix1 s.castSucc) : BitVec 32).toInt ≤ (iblk m c 3 t (ix1 s.succ) : BitVec 32).toInt := by
  rw [block_3]; exact (h c).2 s

/-! ## What the outputs hold -/

/-- The product at grid point `t`. -/
def tot (c : Dev nD) (t : Fin cfg0.N) : Fin 256 → Fin 1024 → EReal :=
  total c (grid0.coords t 0).val (wds m c) (act m c) (iblk m c 6 t) (iblk m c 7 t) (V m c main_arg3) (V m c main_arg4)
/-- The low-rank activations. -/
def low (c : Dev nD) (r : Fin 256) (j : Fin 32) : EReal :=
  Lora.lora (wds m c) (fun (r : Fin 256) (k : Fin 2560) => (act m c (ix2 r k) : EReal)) (paOf c (V m c main_arg3)) r j
/-- The grid point of a number. -/
def pt (k : ℕ) : Fin cfg0.N := ⟨k % 10, Nat.lt_of_lt_of_eq (Nat.mod_lt k (by decide : 0 < 10)) N_0.symm⟩
/-- The rectangle of activations and hidden columns that the first point leaves to the others. -/
def xsV (c : Dev nD) : Vec Ideal S256x2816 .bf16 := fun y => xsAt c (wds m c) (act m c) (V m c main_arg3) (y 0) (y 1).val

def P8 (c : Dev nD) (t : Fin cfg0.N) (X : Vec Ideal S256x1024 .bf16) : Prop := ∀ r n, X (ix2 r n) = tot m c t r n
def P9 (c : Dev nD) (X : Vec Ideal S256x32 .bf16) : Prop := ∀ r j, X (ix2 r j) = low m c r j
def P10 (c : Dev nD) (t : Fin cfg0.N) (X : Vec Ideal S256x1024 .fp8e4m3) : Prop := ∀ (r : Fin 256) (n : Fin 1024), X (ix2 r n) = codeAt (tot m c t r) n.val
def P11 (c : Dev nD) (t : Fin cfg0.N) (X : Vec Ideal S256x80 .f32) : Prop :=
  ∀ (r : Fin 256) (l : Fin 80), l.val < 8 * (t.val + 1) → X (ix2 r l) = scaleAt (tot m c (pt (l.val / 8)) r) (l.val % 8)
/-- The rows of the weight rectangle below the windows are zero. -/
def PZ (X : Vec Ideal S2816x1024 .bf16) : Prop := ∀ (q : Fin 2816) (n : Fin 1024), 2800 ≤ q.val → X (ix2 q n) = (0 : EReal)

/-- What the body may leave in an output's buffer. -/
def Rl (c : Dev nD) (w : Fin cfg0.W) (t : Fin cfg0.N) (X : (cfg0.win w).block.Idx → Elt Ideal (cfg0.win w).elt) : Prop :=
  match w, X with
  | ⟨8, _⟩, X => P8 m c t X
  | ⟨9, _⟩, X => P9 m c X
  | ⟨10, _⟩, X => P10 m c t X
  | ⟨11, _⟩, X => P11 m c t X
  | _, _ => True

/-- The loop's invariant: before the first point nothing is known of the scratch; after it the activations stand, and the
    rows below the windows are zero. -/
def phiV (c : Dev nD) (k : ℕ) : sProp 𝕄 :=
  if k = 0 then Pipeline.ΦD osem0 spec0 H0 (V m) c else
    iprop(iprop(owns (c : Thread nD τ) scM0_0 fullShare (xsV m c) ∗ (∃ d, ⌜PZ d⌝ ∗ owns (c : Thread nD τ) scM0_1 fullShare d) ∗ (∃ d, owns (c : Thread nD τ) scM0_2 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg3) ∗ hbPt0 c hbM0_1 (V m c main_arg4)))

/-- The proof data: those of the frame, with this invariant. -/
def datV (c : Dev nD) : Dat τ (Elt Ideal) Unit ℕ (Pipeline.UD sig nD τ) ℕ cfg0 c :=
  { dats m 0 c with Φ := fun k => phiV m c k.val }

theorem phi_succ (c : Dev nD) (t : Fin cfg0.N) : (datV m c).Φ t.succ = iprop(iprop(owns (c : Thread nD τ) scM0_0 fullShare (xsV m c) ∗ (∃ d, ⌜PZ d⌝ ∗ owns (c : Thread nD τ) scM0_1 fullShare d) ∗ (∃ d, owns (c : Thread nD τ) scM0_2 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg3) ∗ hbPt0 c hbM0_1 (V m c main_arg4))) :=
  by show phiV m c (t.val + 1) = _; unfold phiV; exact if_neg (Nat.succ_ne_zero t.val)
theorem phi_first (c : Dev nD) (t : Fin cfg0.N) (h : t.val = 0) : (datV m c).Φ t.castSucc = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg3) ∗ hbPt0 c hbM0_1 (V m c main_arg4))) :=
  by show phiV m c t.val = _; unfold phiV; exact (if_pos h).trans (PhiD0_eq m c)
theorem phi_later (c : Dev nD) (t : Fin cfg0.N) (h : t.val ≠ 0) : (datV m c).Φ t.castSucc = iprop(iprop(owns (c : Thread nD τ) scM0_0 fullShare (xsV m c) ∗ (∃ d, ⌜PZ d⌝ ∗ owns (c : Thread nD τ) scM0_1 fullShare d) ∗ (∃ d, owns (c : Thread nD τ) scM0_2 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg3) ∗ hbPt0 c hbM0_1 (V m c main_arg4))) :=
  by show phiV m c t.val = _; unfold phiV; exact if_neg h

theorem afterV_0 (c : Dev nD) (t : Fin cfg0.N) : (datV m c).after 0 t = iblk m c 0 t := by dsimp only [datV, dats]
theorem beforeV_0 (c : Dev nD) (t : Fin cfg0.N) (d) : (datV m c).before 0 t d = iblk m c 0 t :=
  before_0 m (datV m c) (A_eq m c 0) (afterV_0 m c) t d
theorem leavesV_0 (c : Dev nD) (t : Fin cfg0.N) : (datV m c).leavesExact 0 t = owns (c : Thread nD τ) (ms0_0 t) fullShare (iblk m c 0 t) := by
  rw [← afterV_0]
theorem afterV_1 (c : Dev nD) (t : Fin cfg0.N) : (datV m c).after 1 t = iblk m c 1 t := by dsimp only [datV, dats]
theorem beforeV_1 (c : Dev nD) (t : Fin cfg0.N) (d) : (datV m c).before 1 t d = iblk m c 1 t :=
  before_1 m (datV m c) (A_eq m c 1) (afterV_1 m c) t d
theorem leavesV_1 (c : Dev nD) (t : Fin cfg0.N) : (datV m c).leavesExact 1 t = owns (c : Thread nD τ) (ms0_1 t) fullShare (iblk m c 1 t) := by
  rw [← afterV_1]
theorem afterV_2 (c : Dev nD) (t : Fin cfg0.N) : (datV m c).after 2 t = iblk m c 2 t := by dsimp only [datV, dats]
theorem beforeV_2 (c : Dev nD) (t : Fin cfg0.N) (d) : (datV m c).before 2 t d = iblk m c 2 t :=
  before_2 m (datV m c) (A_eq m c 2) (afterV_2 m c) t d
theorem leavesV_2 (c : Dev nD) (t : Fin cfg0.N) : (datV m c).leavesExact 2 t = owns (c : Thread nD τ) (ms0_2 t) fullShare (iblk m c 2 t) := by
  rw [← afterV_2]
theorem afterV_3 (c : Dev nD) (t : Fin cfg0.N) : (datV m c).after 3 t = iblk m c 3 t := by dsimp only [datV, dats]
theorem beforeV_3 (c : Dev nD) (t : Fin cfg0.N) (d) : (datV m c).before 3 t d = iblk m c 3 t :=
  before_3 m (datV m c) (A_eq m c 3) (afterV_3 m c) t d
theorem leavesV_3 (c : Dev nD) (t : Fin cfg0.N) : (datV m c).leavesExact 3 t = owns (c : Thread nD τ) (ms0_3 t) fullShare (iblk m c 3 t) := by
  rw [← afterV_3]
theorem afterV_4 (c : Dev nD) (t : Fin cfg0.N) : (datV m c).after 4 t = iblk m c 4 t := by dsimp only [datV, dats]
theorem beforeV_4 (c : Dev nD) (t : Fin cfg0.N) (d) : (datV m c).before 4 t d = iblk m c 4 t :=
  before_4 m (datV m c) (A_eq m c 4) (afterV_4 m c) t d
theorem leavesV_4 (c : Dev nD) (t : Fin cfg0.N) : (datV m c).leavesExact 4 t = owns (c : Thread nD τ) (ms0_4 t) fullShare (iblk m c 4 t) := by
  rw [← afterV_4]
theorem afterV_5 (c : Dev nD) (t : Fin cfg0.N) : (datV m c).after 5 t = iblk m c 5 t := by dsimp only [datV, dats]
theorem beforeV_5 (c : Dev nD) (t : Fin cfg0.N) (d) : (datV m c).before 5 t d = iblk m c 5 t :=
  before_5 m (datV m c) (A_eq m c 5) (afterV_5 m c) t d
theorem leavesV_5 (c : Dev nD) (t : Fin cfg0.N) : (datV m c).leavesExact 5 t = owns (c : Thread nD τ) (ms0_5 t) fullShare (iblk m c 5 t) := by
  rw [← afterV_5]
theorem afterV_6 (c : Dev nD) (t : Fin cfg0.N) : (datV m c).after 6 t = iblk m c 6 t := by dsimp only [datV, dats]
theorem beforeV_6 (c : Dev nD) (t : Fin cfg0.N) (d) : (datV m c).before 6 t d = iblk m c 6 t :=
  before_6 m (datV m c) (A_eq m c 6) (afterV_6 m c) t d
theorem leavesV_6 (c : Dev nD) (t : Fin cfg0.N) : (datV m c).leavesExact 6 t = owns (c : Thread nD τ) (ms0_6 t) fullShare (iblk m c 6 t) := by
  rw [← afterV_6]
theorem afterV_7 (c : Dev nD) (t : Fin cfg0.N) : (datV m c).after 7 t = iblk m c 7 t := by dsimp only [datV, dats]
theorem beforeV_7 (c : Dev nD) (t : Fin cfg0.N) (d) : (datV m c).before 7 t d = iblk m c 7 t :=
  before_7 m (datV m c) (A_eq m c 7) (afterV_7 m c) t d
theorem leavesV_7 (c : Dev nD) (t : Fin cfg0.N) : (datV m c).leavesExact 7 t = owns (c : Thread nD τ) (ms0_7 t) fullShare (iblk m c 7 t) := by
  rw [← afterV_7]

/-- What the body is called with at point `t`, window by window, -/
def preV (c : Dev nD) (t : Fin cfg0.N) : sProp 𝕄 :=
  iprop((datV m c).Φ t.castSucc ∗ (datV m c).owesAt () t.castSucc
    ∗ (∃ d, owns (c : Thread nD τ) (ms0_0 t) fullShare ((datV m c).before 0 t d))
    ∗ (∃ d, owns (c : Thread nD τ) (ms0_1 t) fullShare ((datV m c).before 1 t d))
    ∗ (∃ d, owns (c : Thread nD τ) (ms0_2 t) fullShare ((datV m c).before 2 t d))
    ∗ (∃ d, owns (c : Thread nD τ) (ms0_3 t) fullShare ((datV m c).before 3 t d))
    ∗ (∃ d, owns (c : Thread nD τ) (ms0_4 t) fullShare ((datV m c).before 4 t d))
    ∗ (∃ d, owns (c : Thread nD τ) (ms0_5 t) fullShare ((datV m c).before 5 t d))
    ∗ (∃ d, owns (c : Thread nD τ) (ms0_6 t) fullShare ((datV m c).before 6 t d))
    ∗ (∃ d, owns (c : Thread nD τ) (ms0_7 t) fullShare ((datV m c).before 7 t d))
    ∗ (∃ d, ⌜((datV m c).toRRel forgets (Rl m c)).Finds 8 t d⌝ ∗ owns (c : Thread nD τ) (ms0_8 t) fullShare d)
    ∗ (∃ d, ⌜((datV m c).toRRel forgets (Rl m c)).Finds 9 t d⌝ ∗ owns (c : Thread nD τ) (ms0_9 t) fullShare d)
    ∗ (∃ d, ⌜((datV m c).toRRel forgets (Rl m c)).Finds 10 t d⌝ ∗ owns (c : Thread nD τ) (ms0_10 t) fullShare d)
    ∗ (∃ d, ⌜((datV m c).toRRel forgets (Rl m c)).Finds 11 t d⌝ ∗ owns (c : Thread nD τ) (ms0_11 t) fullShare d))

/-- and what it returns. -/
def postV (c : Dev nD) (t : Fin cfg0.N) : sProp 𝕄 :=
  iprop((datV m c).Φ t.succ ∗ (datV m c).owesAt () t.succ
    ∗ (datV m c).leavesExact 0 t
    ∗ (datV m c).leavesExact 1 t
    ∗ (datV m c).leavesExact 2 t
    ∗ (datV m c).leavesExact 3 t
    ∗ (datV m c).leavesExact 4 t
    ∗ (datV m c).leavesExact 5 t
    ∗ (datV m c).leavesExact 6 t
    ∗ (datV m c).leavesExact 7 t
    ∗ (∃ d, ⌜P8 m c t d⌝ ∗ owns (c : Thread nD τ) (ms0_8 t) fullShare d)
    ∗ (∃ d, ⌜P9 m c d⌝ ∗ owns (c : Thread nD τ) (ms0_9 t) fullShare d)
    ∗ (∃ d, ⌜P10 m c t d⌝ ∗ owns (c : Thread nD τ) (ms0_10 t) fullShare d)
    ∗ (∃ d, ⌜P11 m c t d⌝ ∗ owns (c : Thread nD τ) (ms0_11 t) fullShare d))

/-- A buffer held at written contents is owned at what they read. -/
theorem ownsAs {c : Dev nD} {sp : Space} {s : Shape} {e : EltTy} {M : Memref sig .tc sp s e} {f} (X : Vec Ideal s e) (h : M.view.read (Elt Ideal) f = X) :
    (M.view.loc (c : Thread nD τ) ↦[M.view.set]{fullShare} f : sProp 𝕄) ⊢ owns (c : Thread nD τ) M fullShare X := by
  unfold owns
  iintro H
  iexists f
  isplitr
  · ipureintro; exact h
  iexact H
/-- A buffer whose contents meet a predicate is owned at some that do. -/
theorem metOf {c : Dev nD} {sp : Space} {s : Shape} {e : EltTy} {M : Memref sig .tc sp s e} {f} (P : Vec Ideal s e → Prop) (h : P (M.view.read (Elt Ideal) f)) :
    (M.view.loc (c : Thread nD τ) ↦[M.view.set]{fullShare} f : sProp 𝕄) ⊢ iprop(∃ d, ⌜P d⌝ ∗ owns (c : Thread nD τ) M fullShare d) := by
  iintro H
  iexists (M.view.read (Elt Ideal) f)
  isplitr
  · ipureintro; exact h
  iapply (ownsAs _ rfl)
  iexact H

theorem total_eq (c : Dev nD) (t : Fin cfg0.N) (r : Fin 256) :
    total c (grid0.coords t 0).val (wordsOf (iblk m c 0 t) (iblk m c 1 t) (iblk m c 2 t) (iblk m c 3 t) (iblk m c 4 t)) (iblk m c 5 t) (iblk m c 6 t) (iblk m c 7 t) (V m c main_arg3) (V m c main_arg4) r = tot m c t r := by
  rw [wds_eq, block_5]; rfl

theorem xs_met (hOK : WordsOK m) (c : Dev nD) (t : Fin cfg0.N) (X : Vec Ideal S256x2816 .bf16)
    (h : ∀ (r : Fin 256) (k : Fin 2816), X (ix2 r k) = xsAt c (wordsOf (iblk m c 0 t) (iblk m c 1 t) (iblk m c 2 t) (iblk m c 3 t) (iblk m c 4 t)) (iblk m c 5 t) (V m c main_arg3) r k.val) : X = xsV m c := by
  rw [wds_eq, block_5] at h
  funext y
  obtain ⟨r, k, rfl⟩ : ∃ (r : Fin 256) (k : Fin 2816), y = ix2 r k := ⟨y 0, y 1, by funext k; match k with | 0 => rfl | 1 => rfl⟩
  exact h r k
theorem xs_held (c : Dev nD) (t : Fin cfg0.N) (r : Fin 256) (k : Fin 2816) :
    xsV m c (ix2 r k) = xsAt c (wordsOf (iblk m c 0 t) (iblk m c 1 t) (iblk m c 2 t) (iblk m c 3 t) (iblk m c 4 t)) (iblk m c 5 t) (V m c main_arg3) r k.val := by
  rw [wds_eq, block_5]; rfl
theorem wc_met (c : Dev nD) (t : Fin cfg0.N) (X : Vec Ideal S2816x1024 .bf16) {i W x6 x7}
    (h : ∀ (q : Fin 2816) (n : Fin 1024), X (ix2 q n) = wcAt c i W x6 x7 (V m c main_arg4) q.val n) : PZ X := by
  intro q n hq
  refine (h q n).trans ((if_neg ?_).trans (if_neg ?_))
  · show ¬(q.val < 2560); omega
  · show ¬(q.val - 2560 < 240); omega
theorem y_met (c : Dev nD) (t : Fin cfg0.N) (X : Vec Ideal S256x1024 .bf16)
    (h : ∀ (r : Fin 256) (n : Fin 1024), X (ix2 r n) = total c (grid0.coords t 0).val (wordsOf (iblk m c 0 t) (iblk m c 1 t) (iblk m c 2 t) (iblk m c 3 t) (iblk m c 4 t)) (iblk m c 5 t) (iblk m c 6 t) (iblk m c 7 t) (V m c main_arg3) (V m c main_arg4) r n) : P8 m c t X := by
  intro r n
  rw [h, total_eq]
theorem codes_met (c : Dev nD) (t : Fin cfg0.N) (X : Vec Ideal S256x1024 .fp8e4m3)
    (h : ∀ (r : Fin 256) (n : Fin 1024), X (ix2 r n) = codeAt (total c (grid0.coords t 0).val (wordsOf (iblk m c 0 t) (iblk m c 1 t) (iblk m c 2 t) (iblk m c 3 t) (iblk m c 4 t)) (iblk m c 5 t) (iblk m c 6 t) (iblk m c 7 t) (V m c main_arg3) (V m c main_arg4) r) n.val) : P10 m c t X := by
  intro r n
  rw [h, total_eq]
theorem lora_met (c : Dev nD) (t : Fin cfg0.N) (X : Vec Ideal S256x32 .bf16)
    (h : ∀ (r : Fin 256) (j : Fin 32), X (ix2 r j) = Lora.lora (wordsOf (iblk m c 0 t) (iblk m c 1 t) (iblk m c 2 t) (iblk m c 3 t) (iblk m c 4 t)) (fun (r : Fin 256) (k : Fin 2560) => (iblk m c 5 t (ix2 r k) : EReal)) (paOf c (V m c main_arg3)) r j) : P9 m c X := by
  intro r n
  rw [h, wds_eq, block_5]; rfl
theorem scales_met (c : Dev nD) (t : Fin cfg0.N) (d : Vec Ideal S256x80 .f32)
    (hd : ∀ (l : Fin 80), l.val < 8 * t.val → ∀ r : Fin 256, d (ix2 r l) = scaleAt (tot m c (pt (l.val / 8)) r) (l.val % 8)) (X : Vec Ideal S256x80 .f32)
    (h : ∀ (r : Fin 256) (l : Fin 80), X (ix2 r l) = if l.val / 8 = (grid0.coords t 0).val then scaleAt (total c (grid0.coords t 0).val (wordsOf (iblk m c 0 t) (iblk m c 1 t) (iblk m c 2 t) (iblk m c 3 t) (iblk m c 4 t)) (iblk m c 5 t) (iblk m c 6 t) (iblk m c 7 t) (V m c main_arg3) (V m c main_arg4) r) (l.val % 8) else d (ix2 r l)) : P11 m c t X := by
  intro r l hl
  have ht : t.val < 10 := Nat.lt_of_lt_of_eq t.isLt N_0
  have e0 : (grid0.coords t 0).val = t.val / 1 % 10 := Pipeline.Grid.coords_val t 0 (by decide) rfl
  rw [h, total_eq]
  by_cases e : l.val / 8 = (grid0.coords t 0).val
  · rw [if_pos e]
    have : pt (l.val / 8) = t := by apply Fin.ext; show l.val / 8 % 10 = t.val; omega
    rw [this]
  · rw [if_neg e]
    exact hd l (by omega) r

theorem flush9 : ∀ t : Fin grid0.N, win0_9.flush t = true → t.val = 9 := by decide +kernel
theorem flush11 : ∀ t : Fin grid0.N, win0_11.flush t = true → t.val = 9 := by decide +kernel
theorem finds9 (c : Dev nD) (t : Fin cfg0.N) (h0 : ¬t.val % 10 = 0) (X) (h : ((datV m c).toRRel forgets (Rl m c)).Finds 9 t X) : P9 m c X := by
  have ht : t.val < 10 := Nat.lt_of_lt_of_eq t.isLt N_0
  rcases (RDat.finds_of_pos _ ((cfg0.win 9).fetch_out rfl t) (by omega) X).mp h with hf | hl
  · have := flush9 _ hf; have : t.val - 1 = 9 := this; omega
  · exact (datV m c).toRRel_leaves rfl hl
theorem finds11 (c : Dev nD) (t : Fin cfg0.N) (h0 : ¬t.val % 10 = 0) (X) (h : ((datV m c).toRRel forgets (Rl m c)).Finds 11 t X) :
    ∀ (l : Fin 80), l.val < 8 * t.val → ∀ r : Fin 256, (X (ix2 r l) : EReal) = scaleAt (tot m c (pt (l.val / 8)) r) (l.val % 8) := by
  have ht : t.val < 10 := Nat.lt_of_lt_of_eq t.isLt N_0
  rcases (RDat.finds_of_pos _ ((cfg0.win 11).fetch_out rfl t) (by omega) X).mp h with hf | hl
  · have := flush11 _ hf; have : t.val - 1 = 9 := this; omega
  · have h' : P11 m c ⟨t.val - 1, Nat.lt_of_le_of_lt (Nat.sub_le _ _) t.isLt⟩ X := (datV m c).toRRel_leaves rfl hl
    intro l hl r
    exact h' r l (by show l.val < 8 * (t.val - 1 + 1); omega)

set_option maxHeartbeats 4800000 in
set_option maxRecDepth 131072 in
/-- The body at any point: the inputs' memrefs hold their blocks; the first point takes one run, the others the other. -/
theorem sound_rel (hOK : WordsOK m) (hM : WordsMore m) (c : Dev nD) (t : Fin cfg0.N) :
    preV m c t ⊢ wp Idealize.ShloMosaic.frame (wpE (defs₀ (F := Ideal)) Variants.none c none) Set.univ (bodyAt0 t) (fun _ => postV m c t) := by
  unfold preV postV bodyAt0
  simp only [beforeV_0, beforeV_1, beforeV_2, beforeV_3, beforeV_4, beforeV_5, beforeV_6, beforeV_7, leavesV_0, leavesV_1, leavesV_2, leavesV_3, leavesV_4, leavesV_5, leavesV_6, leavesV_7]
  rw [phi_succ m c t]
  unfold Dat.owesAt Pipeline.owesWithin
  rw [show (datV m c).owed t.castSucc = 0 from rfl, show (datV m c).owed t.succ = 0 from rfl]
  have h10 : t.val < 10 := Nat.lt_of_lt_of_eq t.isLt N_0
  by_cases h0 : t.val % 10 = 0
  · rw [phi_first m c t (by omega)]
    iintro ⟨⟨⟨HS0, HS1, HS2⟩, Hg, ⟨Hq0, Hq1, Hq2, Hq3, Hq4, Hq5, Hq6, Hq7, Hq8, Hq9⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, %h8, H8⟩, ⟨%d9, %h9, H9⟩, ⟨%d10, %h10, H10⟩, ⟨%d11, %h11, H11⟩⟩
    iapply ((runA c (grid0.coords t) ((hcond0_0 t).mpr h0) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t)).2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HW]; · iexact HW
    iintro ⟨H0, H1, H2, H3, H4, H5, H6, H7, ⟨%fh8, H8⟩, ⟨%fh9, H9⟩, ⟨%fh10, H10⟩, H11, ⟨%fhs0, HS0⟩, ⟨%fhs1, HS1⟩, ⟨%fhs2, HS2⟩, Hq0, Hq1, Hq2, Hq3, Hq4, Hq5, Hq6, Hq7, Hq8, Hq9, Hh0, Hh1, ⟨%W', HW'⟩⟩
    isplitl [HS0 HS1 HS2 Hg Hq0 Hq1 Hq2 Hq3 Hq4 Hq5 Hq6 Hq7 Hq8 Hq9 Hh0 Hh1]
    · isplitl [HS0 HS1 HS2]
      · isplitl [HS0]
        · iapply (ownsAs (xsV m c) (xs_met m hOK c t _ fun r k => xsA c (grid0.coords t) ((hcond0_0 t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t) (ranks_ok hM c t) fhs0 r k)); iexact HS0
        isplitl [HS1]
        · iapply (metOf PZ (wc_met m c t _ fun q n => wcA c (grid0.coords t) ((hcond0_0 t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t) fhs1 q n)); iexact HS1
        iapply anyOf; iexact HS2
      isplitl [Hg]
      · iexact Hg
      isplitl [Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (metOf (P8 m c t) (y_met m c t _ fun r n => yA c (grid0.coords t) ((hcond0_0 t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t) (ranks_ok hM c t) fh8 r n)); iexact H8
    isplitl [H9]
    · iapply (metOf (P9 m c) (lora_met m c t _ fun r n => loraA c (grid0.coords t) ((hcond0_0 t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t) (ranks_ok hM c t) (offs_ok hM c t) fh9 r n)); iexact H9
    isplitl [H10]
    · iapply (metOf (P10 m c t) (codes_met m c t _ fun r n => codesA c (grid0.coords t) ((hcond0_0 t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t) (ranks_ok hM c t) fh10 r n)); iexact H10
    iapply (metOf (P11 m c t) (scales_met m c t d11 (fun l hl => absurd hl (by omega)) _ fun r n => scalesA c (grid0.coords t) ((hcond0_0 t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d11 (V m c main_arg3) (V m c main_arg4) (starts_ok hOK c t) (segs_ok hOK c t) (ranks_ok hM c t) _ r n)); iexact H11
  · rw [phi_later m c t (by omega)]
    iintro ⟨⟨⟨HS0, HS1, HS2⟩, Hg, ⟨Hq0, Hq1, Hq2, Hq3, Hq4, Hq5, Hq6, Hq7, Hq8, Hq9⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, %h8, H8⟩, ⟨%d9, %h9, H9⟩, ⟨%d10, %h10, H10⟩, ⟨%d11, %h11, H11⟩⟩
    icases HS1 with ⟨%e1, %hz, HS1⟩
    have k9 := finds9 m c t h0 d9 h9
    have k11 := finds11 m c t h0 d11 h11
    iapply ((runB c (grid0.coords t) (fun h => h0 ((hcond0_0 t).mp h)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d9 d11 (xsV m c) e1 (V m c main_arg3) (V m c main_arg4) (starts_ok hOK c t) (segs_ok hOK c t)).2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HW]; · iexact HW
    iintro ⟨H0, H1, H2, H3, H4, H5, H6, H7, ⟨%fh8, H8⟩, H9, ⟨%fh10, H10⟩, H11, HS0, HS1, HS2, Hq0, Hq1, Hq2, Hq3, Hq4, Hq5, Hq6, Hq7, Hq8, Hq9, Hh0, Hh1, ⟨%W', HW'⟩⟩
    isplitl [HS0 HS1 HS2 Hg Hq0 Hq1 Hq2 Hq3 Hq4 Hq5 Hq6 Hq7 Hq8 Hq9 Hh0 Hh1]
    · isplitl [HS0 HS1 HS2]
      · isplitl [HS0]
        · iexact HS0
        isplitl [HS1]
        · iapply (metOf PZ (wc_met m c t _ fun q n => wcB c (grid0.coords t) (fun h => h0 ((hcond0_0 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d9 d11 (xsV m c) e1 (V m c main_arg3) (V m c main_arg4) (starts_ok hOK c t) (segs_ok hOK c t) hz q n)); iexact HS1
        iexact HS2
      isplitl [Hg]
      · iexact Hg
      isplitl [Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (metOf (P8 m c t) (y_met m c t _ fun r n => yB c (grid0.coords t) (fun h => h0 ((hcond0_0 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d9 d11 (xsV m c) e1 (V m c main_arg3) (V m c main_arg4) (starts_ok hOK c t) (segs_ok hOK c t) (xs_held m c t) hz fh8 r n)); iexact H8
    isplitl [H9]
    · iexists d9; isplitr; · ipureintro; exact k9
      iexact H9
    isplitl [H10]
    · iapply (metOf (P10 m c t) (codes_met m c t _ fun r n => codesB c (grid0.coords t) (fun h => h0 ((hcond0_0 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d9 d11 (xsV m c) e1 (V m c main_arg3) (V m c main_arg4) (starts_ok hOK c t) (segs_ok hOK c t) (xs_held m c t) hz fh10 r n)); iexact H10
    iapply (metOf (P11 m c t) (scales_met m c t d11 k11 _ fun r n => scalesB c (grid0.coords t) (fun h => h0 ((hcond0_0 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) d9 d11 (xsV m c) e1 (V m c main_arg3) (V m c main_arg4) (starts_ok hOK c t) (segs_ok hOK c t) (xs_held m c t) hz _ r n)); iexact H11

/-- The body's triple, as the launch asks for it. -/
theorem obligation_rel (hOK : WordsOK m) (hM : WordsMore m) (c : Dev nD) : Pipeline.BodyObligationRel (datV m c) (defs₀ (F := Ideal)) Variants.none () Set.univ forgets (Rl m c) := fun t => by
  rw [bigSep_W0, bigSep_W0, defs₀_row]
  exact triple_restated (sound_rel m hOK hM c t) rfl .rfl fun _ => .rfl

/-- After the last point the scratch is let go. -/
theorem phi_last (c : Dev nD) : (datV m c).Φ (Fin.last cfg0.N) ⊢ (Pipeline.ΦD osem0 spec0 H0 (V m) c : sProp 𝕄) := by
  rw [PhiD0_eq, show (datV m c).Φ (Fin.last cfg0.N) = iprop(iprop(owns (c : Thread nD τ) scM0_0 fullShare (xsV m c) ∗ (∃ d, ⌜PZ d⌝ ∗ owns (c : Thread nD τ) scM0_1 fullShare d) ∗ (∃ d, owns (c : Thread nD τ) scM0_2 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_arg3) ∗ hbPt0 c hbM0_1 (V m c main_arg4))) from by show phiV m c cfg0.N = _; unfold phiV; exact if_neg (by rw [show cfg0.N = 10 from N_0]; decide)]
  iintro ⟨⟨HS0, ⟨%d1, %hz, HS1⟩, HS2⟩, HT⟩
  isplitl [HS0 HS1 HS2]
  · isplitl [HS0]
    · iexists _; iexact HS0
    isplitl [HS1]
    · iexists _; iexact HS1
    iexact HS2
  iexact HT

set_option backward.isDefEq.respectTransparency.types false in
set_option maxHeartbeats 800000 in
/-- The launch with its outputs held to what the points leave in them. -/
theorem run_rel (hOK : WordsOK m) (hM : WordsMore m) : θ_run defs (onTc (τ := τ) (main (F := Ideal))) (s₀ m ρ)
    (fun r => (Pipeline.RDat.FramePost (cfgs 0) (fun c => (datV m c).toRRel forgets (Rl m c)) (V m)) r ∧ r.2.sem = fun _ => 0) :=
  Pipeline.RDat.θ_run_frame_dma (Q' := _) cfgs (0 : Fin 1) launch0 osem0 defs₀ Variants.none (fun c => (datV m c).toRRel forgets (Rl m c)) ownSemFacts0 H0 H0_sub m ρ main
    (hbody := fun c => (obligation_rel m hOK hM c).toRRel) (hshare := fun c => (dats m 0 c).share_full fun _ => rfl)
    (howed := fun _ _ => rfl) (V := V m)
    (hmain := hmainD m Variants.none) (hA := A_eq m) (hin := fun _ => .rfl) (hout := phi_last m)

end Cert.KernelIdeal.Own

end
-- ==== Proof.Ideal.Final.lean ====
/- What the four result arrays of the kernel hold at the end, element by element, off the launch with named outputs. -/
module

public import proofs.«01_k».proof.Proof.Ideal.Rel

@[expose] public section

set_option maxRecDepth 16384

noncomputable section

namespace Cert.KernelIdeal.Own

open Idealize.ShloMosaic Idealize.ShloMosaic.TcCoe Idealize.ShloMosaic.Tactic
open Idealize.SL Idealize.SL.Sem
open Idealize.ShloMosaic.Pipeline (Dat RDat Cfg Window)
open Cert.KernelIdeal.Gen

variable (m : (ℓ : Loc nD τ sig) → Buf (Elt Ideal) ℓ) (ρ : Dev nD → PrngReg)

theorem index8 : ∀ t : Fin grid0.N, win0_8.index t 0 = 0 ∧ win0_8.index t 1 = t.val := by decide +kernel
theorem index10 : ∀ t : Fin grid0.N, win0_10.index t 0 = 0 ∧ win0_10.index t 1 = t.val := by decide +kernel

/-- What the result arrays hold. -/
def outY (c : Dev nD) : Vec Ideal S256x10240 .bf16 := fun y => tot m c (pt ((y 1).val / 1024)) (y 0) ⟨(y 1).val % 1024, Nat.mod_lt _ (by decide)⟩
def outLow (c : Dev nD) : Vec Ideal S256x32 .bf16 := fun y => low m c (y 0) (y 1)
def outCodes (c : Dev nD) : Vec Ideal S256x10240 .fp8e4m3 := fun y => codeAt (tot m c (pt ((y 1).val / 1024)) (y 0)) ((y 1).val % 1024)
def outScales (c : Dev nD) : Vec Ideal S256x80 .f32 := fun y => scaleAt (tot m c (pt ((y 1).val / 8)) (y 0)) ((y 1).val % 8)

theorem pt_of (t : Fin cfg0.N) (k n : ℕ) (h : n = 1024 * t.val + k) (hk : k < 1024) : pt (n / 1024) = t ∧ n % 1024 = k := by
  have ht : t.val < 10 := Nat.lt_of_lt_of_eq t.isLt N_0
  refine ⟨Fin.ext ?_, by omega⟩
  show n / 1024 % 10 = t.val
  omega

theorem whole9 : (cfg0.win 9).WholeAt (pt 9) := by decide +kernel
theorem whole11 : (cfg0.win 11).WholeAt (pt 9) := by decide +kernel
theorem covers8 : (cfg0.win 8).Covers := by decide +kernel
theorem covers10 : (cfg0.win 10).Covers := by decide +kernel

theorem finals (r : PUnit × MemSt nD τ sig (Elt Ideal)) (h : Pipeline.RDat.FramePost (cfgs 0) (fun c => (datV m c).toRRel forgets (Rl m c)) (V m) r) (c : Dev nD) :
    r.2.mem ((c.tc : Thread nD τ).loc main_v1_0) = outY m c ∧ r.2.mem ((c.tc : Thread nD τ).loc main_v1_1) = outLow m c
      ∧ r.2.mem ((c.tc : Thread nD τ).loc main_v1_2) = outCodes m c ∧ r.2.mem ((c.tc : Thread nD τ).loc main_v1_3) = outScales m c := by
  obtain ⟨after, hL, hA⟩ := h.exists_exact c
  refine ⟨(hA 8).trans ?_, (hA 9).trans ?_, (hA 10).trans ?_, (hA 11).trans ?_⟩
  · refine Dat.arrAt_eq_of_covers (((datV m c).toRRel forgets (Rl m c)).withAfter after) 8 (outY m c) covers8 fun t hf y => ?_
    have hp : P8 m c t (after 8 t) := (datV m c).toRRel_leaves rfl (hL 8 t hf)
    have e0 : ((((cfg0.win 8).blk t).view.emb y : S256x10240.Idx) 0).val = (y 0).val := Pipeline.Window.rect_emb_val_of_index_zero win0_8 t 0 (index8 t).1 y
    have e1 : ((((cfg0.win 8).blk t).view.emb y : S256x10240.Idx) 1).val = 1024 * t.val + (y 1).val := by
      have := Pipeline.Window.rect_emb_val win0_8 t y 1
      rw [(index8 t).2] at this
      exact this.trans (by rw [Nat.mul_comm]; rfl)
    have hy1 : (y 1).val < 1024 := (y 1).isLt
    obtain ⟨h1, h2⟩ := pt_of t (y 1).val _ e1 hy1
    refine Eq.trans (b := after 8 t (ix2 ⟨(y 0).val, (y 0).isLt⟩ ⟨(y 1).val, hy1⟩)) ?_ ?_
    · refine congrArg (after 8 t) ?_
      funext a
      match a with
      | 0 => rfl
      | 1 => rfl
    · refine (hp ⟨(y 0).val, (y 0).isLt⟩ ⟨(y 1).val, hy1⟩).trans ?_
      unfold outY
      rw [h1]
      congr 1
      · exact Fin.ext e0.symm
      · exact Fin.ext h2.symm
  · refine Dat.arrAt_eq_of_after_last (((datV m c).toRRel forgets (Rl m c)).withAfter after) 9 (pt 9) whole9 (outLow m c) fun j => ?_
    have hp : P9 m c (after 9 (pt 9)) := (datV m c).toRRel_leaves rfl (hL 9 (pt 9) whole9.1)
    refine Eq.trans (b := after 9 (pt 9) (ix2 ⟨(j 0).val, (j 0).isLt⟩ ⟨(j 1).val, (j 1).isLt⟩)) ?_ (hp _ _)
    refine congrArg (after 9 (pt 9)) ?_
    funext a
    match a with
    | 0 => rfl
    | 1 => rfl
  · refine Dat.arrAt_eq_of_covers (((datV m c).toRRel forgets (Rl m c)).withAfter after) 10 (outCodes m c) covers10 fun t hf y => ?_
    have hp : P10 m c t (after 10 t) := (datV m c).toRRel_leaves rfl (hL 10 t hf)
    have e0 : ((((cfg0.win 10).blk t).view.emb y : S256x10240.Idx) 0).val = (y 0).val := Pipeline.Window.rect_emb_val_of_index_zero win0_10 t 0 (index10 t).1 y
    have e1 : ((((cfg0.win 10).blk t).view.emb y : S256x10240.Idx) 1).val = 1024 * t.val + (y 1).val := by
      have := Pipeline.Window.rect_emb_val win0_10 t y 1
      rw [(index10 t).2] at this
      exact this.trans (by rw [Nat.mul_comm]; rfl)
    have hy1 : (y 1).val < 1024 := (y 1).isLt
    obtain ⟨h1, h2⟩ := pt_of t (y 1).val _ e1 hy1
    refine Eq.trans (b := after 10 t (ix2 ⟨(y 0).val, (y 0).isLt⟩ ⟨(y 1).val, hy1⟩)) ?_ ?_
    · refine congrArg (after 10 t) ?_
      funext a
      match a with
      | 0 => rfl
      | 1 => rfl
    · refine (hp ⟨(y 0).val, (y 0).isLt⟩ ⟨(y 1).val, hy1⟩).trans ?_
      unfold outCodes
      rw [h1, h2]
      congr 2
      exact Fin.ext e0.symm
  · refine Dat.arrAt_eq_of_after_last (((datV m c).toRRel forgets (Rl m c)).withAfter after) 11 (pt 9) whole11 (outScales m c) fun j => ?_
    have hp : P11 m c (pt 9) (after 11 (pt 9)) := (datV m c).toRRel_leaves rfl (hL 11 (pt 9) whole11.1)
    have hj : (j 1).val < 80 := (j 1).isLt
    refine Eq.trans (b := after 11 (pt 9) (ix2 ⟨(j 0).val, (j 0).isLt⟩ ⟨(j 1).val, hj⟩)) ?_ (hp _ _ (by show (j 1).val < 8 * (9 % 10 + 1); omega))
    refine congrArg (after 11 (pt 9)) ?_
    funext a
    match a with
    | 0 => rfl
    | 1 => rfl

/-- The run of the kernel: its four results, and its arguments unchanged. -/
theorem run (hOK : WordsOK m) (hM : WordsMore m) : θ_run defs (onTc (τ := τ) (main (F := Ideal))) ⟨m, fun _ => 0, ρ⟩ (fun r => ∀ c : Dev nD,
      r.2.mem ((c.tc : Thread nD τ).loc main_v1_0) = outY m c
      ∧ r.2.mem ((c.tc : Thread nD τ).loc main_v1_1) = outLow m c
      ∧ r.2.mem ((c.tc : Thread nD τ).loc main_v1_2) = outCodes m c
      ∧ r.2.mem ((c.tc : Thread nD τ).loc main_v1_3) = outScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(finals m r h.1 c).1, (finals m r h.1 c).2.1, (finals m r h.1 c).2.2.1, (finals m r h.1 c).2.2.2,
      ((h.1 c).2 main_arg0 (Pipeline.mem_restRefs_of main_arg0 (by decide) (by decide))).trans (V_main_arg0 m c),
      (h.1.arr_in c 6 rfl).trans ((A_eq m c 6).trans (V_main_arg1 m c)),
      (h.1.arr_in c 7 rfl).trans ((A_eq m c 7).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c)),
      (h.1.arr_in c 1 rfl).trans ((A_eq m c 1).trans (V_main_arg6 m c)),
      (h.1.arr_in c 2 rfl).trans ((A_eq m c 2).trans (V_main_arg7 m c)),
      (h.1.arr_in c 3 rfl).trans ((A_eq m c 3).trans (V_main_arg8 m c)),
      (h.1.arr_in c 4 rfl).trans ((A_eq m c 4).trans (V_main_arg9 m c))⟩) (run_rel m ρ hOK hM)

end Cert.KernelIdeal.Own

end
-- ==== Proof.Ideal.Read.lean ====
/- The kernel's product over the arrays in memory: the plain weighted sum and the low-rank addend. -/
module

public import proofs.«01_k».proof.Proof.Ideal.Final

@[expose] public section

set_option maxRecDepth 16384

noncomputable section

namespace Cert.KernelIdeal.Own

open Idealize.ShloMosaic Idealize.ShloMosaic.TcCoe
open Idealize.SL Idealize.SL.Sem
open Cert.KernelIdeal.Gen

variable (m : (ℓ : Loc nD τ sig) → Buf (Elt Ideal) ℓ)

theorem index6 : ∀ t : Fin grid0.N, win0_6.index t 0 = 0 ∧ win0_6.index t 1 = t.val := by decide +kernel
theorem index7 : ∀ t : Fin grid0.N, win0_7.index t 0 = 0 ∧ win0_7.index t 1 = t.val := by decide +kernel

theorem pt_col (N : Fin 10240) : 1024 * (pt (N.val / 1024)).val + N.val % 1024 = N.val := by
  show 1024 * (N.val / 1024 % 10) + N.val % 1024 = N.val
  omega

/-- The packed weights' block at a grid point is a band of columns of the array. -/
theorem block_6 (c : Dev nD) (N : Fin 10240) (q : Fin 320) :
    (iblk m c 6 (pt (N.val / 1024)) : Vec Ideal S320x1024 .i32) (ix2 q ⟨N.val % 1024, Nat.mod_lt _ (by decide)⟩) = m ((c.tc : Thread nD τ).loc main_arg1) (ix2 q N) := by
  set t := pt (N.val / 1024) with ht
  refine Eq.trans (b := V m c main_arg1 (((cfg0.win 6).blk t).view.emb (ix2 q ⟨N.val % 1024, Nat.mod_lt _ (by decide)⟩))) rfl ?_
  rw [V_main_arg1]
  congr 1
  funext a
  apply Fin.ext
  match a with
  | 0 => exact Pipeline.Window.rect_emb_val_of_index_zero win0_6 t 0 (index6 t).1 _
  | 1 =>
    have h := Pipeline.Window.rect_emb_val win0_6 t (ix2 q ⟨N.val % 1024, Nat.mod_lt _ (by decide)⟩) 1
    rw [(index6 t).2] at h
    refine h.trans ?_
    show t.val * 1024 + N.val % 1024 = N.val
    have := pt_col N
    omega

/-- The group scales' block likewise. -/
theorem block_7 (c : Dev nD) (N : Fin 10240) (q : Fin 20) :
    (iblk m c 7 (pt (N.val / 1024)) : Vec Ideal S20x1024 .bf16) (ix2 q ⟨N.val % 1024, Nat.mod_lt _ (by decide)⟩) = m ((c.tc : Thread nD τ).loc main_arg2) (ix2 q N) := by
  set t := pt (N.val / 1024) with ht
  refine Eq.trans (b := V m c main_arg2 (((cfg0.win 7).blk t).view.emb (ix2 q ⟨N.val % 1024, Nat.mod_lt _ (by decide)⟩))) rfl ?_
  rw [V_main_arg2]
  congr 1
  funext a
  apply Fin.ext
  match a with
  | 0 => exact Pipeline.Window.rect_emb_val_of_index_zero win0_7 t 0 (index7 t).1 _
  | 1 =>
    have h := Pipeline.Window.rect_emb_val win0_7 t (ix2 q ⟨N.val % 1024, Nat.mod_lt _ (by decide)⟩) 1
    rw [(index7 t).2] at h
    refine h.trans ?_
    show t.val * 1024 + N.val % 1024 = N.val
    have := pt_col N
    omega

/-- The pools, by row number. -/
def poolA (c : Dev nD) (p : ℕ) (k : Fin 2560) : EReal := m ((c.tc : Thread nD τ).loc main_arg3) (ix2 ⟨p % 400, Nat.mod_lt _ (by decide)⟩ k)
def poolB (c : Dev nD) (N : Fin 10240) (p : ℕ) : EReal := m ((c.tc : Thread nD τ).loc main_arg4) (ix2 ⟨p % 400, Nat.mod_lt _ (by decide)⟩ N)

theorem pa_eq (c : Dev nD) : paOf c (V m c main_arg3) = poolA m c := by
  funext p k
  unfold paOf poolA
  rw [V_main_arg3]
  rfl

theorem pb_eq (c : Dev nD) (N : Fin 10240) (col : ℕ) (h : col = N.val) : pbOf c (V m c main_arg4) col = poolB m c N := by
  funext p
  unfold pbOf poolB
  rw [V_main_arg4]
  subst h
  have e : (⟨N.val % 10240, Nat.mod_lt _ (by decide)⟩ : Fin 10240) = N := Fin.ext (Nat.mod_eq_of_lt N.isLt)
  rw [e]
  rfl

/-- The activations the kernel contracts. -/
def xs (c : Dev nD) (r : Fin 256) (k : Fin 2560) : EReal := act m c (ix2 r k)

theorem act_eq (c : Dev nD) : act m c = shapeCast S256x2560 (m ((c.tc : Thread nD τ).loc main_arg0)) shapeCasts_S2x128x2560_S256x2560 := by
  unfold act
  show StableHlo.after hostOps0 _ (Proc.devRef .tc main_v0) = _
  after_results_simp
  rfl

/-- One entry of the kernel's product. -/
theorem tot_eq (c : Dev nD) (hW : (wds m c).Ok) (r : Fin 256) (N : Fin 10240) :
    tot m c (pt (N.val / 1024)) r ⟨N.val % 1024, Nat.mod_lt _ (by decide)⟩
      = (∑ k : Fin 2560, xs m c r k * (FloatOps.sitofp (F := Ideal) .bf16 (nibble (m ((c.tc : Thread nD τ).loc main_arg1) (ix2 ⟨k.val / 8, by omega⟩ N)) k.val)
            * m ((c.tc : Thread nD τ).loc main_arg2) (ix2 ⟨k.val / 128, by omega⟩ N)))
        + Lora.delta (wds m c) (xs m c) (poolA m c) (poolB m c N) r := by
  have e0 : (grid0.coords (pt (N.val / 1024)) 0).val = (pt (N.val / 1024)).val := by
    have h : (grid0.coords (pt (N.val / 1024)) 0).val = (pt (N.val / 1024)).val / 1 % 10 := Pipeline.Grid.coords_val _ 0 (by decide) rfl
    rw [h]
    show N.val / 1024 % 10 / 1 % 10 = N.val / 1024 % 10
    omega
  have hcol : 1024 * (grid0.coords (pt (N.val / 1024)) 0).val + N.val % 1024 = N.val := by
    rw [e0]; exact pt_col N
  rw [← Lora.sum_windows (xs m c) (poolA m c) (poolB m c N) hW r]
  unfold tot total
  refine (Fin.sum_univ_add (M := EReal) (a := 2560) (b := 256) (fun k => xsAt c (wds m c) (act m c) (V m c main_arg3) r k.val
      * wcAt c (grid0.coords (pt (N.val / 1024)) 0).val (wds m c) (iblk m c 6 (pt (N.val / 1024))) (iblk m c 7 (pt (N.val / 1024))) (V m c main_arg4) k.val ⟨N.val % 1024, Nat.mod_lt _ (by decide)⟩)).trans ?_
  refine congrArg₂ (· + ·) (Finset.sum_congr rfl fun k _ => ?_) (Finset.sum_congr rfl fun q _ => ?_)
  · refine congrArg₂ (· * ·) ?_ ?_
    · unfold xsAt xs
      rw [if_pos (show (Fin.castAdd 256 k).val < 2560 from k.isLt)]
      congr 2
      exact Fin.ext (Nat.mod_eq_of_lt k.isLt)
    · unfold wcAt
      rw [if_pos (show (Fin.castAdd 256 k).val < 2560 from k.isLt), block_6, block_7]
      have e1 : (⟨(Fin.castAdd 256 k).val / 8 % 320, Nat.mod_lt _ (by decide)⟩ : Fin 320) = ⟨k.val / 8, by omega⟩ := Fin.ext (by show k.val / 8 % 320 = k.val / 8; omega)
      have e2 : (⟨(Fin.castAdd 256 k).val / 128 % 20, Nat.mod_lt _ (by decide)⟩ : Fin 20) = ⟨k.val / 128, by omega⟩ := Fin.ext (by show k.val / 128 % 20 = k.val / 128; omega)
      rw [e1, e2]
      rfl
  · have hq : (Fin.natAdd 2560 q).val - 2560 = q.val := by show 2560 + q.val - 2560 = q.val; omega
    have hn : ¬ (Fin.natAdd 2560 q).val < 2560 := by show ¬ 2560 + q.val < 2560; omega
    refine congrArg₂ (· * ·) ?_ ?_
    · unfold xsAt
      rw [if_neg hn, hq, pa_eq]
      rfl
    · unfold wcAt
      rw [if_neg hn, hq, pb_eq m c N _ hcol]

/-- The low-rank activations. -/
theorem low_eq (c : Dev nD) (r : Fin 256) (j : Fin 32) : low m c r j = Lora.lora (wds m c) (xs m c) (poolA m c) r j := by
  unfold low
  rw [pa_eq]
  rfl

end Cert.KernelIdeal.Own

end
-- ==== Proof.Ref.Terms.lean ====
/- The problem's results in stages: the composed term its run leaves, cut at the places where an intermediate value has a meaning of its own. -/
module

public import proofs.«01_k».proof.Proof.Gen.ReferenceIdeal.Run

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- The activations, a row per token. -/
def actR (a0 : Vec F S2x128x2560 .bf16) : Vec F S256x2560 .bf16 :=
  shapeCast _ a0 shapeCasts_S2x128x2560_S256x2560

/-- The unpacked signed four-bit codes. -/
def codeR (a1 : Vec F S320x10240 .i32) : IVec S320x8x10240 32 :=
  subi (andi (Host.shrsi (broadcastInDim S320x8x10240 ![0, 1, 2] bcast_S320x1x10240_S320x8x10240_0_1_2 (broadcastInDim S320x1x10240 ![0, 2] bcast_S320x10240_S320x1x10240_0_2 a1)) (broadcastInDim S320x8x10240 ![0, 1, 2] bcast_S1x8x1_S320x8x10240_0_1_2 (broadcastInDim S1x8x1 ![1] bcast_S8_S1x8x1_1 (muli (broadcastInDim S8 ![] bcast_S_S8 (constantI S_ 32 4#32)) (iotaInDim S8 32 0))))) (broadcastInDim S320x8x10240 ![] bcast_S_S320x8x10240 (constantI S_ 32 15#32))) (muli (broadcastInDim S320x8x10240 ![] bcast_S_S320x8x10240 (constantI S_ 32 16#32)) (extui 32 (cmpi .sge (andi (Host.shrsi (broadcastInDim S320x8x10240 ![0, 1, 2] bcast_S320x1x10240_S320x8x10240_0_1_2 (broadcastInDim S320x1x10240 ![0, 2] bcast_S320x10240_S320x1x10240_0_2 a1)) (broadcastInDim S320x8x10240 ![0, 1, 2] bcast_S1x8x1_S320x8x10240_0_1_2 (broadcastInDim S1x8x1 ![1] bcast_S8_S1x8x1_1 (muli (broadcastInDim S8 ![] bcast_S_S8 (constantI S_ 32 4#32)) (iotaInDim S8 32 0))))) (broadcastInDim S320x8x10240 ![] bcast_S_S320x8x10240 (constantI S_ 32 15#32))) (broadcastInDim S320x8x10240 ![] bcast_S_S320x8x10240 (constantI S_ 32 8#32))) natLt_1_32))

/-- The scaled weights. -/
def weightR (a1 : Vec F S320x10240 .i32) (a2 : Vec F S20x10240 .bf16) : FVec F S2560x10240 .bf16 :=
  mulf (sitofp .bf16 (shapeCast _ (codeR a1) shapeCasts_S320x8x10240_S2560x10240)) (shapeCast _ (broadcastInDim S20x128x10240 ![0, 2] bcast_S20x10240_S20x128x10240_0_2 a2) shapeCasts_S20x128x10240_S2560x10240)

/-- Which segment each token lies in. -/
def insideR (a8 : Vec F S6 .i32) : IVec S256x5 1 :=
  andi (cmpi .sge (broadcastInDim S256x5 ![0, 1] bcast_S256x1_S256x5_0_1 (broadcastInDim S256x1 ![0] bcast_S256_S256x1_0 (iotaInDim S256 32 0))) (broadcastInDim S256x5 ![0, 1] bcast_S1x5_S256x5_0_1 (broadcastInDim S1x5 ![1] bcast_S5_S1x5_1 (extractStridedSlice S5 ![0] a8 slices_S6_S5_0)))) (cmpi .slt (broadcastInDim S256x5 ![0, 1] bcast_S256x1_S256x5_0_1 (broadcastInDim S256x1 ![0] bcast_S256_S256x1_0 (iotaInDim S256 32 0))) (broadcastInDim S256x5 ![0, 1] bcast_S1x5_S256x5_0_1 (broadcastInDim S1x5 ![1] bcast_S5_S1x5_1 (extractStridedSlice S5 ![1] a8 slices_S6_S5_1))))

/-- The pool rows of each segment. -/
def rowsR (a5 : Vec F S9 .i32) (a9 : Vec F S5 .i32) : IVec S5x32x1 32 :=
  broadcastInDim S5x32x1 ![0, 1] bcast_S5x32_S5x32x1_0_1 (addi (broadcastInDim S5x32 ![0, 1] bcast_S5x1_S5x32_0_1 (broadcastInDim S5x1 ![0] bcast_S5_S5x1_0 (Host.gather gather_S9_S5x1_S5_n_0_n_n_0_1_1 a5 (broadcastInDim S5x1 ![0] bcast_S5_S5x1_0 a9)))) (broadcastInDim S5x32 ![0, 1] bcast_S1x32_S5x32_0_1 (broadcastInDim S1x32 ![1] bcast_S32_S1x32_1 (iotaInDim S32 32 0))))

/-- Which of the 32 rows each segment has. -/
def rankR (a6 : Vec F S9 .i32) (a9 : Vec F S5 .i32) : IVec S5x32 1 :=
  cmpi .slt (broadcastInDim S5x32 ![0, 1] bcast_S1x32_S5x32_0_1 (broadcastInDim S1x32 ![1] bcast_S32_S1x32_1 (iotaInDim S32 32 0))) (broadcastInDim S5x32 ![0, 1] bcast_S5x1_S5x32_0_1 (broadcastInDim S5x1 ![0] bcast_S5_S5x1_0 (Host.gather gather_S9_S5x1_S5_n_0_n_n_0_1_1 a6 (broadcastInDim S5x1 ![0] bcast_S5_S5x1_0 a9))))

/-- The scaled first product, per segment. -/
def productR (a0 : Vec F S2x128x2560 .bf16) (a3 : Vec F S400x2560 .bf16) (a5 : Vec F S9 .i32) (a7 : Vec F S9 .f32) (a9 : Vec F S5 .i32) : FVec F S256x5x32 .f32 :=
  mulf (Host.dotGeneral dot_S256x2560_S5x32x2560_S256x5x32_1_2_0_01_n_n none (actR a0) (Host.gather gather_S400x2560_S5x32x1_S5x32x2560_2_0_n_n_0_2_12560 a3 (rowsR a5 a9))) (broadcastInDim S256x5x32 ![0, 1, 2] bcast_S1x5x1_S256x5x32_0_1_2 (broadcastInDim S1x5x1 ![1] bcast_S5_S1x5x1_1 (Host.gather gather_S9_S5x1_S5_n_0_n_n_0_1_1 a7 (broadcastInDim S5x1 ![0] bcast_S5_S5x1_0 a9))))

/-- The low-rank activations. -/
def loraR (a0 : Vec F S2x128x2560 .bf16) (a3 : Vec F S400x2560 .bf16) (a5 : Vec F S9 .i32) (a6 : Vec F S9 .i32) (a7 : Vec F S9 .f32) (a8 : Vec F S6 .i32) (a9 : Vec F S5 .i32) : FVec F S256x32 .f32 :=
  Host.reduceAdd (select (andi (broadcastInDim S256x5x32 ![0, 1, 2] bcast_S256x5x1_S256x5x32_0_1_2 (broadcastInDim S256x5x1 ![0, 1] bcast_S256x5_S256x5x1_0_1 (insideR a8))) (broadcastInDim S256x5x32 ![0, 1, 2] bcast_S1x5x32_S256x5x32_0_1_2 (broadcastInDim S1x5x32 ![1, 2] bcast_S5x32_S1x5x32_1_2 (rankR a6 a9)))) (productR a0 a3 a5 a7 a9) (broadcastInDim S256x5x32 ![] bcast_S_S256x5x32 (id (constant S_ .f32 0x00000000#32)))) (constant S_ .f32 0x00000000#32) reducesTo_S256x5x32_S256x32_d1 h_S_

/-- The sum before rounding. -/
def sumR (a0 : Vec F S2x128x2560 .bf16) (a1 : Vec F S320x10240 .i32) (a2 : Vec F S20x10240 .bf16) (a3 : Vec F S400x2560 .bf16) (a4 : Vec F S400x10240 .bf16) (a5 : Vec F S9 .i32) (a6 : Vec F S9 .i32) (a7 : Vec F S9 .f32) (a8 : Vec F S6 .i32) (a9 : Vec F S5 .i32) : FVec F S256x10240 .f32 :=
  addf (Host.dotGeneral dot_S256x2560_S2560x10240_S256x10240_1_0_0_1_n_n none (actR a0) (weightR a1 a2)) (Host.reduceAdd (select (broadcastInDim S256x5x10240 ![0, 1, 2] bcast_S256x5x1_S256x5x10240_0_1_2 (broadcastInDim S256x5x1 ![0, 1] bcast_S256x5_S256x5x1_0_1 (insideR a8))) (Host.dotGeneral dot_S256x32_S5x32x10240_S256x5x10240_1_1_0_02_n_n none (truncf .bf16 (loraR a0 a3 a5 a6 a7 a8 a9) bitsLt_bf16_f32) (Host.gather gather_S400x10240_S5x32x1_S5x32x10240_2_0_n_n_0_2_110240 a4 (rowsR a5 a9))) (broadcastInDim S256x5x10240 ![] bcast_S_S256x5x10240 (id (constant S_ .f32 0x00000000#32)))) (constant S_ .f32 0x00000000#32) reducesTo_S256x5x10240_S256x10240_d1 h_S_)

/-- The largest magnitude of each block of 128 columns. -/
def maxR (y : FVec F S256x80x128 .f32) : FVec F S256x80 .f32 :=
  Host.reduce FloatOps.maximumf (Host.absf y) (constant S_ .f32 0xFF800000#32) reducesTo_S256x80x128_S256x80_d2 h_S_

/-- The exponent of each block. -/
def expR (a : FVec F S256x80 .f32) : FVec F S256x80 .f32 :=
  select (cmpf .oeq a (broadcastInDim S256x80 ![] bcast_S_S256x80 (constant S_ .f32 0x00000000#32))) (broadcastInDim S256x80 ![] bcast_S_S256x80 (id (constant S_ .f32 0x00000000#32))) (minimumf (broadcastInDim S256x80 ![] bcast_S_S256x80 (id (constant S_ .f32 0x42FC0000#32))) (maximumf (broadcastInDim S256x80 ![] bcast_S_S256x80 (id (constant S_ .f32 0xC2FC0000#32))) (addf (Host.floor (Host.divf (Host.log (mulf a (broadcastInDim S256x80 ![] bcast_S_S256x80 (constant S_ .f32 0x3B124925#32)))) (broadcastInDim S256x80 ![] bcast_S_S256x80 (Host.log (constant S_ .f32 0x40000000#32))))) (broadcastInDim S256x80 ![] bcast_S_S256x80 (constant S_ .f32 0x3F800000#32)))))

/-- The scale of each block. -/
def scaleR (y : FVec F S256x80x128 .f32) : FVec F S256x80 .f32 :=
  Host.powf (broadcastInDim S256x80 ![] bcast_S_S256x80 (constant S_ .f32 0x40000000#32)) (expR (maxR y))

/-- The codes, block by block. -/
def codesR (y : FVec F S256x80x128 .f32) : FVec F S256x80x128 .f32 :=
  minimumf (broadcastInDim S256x80x128 ![] bcast_S_S256x80x128 (id (constant S_ .f32 0x43E00000#32))) (maximumf (broadcastInDim S256x80x128 ![] bcast_S_S256x80x128 (id (constant S_ .f32 0xC3E00000#32))) (mulf y (broadcastInDim S256x80x128 ![0, 1, 2] bcast_S256x80x1_S256x80x128_0_1_2 (broadcastInDim S256x80x1 ![0, 1] bcast_S256x80_S256x80x1_0_1 (Host.powf (broadcastInDim S256x80 ![] bcast_S_S256x80 (constant S_ .f32 0x40000000#32)) (Host.negf (expR (maxR y))))))))

variable (m : (ℓ : Loc nD τ sig) → Buf (Elt F) ℓ) (c : Dev nD)

/-- The sum, and the low-rank activations, of the arguments in memory. -/
def sumM : FVec F S256x10240 .f32 :=
  sumR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
def loraM : FVec F S256x32 .f32 :=
  loraR (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

theorem out0 : Value.res_main_v97 m c = truncf .bf16 (sumM m c) bitsLt_bf16_f32 := rfl
theorem out3 : Value.res_main_v87 m c = scaleR (shapeCast _ (sumM m c) shapeCasts_S256x10240_S256x80x128) := rfl
theorem out2 : Value.res_main_v96 m c = shapeCast _ (Host.convertf .fp8e4m3 (codesR (shapeCast _ (sumM m c) shapeCasts_S256x10240_S256x80x128))) shapeCasts_S256x80x128_S256x10240 := rfl

end Cert.ReferenceIdeal.Own

end
-- ==== Proof.Ref.Gather.lean ====
/- The problem's table lookups: rows of a pool taken at a row number per segment and rank, and words taken at an adapter number per segment. -/
module

public import proofs.«01_k».proof.Proof.Gen.ReferenceIdeal
public import Idealize.ShloMosaic.Lib.Pointwise
public import Idealize.ShloMosaic.Lib.ValueIdx
public import Idealize.ShloMosaic.Lib.StableHlo.Predicate

@[expose] public section

noncomputable section

namespace Cert.ReferenceIdeal.Own

open Cert.ReferenceIdeal Cert.ReferenceIdeal.Gen Idealize.ShloMosaic

/-- The lookup of rows of a pool of 400 rows of any width. -/
abbrev rowsDims (C : ℕ) (wf : GatherDims.WF ⟨2, ![400, C]⟩ ⟨3, ![5, 32, 1]⟩ ⟨3, ![5, 32, C]⟩ [2] [0] [] [0] [] 2 ![1, C]) :
    GatherDims ⟨2, ![400, C]⟩ ⟨3, ![5, 32, 1]⟩ ⟨3, ![5, 32, C]⟩ where
  offsetDims := [2]
  collapsedSliceDims := [0]
  operandBatchingDims := []
  startIndicesBatchingDims := []
  startIndexMap := [0]
  indexVectorDim := 2
  sliceSizes := ![1, C]
  wf := wf

theorem gather_rows {α : Type} (C : ℕ) (wf) (x : (⟨2, ![400, C]⟩ : Shape).Idx → α) (idx : IVec ⟨3, ![5, 32, 1]⟩ 32) (s : Fin 5) (j : Fin 32) (k : Fin C) :
    Host.gather (rowsDims C wf) x idx (ix3 s j k) = x (ix2 ⟨min (idx (ix3 s j 0)).toInt.toNat 399, by omega⟩ k) := by
  unfold Host.gather
  congr 1
  funext a
  refine Fin.ext ?_
  show (rowsDims C wf).start (ix3 s j k) idx a + (rowsDims C wf).batchCoord (ix3 s j k) a + (rowsDims C wf).offCoord (ix3 s j k) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims C wf).startIndexMap from List.mem_singleton.mpr rfl)]
    have hsi : (rowsDims C wf).siIdx (ix3 s j k) ⟨List.idxOf (0 : Fin 2) (rowsDims C wf).startIndexMap,
        List.idxOf_lt_length_iff.2 (List.mem_singleton.mpr rfl)⟩ = ix3 s j 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ (rowsDims C wf).startIndexMap from by simp)]
    simp only [Nat.zero_add]
    rfl

theorem gather_a {α : Type} (x : S400x2560.Idx → α) (idx : IVec S5x32x1 32) (s : Fin 5) (j : Fin 32) (k : Fin 2560) :
    Host.gather gather_S400x2560_S5x32x1_S5x32x2560_2_0_n_n_0_2_12560 x idx (ix3 s j k) = x (ix2 ⟨min (idx (ix3 s j 0)).toInt.toNat 399, by omega⟩ k) :=
  gather_rows 2560 _ x idx s j k

theorem gather_b {α : Type} (x : S400x10240.Idx → α) (idx : IVec S5x32x1 32) (s : Fin 5) (j : Fin 32) (k : Fin 10240) :
    Host.gather gather_S400x10240_S5x32x1_S5x32x10240_2_0_n_n_0_2_110240 x idx (ix3 s j k) = x (ix2 ⟨min (idx (ix3 s j 0)).toInt.toNat 399, by omega⟩ k) :=
  gather_rows 10240 _ x idx s j k

theorem gather_word {α : Type} (x : S9.Idx → α) (idx : IVec S5x1 32) (s : Fin 5) :
    Host.gather gather_S9_S5x1_S5_n_0_n_n_0_1_1 x idx (ix1 s) = x (ix1 ⟨min (idx (ix2 s 0)).toInt.toNat 8, by omega⟩) := by
  have e1 : (Shape.Idx.ofFin s : S5.Idx) = ix1 s := by
    funext a
    match a with
    | 0 => rfl
  have e2 : (StableHlo.Predicate.ixP s : S5x1.Idx) = ix2 s 0 := by
    funext a
    match a with
    | 0 => rfl
    | 1 => rfl
  have h := StableHlo.Predicate.gather_take gather_S9_S5x1_S5_n_0_n_n_0_1_1 rfl rfl rfl rfl x idx s (by decide)
  rw [← e1, h]
  congr 1
  funext a
  match a with
  | 0 =>
    apply Fin.ext
    show min (idx (StableHlo.Predicate.ixP s)).toInt.toNat 8 = min (idx (ix2 s 0)).toInt.toNat 8
    rw [e2]

end Cert.ReferenceIdeal.Own

end
-- ==== Proof.Ref.Values.lean ====
/- The problem's results element by element, over plain functions. -/
module

public import proofs.«01_k».proof.Proof.Ref.Terms
public import proofs.«01_k».proof.Proof.Ref.Gather
public import proofs.«01_k».proof.Proof.Ideal.Words
public import proofs.«01_k».proof.Proof.Ideal.Quant
public import Idealize.ShloMosaic.Lib.Tactic.CleanTypes

@[expose] public section

set_option maxRecDepth 16384

noncomputable section

namespace Cert.ReferenceIdeal.Own

open Cert.ReferenceIdeal Cert.ReferenceIdeal.Gen Idealize.ShloMosaic
open Cert.KernelIdeal.Own (andi_one sge_one slt_one)

/-- The problem's code of weight row `k` from its packed word. -/
def unpack (w : BitVec 32) (j : ℕ) : BitVec 32 :=
  IntOp.subi (IntOp.andi (IntOp.shrsi .host w (IntOp.muli 4#32 (BitVec.ofNat 32 j))) 15#32)
    (IntOp.muli 16#32 (BitVec.setWidth 32 (IntOp.cmpi .sge (IntOp.andi (IntOp.shrsi .host w (IntOp.muli 4#32 (BitVec.ofNat 32 j))) 15#32) 8#32)))

theorem codeR_apply (a1 : Vec Ideal S320x10240 .i32) (q : Fin 320) (j : Fin 8) (n : Fin 10240) :
    codeR a1 (ix3 q j n) = unpack (a1 (ix2 q n)) j.val := by
  unfold codeR unpack
  pointwise

theorem weightR_apply (a1 : Vec Ideal S320x10240 .i32) (a2 : Vec Ideal S20x10240 .bf16) (k : Fin 2560) (n : Fin 10240) :
    weightR a1 a2 (ix2 k n) = FloatOps.sitofp (F := Ideal) .bf16 (codeR a1 (ix3 ⟨k.val / 8, by omega⟩ ⟨k.val % 8, by omega⟩ n)) * a2 (ix2 ⟨k.val / 128, by omega⟩ n) := by
  unfold weightR
  pointwise

theorem insideR_apply (a8 : Vec Ideal S6 .i32) (r : Fin 256) (s : Fin 5) :
    insideR a8 (ix2 r s) = 1#1 ↔ (a8 (ix1 s.castSucc)).toInt ≤ (r.val : ℤ) ∧ (r.val : ℤ) < (a8 (ix1 s.succ)).toInt := by
  have e : insideR a8 (ix2 r s) = IntOp.andi (IntOp.cmpi .sge (BitVec.ofNat 32 r.val) (a8 (ix1 s.castSucc))) (IntOp.cmpi .slt (BitVec.ofNat 32 r.val) (a8 (ix1 s.succ))) := by
    unfold insideR
    pointwise
    have e : (⟨1 + s.val, by omega⟩ : Fin 6) = s.succ := Fin.ext (Nat.add_comm 1 s.val)
    rw [e]
    rfl
  rw [e, andi_one, sge_one _ (by omega), slt_one _ (by omega)]

theorem rowsR_apply (a5 : Vec Ideal S9 .i32) (a9 : Vec Ideal S5 .i32) (s : Fin 5) (j : Fin 32) :
    rowsR a5 a9 (ix3 s j 0) = IntOp.addi (a5 (ix1 ⟨min (a9 (ix1 s)).toInt.toNat 8, by omega⟩)) (BitVec.ofNat 32 j.val) := by
  unfold rowsR
  pointwise
  rw [gather_word]
  pointwise

theorem rankR_apply (a6 : Vec Ideal S9 .i32) (a9 : Vec Ideal S5 .i32) (s : Fin 5) (j : Fin 32) :
    rankR a6 a9 (ix2 s j) = IntOp.cmpi .slt (BitVec.ofNat 32 j.val) (a6 (ix1 ⟨min (a9 (ix1 s)).toInt.toNat 8, by omega⟩)) := by
  unfold rankR
  pointwise
  rw [gather_word]
  pointwise

theorem productR_apply (a0 a3 a5 a7 a9) (r : Fin 256) (s : Fin 5) (j : Fin 32) :
    productR (F := Ideal) a0 a3 a5 a7 a9 (ix3 r s j)
      = (∑ k : Fin 2560, (actR a0 (ix2 r k) : EReal) * a3 (ix2 ⟨min (rowsR a5 a9 (ix3 s j 0)).toInt.toNat 399, by omega⟩ k))
          * a7 (ix1 ⟨min (a9 (ix1 s)).toInt.toNat 8, by omega⟩) := by
  unfold productR
  pointwise
  simp only [gather_a, gather_word]
  pointwise

theorem loraR_apply (a0 a3 a5 a6 a7 a8 a9) (r : Fin 256) (j : Fin 32) :
    loraR (F := Ideal) a0 a3 a5 a6 a7 a8 a9 (ix2 r j)
      = ∑ s : Fin 5, if IntOp.andi (insideR a8 (ix2 r s)) (rankR a6 a9 (ix2 s j)) = 1 then productR (F := Ideal) a0 a3 a5 a7 a9 (ix3 r s j) else (0 : EReal) := by
  unfold loraR
  simp only [id_eq]
  pointwise
  simp only [Scalar.select]

theorem sumR_apply (a0 a1 a2 a3 a4 a5 a6 a7 a8 a9) (r : Fin 256) (n : Fin 10240) :
    sumR (F := Ideal) a0 a1 a2 a3 a4 a5 a6 a7 a8 a9 (ix2 r n)
      = (∑ k : Fin 2560, (actR a0 (ix2 r k) : EReal) * weightR a1 a2 (ix2 k n))
        + ∑ s : Fin 5, if insideR a8 (ix2 r s) = 1 then (∑ j : Fin 32, (loraR (F := Ideal) a0 a3 a5 a6 a7 a8 a9 (ix2 r j) : EReal)
            * a4 (ix2 ⟨min (rowsR a5 a9 (ix3 s j 0)).toInt.toNat 399, by omega⟩ n)) else 0 := by
  unfold sumR
  simp only [id_eq]
  pointwise
  simp only [gather_b, Scalar.select]

end Cert.ReferenceIdeal.Own

end
-- ==== Proof.Math.Nibble.lean ====
/- Two ways to unpack a signed four-bit code from a word agree: shifting it to the top and back arithmetically, and masking it and subtracting sixteen from eight on. -/
module

public import proofs.«01_k».proof.Proof.Ref.Values

@[expose] public section

noncomputable section

namespace Cert.Nibble

open Idealize.ShloMosaic

/-- The four bits of a word from bit `t` on, masked. -/
theorem masked (w : BitVec 32) (t : ℕ) (ht : t + 4 ≤ 32) : w.sshiftRight t &&& 15#32 = (w.extractLsb' t 4).setWidth 32 := by
  have h15 : ∀ i : Fin 32, (15#32).getLsbD i.val = decide (i.val < 4) := by decide
  refine BitVec.eq_of_getLsbD_eq fun i hi => ?_
  rw [BitVec.getLsbD_and, h15 ⟨i, hi⟩, BitVec.getLsbD_setWidth, BitVec.getLsbD_extractLsb', BitVec.getLsbD_sshiftRight]
  by_cases h : i < 4
  · have e : t + i < 32 := by omega
    have e' : ¬ 32 ≤ i := by omega
    simp [h, hi, e, e']
  · simp [h]

/-- The four bits of a word from bit `t` on, signed. -/
theorem signed (w : BitVec 32) (t : ℕ) (ht : t + 4 ≤ 32) : (w <<< (28 - t)).sshiftRight 28 = (w.extractLsb' t 4).signExtend 32 := by
  refine BitVec.eq_of_getLsbD_eq fun i hi => ?_
  rw [BitVec.getLsbD_sshiftRight, BitVec.getLsbD_signExtend]
  by_cases h : i < 4
  · have e : 28 + i < 32 := by omega
    have e' : ¬ 32 ≤ i := by omega
    have e2 : ¬ 28 + i < 28 - t := by omega
    have e3 : 28 + i - (28 - t) = t + i := by omega
    simp [h, hi, e, e', e2, e3, BitVec.getLsbD_shiftLeft, BitVec.getLsbD_extractLsb']
    exact (BitVec.getLsbD_eq_getElem _).symm
  · have e : ¬ 28 + i < 32 := by omega
    have e' : ¬ 32 ≤ i := by omega
    have e2 : ¬ 31 < 28 - t := by omega
    have e3 : 31 - (28 - t) = t + 3 := by omega
    simp [h, hi, e, e', e2, e3, BitVec.msb_eq_getLsbD_last, BitVec.getLsbD_shiftLeft, BitVec.getLsbD_extractLsb']
    exact (BitVec.getLsbD_eq_getElem _).symm

theorem signed_masked : ∀ v : BitVec 4, v.signExtend 32 = v.setWidth 32 - 16#32 * BitVec.setWidth 32 (IntOp.cmpi .sge (v.setWidth 32) 8#32) := by decide

theorem shift_amounts : ∀ j : Fin 8, (IntOp.subi 28#32 (IntOp.muli 4#32 (BitVec.ofNat 32 j.val))).toNat = 28 - 4 * j.val
    ∧ (IntOp.muli 4#32 (BitVec.ofNat 32 j.val)).toNat = 4 * j.val := by decide

theorem low_bits (k : Fin 2560) : IntOp.andi (BitVec.ofNat 32 k.val) 7#32 = BitVec.ofNat 32 (k.val % 8) := by
  revert k
  decide +kernel

theorem unpack_eq (w : BitVec 32) (k : Fin 2560) : KernelIdeal.Own.nibble w k.val = ReferenceIdeal.Own.unpack w (k.val % 8) := by
  obtain ⟨j, hj⟩ : ∃ j : Fin 8, k.val % 8 = j.val := ⟨⟨k.val % 8, Nat.mod_lt _ (by decide)⟩, rfl⟩
  obtain ⟨h1, h2⟩ := shift_amounts j
  have ht : 4 * j.val + 4 ≤ 32 := by omega
  have eL : KernelIdeal.Own.nibble w k.val = (w.extractLsb' (4 * j.val) 4).signExtend 32 := by
    unfold KernelIdeal.Own.nibble
    rw [low_bits, hj]
    unfold IntOp.shli IntOp.shrsi
    rw [if_pos (by decide), if_pos (by rw [h1]; omega)]
    rw [← signed w (4 * j.val) ht, ← h1]
    rfl
  have eS : IntOp.shrsi .host w (IntOp.muli 4#32 (BitVec.ofNat 32 j.val)) = w.sshiftRight (4 * j.val) := by
    unfold IntOp.shrsi
    rw [if_pos (by rw [h2]; omega)]
    show w.sshiftRight _ = _
    rw [h2]
  have eM : IntOp.andi (IntOp.shrsi .host w (IntOp.muli 4#32 (BitVec.ofNat 32 j.val))) 15#32 = (w.extractLsb' (4 * j.val) 4).setWidth 32 := by
    rw [eS]
    exact masked w (4 * j.val) ht
  rw [hj, eL, signed_masked]
  unfold ReferenceIdeal.Own.unpack
  rw [eM]
  rfl

end Cert.Nibble

end
-- ==== Proof.Ref.Quant.lean ====
/- The problem's quantiser element by element. -/
module

public import proofs.«01_k».proof.Proof.Ref.Terms
public import proofs.«01_k».proof.Proof.Ideal.Words
public import proofs.«01_k».proof.Proof.Ideal.Quant
public import Idealize.ShloMosaic.Lib.Tactic.CleanTypes

@[expose] public section

set_option maxRecDepth 16384

noncomputable section

namespace Cert.ReferenceIdeal.Own

open Cert.ReferenceIdeal Cert.ReferenceIdeal.Gen Idealize.ShloMosaic

theorem c2 : Ideal.ofBits .f32 1073741824#32 = ((2 : ℝ) : EReal) := by
  simp [Ideal.ofBits, Ideal.ieee]
  rw [← EReal.coe_mul]
  norm_num
theorem c126 : Ideal.ofBits .f32 1123811328#32 = ((126 : ℝ) : EReal) := by
  simp [Ideal.ofBits, Ideal.ieee]
  rw [← EReal.coe_mul]
  norm_num
theorem cm126 : Ideal.ofBits .f32 3271294976#32 = ((-126 : ℝ) : EReal) := by
  simp [Ideal.ofBits, Ideal.ieee]
  rw [← EReal.coe_mul]
  norm_num

theorem maxR_apply (y : FVec Ideal S256x80x128 .f32) (r : Fin 256) (b : Fin 80) : maxR y (ix2 r b) = Cert.KernelIdeal.Own.amax fun l => y (ix3 r b l) := by
  unfold maxR Cert.KernelIdeal.Own.amax
  pointwise

theorem expR_apply (a : FVec Ideal S256x80 .f32) (r : Fin 256) (b : Fin 80) : expR a (ix2 r b) = Expo.expo (a (ix2 r b)) := by
  unfold expR
  simp only [id_eq]
  pointwise
  rw [c126, cm126, c2]
  rfl

theorem two_apply (e : FVec Ideal S256x80 .f32) (r : Fin 256) (b : Fin 80) :
    Host.powf (broadcastInDim S256x80 ![] bcast_S_S256x80 (constant S_ .f32 0x40000000#32)) e (ix2 r b) = Ideal.pow ((2 : ℝ) : EReal) (e (ix2 r b)) := by
  have h : (broadcastInDim S256x80 ![] bcast_S_S256x80 (constant (F := Ideal) S_ .f32 0x40000000#32) (ix2 r b) : EReal) = ((2 : ℝ) : EReal) := by
    rw [← c2]
    pointwise
  exact congrArg (fun z => Ideal.pow z (e (ix2 r b))) h

theorem scaleR_apply (y : FVec Ideal S256x80x128 .f32) (r : Fin 256) (b : Fin 80) :
    scaleR y (ix2 r b) = Ideal.pow ((2 : ℝ) : EReal) (Expo.expo (Cert.KernelIdeal.Own.amax fun l => y (ix3 r b l))) := by
  unfold scaleR
  rw [two_apply, expR_apply, maxR_apply]

theorem clip_apply (a b y d : FVec Ideal S256x80x128 .f32) (j : S256x80x128.Idx) :
    minimumf a (maximumf b (mulf y d)) j = min (a j : EReal) (max (b j : EReal) (y j * d j)) := rfl

theorem fill_apply (w : BitVec 32) (j : S256x80x128.Idx) :
    broadcastInDim S256x80x128 ![] bcast_S_S256x80x128 (id (constant (F := Ideal) S_ .f32 w)) j = Ideal.ofBits .f32 w := rfl

theorem spread_apply (p : FVec Ideal S256x80 .f32) (r : Fin 256) (b : Fin 80) (l : Fin 128) :
    broadcastInDim S256x80x128 ![0, 1, 2] bcast_S256x80x1_S256x80x128_0_1_2 (broadcastInDim S256x80x1 ![0, 1] bcast_S256x80_S256x80x1_0_1 p) (ix3 r b l) = p (ix2 r b) := by
  pointwise

theorem neg_apply (e : FVec Ideal S256x80 .f32) (j : S256x80.Idx) : Host.negf e j = -(e j : EReal) := rfl

theorem inverse_apply (y : FVec Ideal S256x80x128 .f32) (r : Fin 256) (b : Fin 80) :
    Host.powf (broadcastInDim S256x80 ![] bcast_S_S256x80 (constant S_ .f32 0x40000000#32)) (Host.negf (expR (maxR y))) (ix2 r b)
      = Ideal.pow ((2 : ℝ) : EReal) (-(Expo.expo (Cert.KernelIdeal.Own.amax fun l => y (ix3 r b l)))) := by
  rw [two_apply, neg_apply, expR_apply, maxR_apply]

theorem codesR_apply (y : FVec Ideal S256x80x128 .f32) (r : Fin 256) (b : Fin 80) (l : Fin 128) :
    codesR y (ix3 r b l) = min (Ideal.ofBits .f32 1138753536#32) (max (Ideal.ofBits .f32 3286237184#32) (y (ix3 r b l) * Ideal.pow ((2 : ℝ) : EReal) (-(Expo.expo (Cert.KernelIdeal.Own.amax fun l => y (ix3 r b l)))))) := by
  unfold codesR
  rw [clip_apply, fill_apply, fill_apply, spread_apply, inverse_apply]

end Cert.ReferenceIdeal.Own

end
-- ==== Proof.Join.lean ====
/- The kernel's four results are the problem's: the low-rank activations, the sum, its codes and its scales, of the arrays in the kernel's memory. -/
module

public import proofs.«01_k».proof.Proof.Ideal.Read
public import proofs.«01_k».proof.Proof.Math.Nibble
public import proofs.«01_k».proof.Proof.Ref.Quant

@[expose] public section

set_option maxRecDepth 16384

noncomputable section

namespace Cert.Join

open Idealize.ShloMosaic Idealize.ShloMosaic.TcCoe
open Idealize.SL Idealize.SL.Sem
open Cert.KernelIdeal.Own Cert.ReferenceIdeal.Own
open Cert.KernelIdeal (nD τ sig main_arg0 main_arg1 main_arg2 main_arg3 main_arg4 main_arg5 main_arg6 main_arg7 main_arg8 main_arg9)

/-! ### Words as numbers -/

theorem toInt_eq (w : BitVec 32) (h : w.toNat < 2 ^ 31) : w.toInt = w.toNat := by
  rw [BitVec.toInt_eq_toNat_cond, if_pos (by omega)]

theorem seg_index (w : BitVec 32) (h : w.toNat < 9) : min w.toInt.toNat 8 = w.toNat % 9 := by
  rw [toInt_eq w (by omega)]
  omega

theorem row_index (w : BitVec 32) (h : w.toNat ≤ 368) (j : Fin 32) : min (IntOp.addi w (BitVec.ofNat 32 j.val)).toInt.toNat 399 = (w.toNat + j.val) % 400 := by
  have e : (IntOp.addi w (BitVec.ofNat 32 j.val)).toNat = w.toNat + j.val := by
    show (w + BitVec.ofNat 32 j.val).toNat = _
    rw [BitVec.toNat_add, BitVec.toNat_ofNat]
    omega
  rw [toInt_eq _ (by rw [e]; omega), e]
  omega

/-! ### The magnitude is not negative -/

theorem absf_nonneg (x : EReal) : (0 : EReal) ≤ FloatOps.absf (F := Ideal) (φ := .f32) x := by
  show (0 : EReal) ≤ max x (-x)
  rcases le_total 0 x with h | h
  · exact le_max_of_le_left h
  · exact le_max_of_le_right (EReal.neg_nonneg.mpr h)

theorem amax_nonneg (f : Fin 128 → EReal) : 0 ≤ amax f := by
  unfold amax
  exact (Finset.le_fold_max _).mpr (Or.inr ⟨0, Finset.mem_univ _, absf_nonneg _⟩)

/-- An index of a two-dimensional array, by its coordinates. -/
theorem pair {a b : ℕ} (y : (⟨2, ![a, b]⟩ : Shape).Idx) : ∃ (r : Fin a) (n : Fin b), y = ix2 r n :=
  ⟨y 0, y 1, by funext k; match k with | 0 => rfl | 1 => rfl⟩

variable (m : (ℓ : Loc nD τ sig) → Buf (Elt Ideal) ℓ) (c : Dev nD)

theorem words_ok (hOK : WordsOK m) (hM : WordsMore m) : (wds m c).Ok where
  st_le _ := (hOK c).1 _
  rk_le _ := (hM c).1 _
  off_le s := (hM c).2 s

/-- The problem's results, of the arrays in the kernel's memory. -/
abbrev loraK : FVec Ideal Cert.ReferenceIdeal.S256x32 .f32 :=
  loraR (F := Ideal) (m ((c.tc : Thread nD τ).loc main_arg0)) (m ((c.tc : Thread nD τ).loc main_arg3)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
abbrev sumK : FVec Ideal Cert.ReferenceIdeal.S256x10240 .f32 :=
  sumR (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

theorem act_join (r : Fin 256) (k : Fin 2560) : (actR (F := Ideal) (m ((c.tc : Thread nD τ).loc main_arg0)) (ix2 r k) : EReal) = xs m c r k := by
  unfold xs
  rw [act_eq]
  rfl

theorem inside_join (r : Fin 256) (s : Fin 5) : insideR (F := Ideal) (m ((c.tc : Thread nD τ).loc main_arg8)) (ix2 r s) = 1#1 ↔ Lora.inside (wds m c) r s :=
  insideR_apply _ r s

variable (hOK : WordsOK m)
include hOK

theorem seg_join {α : Type} (x : Cert.ReferenceIdeal.S9.Idx → α) (s : Fin 5) :
    x (ix1 ⟨min (m ((c.tc : Thread nD τ).loc main_arg9) (ix1 s) : BitVec 32).toInt.toNat 8, by omega⟩) = lookup x (m ((c.tc : Thread nD τ).loc main_arg9)) s := by
  unfold lookup
  congr 2
  exact Fin.ext (seg_index _ ((hOK c).2 _))

theorem rank_join (s : Fin 5) (j : Fin 32) :
    rankR (F := Ideal) (m ((c.tc : Thread nD τ).loc main_arg6)) (m ((c.tc : Thread nD τ).loc main_arg9)) (ix2 s j) = 1#1 ↔ (j.val : ℤ) < (wds m c).rk s := by
  rw [rankR_apply, slt_one _ (by omega), seg_join m c hOK (m ((c.tc : Thread nD τ).loc main_arg6)) s]
  exact Iff.rfl

theorem row_join (s : Fin 5) (j : Fin 32) :
    min (rowsR (F := Ideal) (m ((c.tc : Thread nD τ).loc main_arg5)) (m ((c.tc : Thread nD τ).loc main_arg9)) (ix3 s j 0)).toInt.toNat 399 = ((wds m c).st s + j.val) % 400 := by
  rw [rowsR_apply, seg_join m c hOK (m ((c.tc : Thread nD τ).loc main_arg5)) s]
  exact row_index _ ((hOK c).1 _) j

theorem product_join (r : Fin 256) (s : Fin 5) (j : Fin 32) :
    (productR (F := Ideal) (m ((c.tc : Thread nD τ).loc main_arg0)) (m ((c.tc : Thread nD τ).loc main_arg3)) (m ((c.tc : Thread nD τ).loc main_arg5)) (m ((c.tc : Thread nD τ).loc main_arg7)) (m ((c.tc : Thread nD τ).loc main_arg9)) (ix3 r s j) : EReal)
      = (∑ k, xs m c r k * poolA m c ((wds m c).st s + j.val) k) * (wds m c).sc s := by
  rw [productR_apply]
  refine congrArg₂ (· * ·) (Finset.sum_congr rfl fun k _ => congrArg₂ (· * ·) (act_join m c r k) ?_) (seg_join m c hOK _ s)
  unfold poolA
  congr 2
  exact Fin.ext (row_join m c hOK s j)

open Classical in
theorem lora_join (r : Fin 256) (j : Fin 32) : (loraK m c (ix2 r j) : EReal) = Lora.lora (wds m c) (xs m c) (poolA m c) r j := by
  unfold loraK
  rw [loraR_apply]
  unfold Lora.lora
  refine Finset.sum_congr rfl fun s _ => ?_
  have hc := (andi_one _ _).trans (and_congr (inside_join m c r s) (rank_join m c hOK s j))
  by_cases h : Lora.inside (wds m c) r s ∧ (j.val : ℤ) < (wds m c).rk s
  · rw [if_pos h]
    exact (if_pos (hc.mpr h)).trans (product_join m c hOK r s j)
  · rw [if_neg h]
    exact if_neg fun h' => h (hc.mp h')

open Classical in
theorem sum_join (hM : WordsMore m) (r : Fin 256) (N : Fin 10240) :
    (sumK m c (ix2 r N) : EReal) = tot m c (pt (N.val / 1024)) r ⟨N.val % 1024, Nat.mod_lt _ (by decide)⟩ := by
  rw [tot_eq m c (words_ok m c hOK hM)]
  unfold sumK
  rw [sumR_apply]
  refine congrArg₂ (· + ·) (Finset.sum_congr rfl fun k _ => congrArg₂ (· * ·) (act_join m c r k) ?_) ?_
  · rw [weightR_apply, codeR_apply, ← Nibble.unpack_eq]
  · unfold Lora.delta
    refine Finset.sum_congr rfl fun s _ => ?_
    by_cases h : Lora.inside (wds m c) r s
    · rw [if_pos h]
      refine (if_pos ((inside_join m c r s).mpr h)).trans ?_
      refine Finset.sum_congr rfl fun j _ => congrArg₂ (· * ·) (lora_join m c hOK r j) ?_
      unfold poolB
      congr 2
      exact Fin.ext (row_join m c hOK s j)
    · rw [if_neg h]
      exact if_neg fun h' => h ((inside_join m c r s).mp h')

/-! ### The four results -/

theorem y_join (hM : WordsMore m) : truncf .bf16 (sumK m c) Cert.ReferenceIdeal.Gen.bitsLt_bf16_f32 = outY m c := by
  funext y
  obtain ⟨r, N, rfl⟩ := pair y
  exact sum_join m c hOK hM r N

theorem low_join : truncf .bf16 (loraK m c) Cert.ReferenceIdeal.Gen.bitsLt_bf16_f32 = outLow m c := by
  funext y
  obtain ⟨r, j, rfl⟩ := pair y
  exact (lora_join m c hOK r j).trans (low_eq m c r j).symm

omit hOK in
/-- A column of a block, among the 10240. -/
theorem block_col (Y : FVec Ideal Cert.ReferenceIdeal.S256x10240 .f32) (r : Fin 256) (b : Fin 80) (l : Fin 128) :
    (shapeCast Cert.ReferenceIdeal.S256x80x128 Y Cert.ReferenceIdeal.Gen.shapeCasts_S256x10240_S256x80x128) (ix3 r b l) = Y (ix2 r ⟨b.val * 128 + l.val, by omega⟩) := by
  pointwise

omit hOK in
/-- The codes laid out as rows of 10240. -/
theorem flat_codes (Y : FVec Ideal Cert.ReferenceIdeal.S256x80x128 .f32) (r : Fin 256) (N : Fin 10240) :
    (shapeCast Cert.ReferenceIdeal.S256x10240 (Host.convertf .fp8e4m3 Y) Cert.ReferenceIdeal.Gen.shapeCasts_S256x80x128_S256x10240) (ix2 r N) = (Y (ix3 r ⟨N.val / 128, by omega⟩ ⟨N.val % 128, by omega⟩) : EReal) := by
  pointwise

/-- One column of a block of the sum, at the grid point that holds the block. -/
theorem block_join (hM : WordsMore m) (r : Fin 256) (b : Fin 80) (l : Fin 128) :
    (shapeCast Cert.ReferenceIdeal.S256x80x128 (sumK m c) Cert.ReferenceIdeal.Gen.shapeCasts_S256x10240_S256x80x128) (ix3 r b l)
      = tot m c (pt (b.val / 8)) r ⟨(128 * (b.val % 8) + l.val) % 1024, Nat.mod_lt _ (by decide)⟩ := by
  rw [block_col]
  refine (sum_join m c hOK hM r _).trans ?_
  congr 1
  · congr 1
    show (b.val * 128 + l.val) / 1024 = b.val / 8
    omega
  · apply Fin.ext
    show (b.val * 128 + l.val) % 1024 = (128 * (b.val % 8) + l.val) % 1024
    omega

theorem scales_join (hM : WordsMore m) : scaleR (shapeCast _ (sumK m c) Cert.ReferenceIdeal.Gen.shapeCasts_S256x10240_S256x80x128) = outScales m c := by
  funext y
  obtain ⟨r, b, rfl⟩ := pair y
  rw [scaleR_apply]
  refine Eq.trans ?_ (Expo.scale_eq (amax fun l => tot m c (pt (b.val / 8)) r ⟨(128 * (b.val % 8) + l.val) % 1024, Nat.mod_lt _ (by decide)⟩) (amax_nonneg _)).symm
  refine congrArg (fun f => Ideal.pow ((2 : ℝ) : EReal) (Expo.expo (amax f))) ?_
  funext l
  exact block_join m c hOK hM r b l

theorem codes_join (hM : WordsMore m) :
    shapeCast _ (Host.convertf .fp8e4m3 (codesR (shapeCast _ (sumK m c) Cert.ReferenceIdeal.Gen.shapeCasts_S256x10240_S256x80x128))) Cert.ReferenceIdeal.Gen.shapeCasts_S256x80x128_S256x10240 = outCodes m c := by
  funext y
  obtain ⟨r, N, rfl⟩ := pair y
  rw [flat_codes, codesR_apply]
  have e : ∀ l : Fin 128, (shapeCast Cert.ReferenceIdeal.S256x80x128 (sumK m c) Cert.ReferenceIdeal.Gen.shapeCasts_S256x10240_S256x80x128) (ix3 r ⟨N.val / 128, by omega⟩ l)
      = tot m c (pt (N.val / 1024)) r ⟨(128 * (N.val % 1024 / 128) + l.val) % 1024, Nat.mod_lt _ (by decide)⟩ := by
    intro l
    rw [block_join m c hOK hM]
    congr 1
    · congr 1
      show N.val / 128 / 8 = N.val / 1024
      omega
    · apply Fin.ext
      show (128 * (N.val / 128 % 8) + l.val) % 1024 = (128 * (N.val % 1024 / 128) + l.val) % 1024
      omega
  have en : (⟨N.val % 1024 % 128, Nat.mod_lt _ (by decide)⟩ : Fin 128) = ⟨N.val % 128, by omega⟩ := Fin.ext (by show N.val % 1024 % 128 = N.val % 128; omega)
  simp only [e]
  refine Eq.trans ?_ (b := code (fun l => tot m c (pt (N.val / 1024)) r ⟨(128 * (N.val % 1024 / 128) + l.val) % 1024, Nat.mod_lt _ (by decide)⟩) ⟨N.val % 1024 % 128, Nat.mod_lt _ (by decide)⟩) rfl
  rw [en]
  unfold code
  rw [Expo.inv_eq _ (amax_nonneg _)]

end Cert.Join

end
-- ==== Proof.Math.Words.lean ====
/- What the precondition says of the words: an adapter's first slot is between 0 and 368 and its rank at most 32, a segment's adapter is one of the nine, and the segments' offsets do not decrease. -/
module

public import proofs.«01_k».proof.Pre_pools_and_segments_fit
public import Idealize.ShloMosaic.Lib.ValueIdxCore
public import Idealize.ShloMosaic.Lib.WordCmp

@[expose] public section

noncomputable section

namespace Cert.Words

open Idealize.ShloMosaic Idealize.ShloMosaic.ValueIdx Cert.Pre_pools_and_segments_fit

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by
  cases p <;> decide

/-- The conditions at one adapter and one segment, from the word the predicate computes of them. -/
theorem key (a r g o o' : BitVec 32)
    (e : IntOp.andi
      (IntOp.andi (IntOp.andi (IntOp.cmpi .sge a 0#32) (IntOp.cmpi .sle a 368#32)) (IntOp.cmpi .sle r 32#32))
      (IntOp.andi (IntOp.andi (IntOp.cmpi .sge g 0#32) (IntOp.cmpi .slt g 9#32)) (IntOp.cmpi .sle o o')) = 1#1) :
    (a.toNat ≤ 368 ∧ r.toInt ≤ 32) ∧ g.toNat < 9 ∧ o.toInt ≤ o'.toInt := by
  simp only [IntOp.cmpi, andi_ofBool, ofBool_eq_one, Bool.and_eq_true, BitVec.sle_eq_decide, BitVec.slt_eq_decide,
    decide_eq_true_eq] at e
  obtain ⟨⟨⟨e1, e2⟩, e3⟩, ⟨e4, e5⟩, e6⟩ := e
  refine ⟨⟨?_, e3⟩, ?_, e6⟩
  · simp only [BitVec.toInt_eq_toNat_cond, BitVec.toNat_ofNat, Nat.reducePow, Nat.reduceMod] at e1 e2
    omega
  · simp only [BitVec.toInt_eq_toNat_cond, BitVec.toNat_ofNat, Nat.reducePow, Nat.reduceMod] at e4 e5
    omega

variable {F : FTy → Type} [FloatOps F]

/-- The precondition, read word by word. -/
theorem words [Facts] (a0 : FVec F S2x128x2560 .bf16) (a1 : IVec S320x10240 32) (a2 : FVec F S20x10240 .bf16) (a3 : FVec F S400x2560 .bf16) (a4 : FVec F S400x10240 .bf16) (a5 a6 : IVec S9 32) (a7 : FVec F S9 .f32) (a8 : IVec S6 32) (a9 : IVec S5 32)
    (h : fn (F := F) a0 a1 a2 a3 a4 a5 a6 a7 a8 a9 = fun _ => 1#1) (p : Fin 9) (s : Fin 5) :
    ((a5 (ix1 p) : BitVec 32).toNat ≤ 368 ∧ (a6 (ix1 p) : BitVec 32).toInt ≤ 32) ∧ (a9 (ix1 s) : BitVec 32).toNat < 9 ∧
      (a8 (ix1 (s.castSucc)) : BitVec 32).toInt ≤ (a8 (ix1 s.succ) : BitVec 32).toInt := by
  have e := congrFun h (ix2 p s)
  simp only [fn, fn_part1, andi, cmpi, broadcastInDim, constantI, extractStridedSlice] at e
  refine key _ _ _ _ _ ?_
  refine Eq.trans ?_ e
  have e0 : ∀ (a b : S9.Idx), a 0 = b 0 → a = b := fun a b h => by funext d; match d with | ⟨0, _⟩ => exact h
  have e1 : ∀ (a b : S5.Idx), a 0 = b 0 → a = b := fun a b h => by funext d; match d with | ⟨0, _⟩ => exact h
  have e2 : ∀ (a b : S6.Idx), (a 0).val = (b 0).val → a = b := fun a b h => by funext d; match d with | ⟨0, _⟩ => exact Fin.ext h
  congr 2
  · congr 2
    · congr 1; exact e0 _ _ rfl
    · congr 1; exact e0 _ _ rfl
  · congr 1; exact congrArg a6 (e0 _ _ rfl)
  · congr 2
    · exact congrArg a9 (e1 _ _ rfl)
    · exact congrArg a9 (e1 _ _ rfl)
  · congr 1
    · refine congrArg a8 (e2 _ _ ?_)
      simp; rfl
    · refine congrArg a8 (e2 _ _ ?_)
      simp; exact Nat.add_comm _ _

end Cert.Words

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pools_and_segments_fit
public import proofs.«01_k».proof.Proof.Bits.Frame
public import proofs.«01_k».proof.Proof.Ideal.Frame
public import proofs.«01_k».proof.Proof.Ideal.Final
public import proofs.«01_k».proof.Proof.Join
public import proofs.«01_k».proof.Proof.Math.Words
public import Idealize.ShloMosaic.Adequacy
public import Idealize.ShloMosaic.Init

@[expose] public section

noncomputable section

namespace Cert.Proof

open Idealize.ShloMosaic Idealize.SL.Sem Idealize.ShloMosaic.ValueIdx

/-- The precondition gives what the kernel at words asks of its window words. -/
theorem words_bits (m) (h : Pre_Kernel m) : Kernel.Own.WordsOK m := fun c =>
  ⟨fun j => by rw [ValueIdx.eq_ix1 j]; exact (Words.words _ _ _ _ _ _ _ _ _ _ (h c) (j 0) 0).1.1,
   fun j => by rw [ValueIdx.eq_ix1 j]; exact (Words.words _ _ _ _ _ _ _ _ _ _ (h c) 0 (j 0)).2.1⟩

/-- The precondition gives what the ideal kernel asks of its window words. -/
theorem words_ideal (m) (h : Pre_KernelIdeal m) : KernelIdeal.Own.WordsOK m := fun c =>
  ⟨fun j => by rw [ValueIdx.eq_ix1 j]; exact (Words.words _ _ _ _ _ _ _ _ _ _ (h c) (j 0) 0).1.1,
   fun j => by rw [ValueIdx.eq_ix1 j]; exact (Words.words _ _ _ _ _ _ _ _ _ _ (h c) 0 (j 0)).2.1⟩

/-- The precondition gives what the ideal kernel asks of the ranks and the segments' offsets. -/
theorem words_more (m) (h : Pre_KernelIdeal m) : KernelIdeal.Own.WordsMore m := fun c =>
  ⟨fun j => by rw [ValueIdx.eq_ix1 j]; exact (Words.words _ _ _ _ _ _ _ _ _ _ (h c) (j 0) 0).1.2,
   fun s => (Words.words _ _ _ _ _ _ _ _ _ _ (h c) 0 s).2.2⟩

/-- The reference ends with its arguments unchanged and its counters at zero. -/
theorem frame_reference : quiescent_ReferenceIdeal := fun m g _ =>
  (θ_run Cert.ReferenceIdeal.defs _ _).mono (fun _ h => ⟨fun c => (h c).2.2.2.2, sem_eq_zero_of_no_sems (by decide) _⟩) (ReferenceIdeal.Value.run m g)

/-- The kernel over the extended reals and the reference end with the same four results. -/
theorem algebraic : algebraic_KernelIdeal_ReferenceIdeal := by
  intro m g m' g' hP hA
  have hOK := words_ideal m hP
  have hM := words_more m hP
  refine ⟨KernelIdeal.Own.outY m, KernelIdeal.Own.outLow m, KernelIdeal.Own.outCodes m, KernelIdeal.Own.outScales m, KernelIdeal.Own.run m g hOK hM, ?_⟩
  refine (θ_run Cert.ReferenceIdeal.defs _ _).mono (fun r h c => ?_) (ReferenceIdeal.Value.run m' g')
  obtain ⟨a0, a1, a2, a3, a4, a5, a6, a7, a8, a9⟩ := hA c
  have eS : ReferenceIdeal.Own.sumM m' c = Join.sumK m c := by
    unfold ReferenceIdeal.Own.sumM Join.sumK
    rw [a0, a1, a2, a3, a4, a5, a6, a7, a8, a9]
  have eL : ReferenceIdeal.Own.loraM m' c = Join.loraK m c := by
    unfold ReferenceIdeal.Own.loraM Join.loraK
    rw [a0, a3, a5, a6, a7, a8, a9]
  refine ⟨(h c).1.trans ?_, (h c).2.1.trans ?_, (h c).2.2.1.trans ?_, (h c).2.2.2.1.trans ?_, (h c).2.2.2.2⟩
  · rw [ReferenceIdeal.Own.out0, eS]
    exact Join.y_join m c hOK hM
  · refine Eq.trans (b := truncf .bf16 (ReferenceIdeal.Own.loraM m' c) Cert.ReferenceIdeal.Gen.bitsLt_bf16_f32) rfl ?_
    rw [eL]
    exact Join.low_join m c hOK
  · rw [ReferenceIdeal.Own.out2, eS]
    exact Join.codes_join m c hOK hM
  · rw [ReferenceIdeal.Own.out3, eS]
    exact Join.scales_join m c hOK hM

theorem claim : Cert.Claim :=
  ⟨Cert.Kernel.Gen.facts, Cert.KernelIdeal.Gen.facts, Cert.ReferenceIdeal.Gen.facts, Cert.Pre_pools_and_segments_fit.Gen.facts,
    fun m g h => Kernel.Own.frame m g (words_bits m h),
    fun m g h => KernelIdeal.Own.frame m g (words_ideal m h),
    frame_reference,
    fun m g _ => frame_reference m g trivial,
    trivial, algebraic⟩

end Cert.Proof

end
